-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "root10" .f32 0x404A62C2#32 ((Real.sqrt 10 : ℝ) : EReal)
  ∧ IdealRules.named_const.Statement Cert.KernelIdeal.κ "root2" .f32 0x3FB504F3#32 ((Real.sqrt 2 : ℝ) : EReal)
  ∧ IdealRules.named_const.Statement Cert.KernelIdeal.κ "twentieth" .f32 0x3D4CCCCD#32 ((1 / 20 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x50x1 : Shape := ⟨3, ![1024, 50, 1]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S50 : Shape := ⟨1, ![50]⟩
abbrev S50x1 : Shape := ⟨2, ![50, 1]⟩
abbrev S50x2 : Shape := ⟨2, ![50, 2]⟩
abbrev S51x2 : Shape := ⟨2, ![51, 2]⟩
abbrev S1x50 : Shape := ⟨2, ![1, 50]⟩
abbrev S1024x50 : Shape := ⟨2, ![1024, 50]⟩
abbrev S50x1x1024 : Shape := ⟨3, ![50, 1, 1024]⟩
abbrev S512x50 : Shape := ⟨2, ![512, 50]⟩
abbrev S1x1x512 : Shape := ⟨3, ![1, 1, 512]⟩
abbrev S512x1024 : Shape := ⟨2, ![512, 1024]⟩
abbrev S1x1 : Shape := ⟨2, ![1, 1]⟩
abbrev S512 : Shape := ⟨1, ![512]⟩
abbrev S512x1 : Shape := ⟨2, ![512, 1]⟩
abbrev S50x1024 : Shape := ⟨2, ![50, 1024]⟩

abbrev nBuf : Space → Nat
  | .hbm => 510
  | .vmem => 8
  | .smem => 2
  | _ => 0

abbrev hbmTy0_0 (i : Nat) : BufTy := match i % 128 with
  | 0 => ⟨S1024x50x1, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S1024x50x1, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S1, .i32⟩
  | 126 => ⟨S_, .i32⟩
  | 127 => ⟨S1, .i32⟩
  | _ => ⟨S1024x50x1, .f32⟩

abbrev hbmTy0_2 (i : Nat) : BufTy := match i % 128 with
  | 0 => ⟨S_, .i32⟩
  | 1 => ⟨S50, .i64⟩
  | 2 => ⟨S_, .i64⟩
  | 3 => ⟨S50, .i64⟩
  | 4 => ⟨S50, .i64⟩
  | 5 => ⟨S_, .i64⟩
  | 6 => ⟨S50, .i64⟩
  | 7 => ⟨S50, .i64⟩
  | 8 => ⟨S50, .i32⟩
  | 9 => ⟨S50, .i32⟩
  | 10 => ⟨S_, .i32⟩
  | 11 => ⟨S_, .i32⟩
  | 12 => ⟨S_, .i32⟩
  | 13 => ⟨S50, .i32⟩
  | 14 => ⟨S50, .i32⟩
  | 15 => ⟨S50, .i32⟩
  | 16 => ⟨S50, .i32⟩
  | 17 => ⟨S50, .i32⟩
  | 18 => ⟨S_, .i32⟩
  | 19 => ⟨S50, .i32⟩
  | 20 => ⟨S50, .i32⟩
  | 21 => ⟨S_, .i32⟩
  | 22 => ⟨S50, .i32⟩
  | 23 => ⟨S50, .i32⟩
  | 24 => ⟨S50, .i32⟩
  | 25 => ⟨S50, .i32⟩
  | 26 => ⟨S50, .i32⟩
  | 27 => ⟨S_, .i32⟩
  | 28 => ⟨S50, .i32⟩
  | 29 => ⟨S50, .i32⟩
  | 30 => ⟨S_, .i32⟩
  | 31 => ⟨S50, .i32⟩
  | 32 => ⟨S50, .i32⟩
  | 33 => ⟨S50, .i32⟩
  | 34 => ⟨S50, .i32⟩
  | 35 => ⟨S50, .i32⟩
  | 36 => ⟨S_, .i32⟩
  | 37 => ⟨S50, .i32⟩
  | 38 => ⟨S50, .i32⟩
  | 39 => ⟨S_, .i32⟩
  | 40 => ⟨S50, .i32⟩
  | 41 => ⟨S50, .i32⟩
  | 42 => ⟨S50, .i32⟩
  | 43 => ⟨S50, .i32⟩
  | 44 => ⟨S50, .i32⟩
  | 45 => ⟨S_, .i32⟩
  | 46 => ⟨S50, .i32⟩
  | 47 => ⟨S50, .i32⟩
  | 48 => ⟨S_, .i32⟩
  | 49 => ⟨S50, .i32⟩
  | 50 => ⟨S50, .i32⟩
  | 51 => ⟨S50, .i32⟩
  | 52 => ⟨S50, .i32⟩
  | 53 => ⟨S50, .i32⟩
  | 54 => ⟨S50, .i32⟩
  | 55 => ⟨S50, .i32⟩
  | 56 => ⟨S50, .i32⟩
  | 57 => ⟨S_, .i32⟩
  | 58 => ⟨S50, .i32⟩
  | 59 => ⟨S50, .i32⟩
  | 60 => ⟨S50, .i32⟩
  | 61 => ⟨S_, .i32⟩
  | 62 => ⟨S50, .i32⟩
  | 63 => ⟨S50, .i32⟩
  | 64 => ⟨S_, .i32⟩
  | 65 => ⟨S50, .i32⟩
  | 66 => ⟨S50, .i32⟩
  | 67 => ⟨S50, .i32⟩
  | 68 => ⟨S50, .i32⟩
  | 69 => ⟨S50, .i32⟩
  | 70 => ⟨S_, .i32⟩
  | 71 => ⟨S50, .i32⟩
  | 72 => ⟨S50, .i32⟩
  | 73 => ⟨S_, .i32⟩
  | 74 => ⟨S50, .i32⟩
  | 75 => ⟨S50, .i32⟩
  | 76 => ⟨S50, .i32⟩
  | 77 => ⟨S50, .i32⟩
  | 78 => ⟨S50, .i32⟩
  | 79 => ⟨S_, .i32⟩
  | 80 => ⟨S50, .i32⟩
  | 81 => ⟨S50, .i32⟩
  | 82 => ⟨S_, .i32⟩
  | 83 => ⟨S50, .i32⟩
  | 84 => ⟨S50, .i32⟩
  | 85 => ⟨S50, .i32⟩
  | 86 => ⟨S50, .i32⟩
  | 87 => ⟨S50, .i32⟩
  | 88 => ⟨S_, .i32⟩
  | 89 => ⟨S50, .i32⟩
  | 90 => ⟨S50, .i32⟩
  | 91 => ⟨S_, .i32⟩
  | 92 => ⟨S50, .i32⟩
  | 93 => ⟨S50, .i32⟩
  | 94 => ⟨S50, .i32⟩
  | 95 => ⟨S50, .i32⟩
  | 96 => ⟨S50, .i32⟩
  | 97 => ⟨S50, .i32⟩
  | 98 => ⟨S50, .i32⟩
  | 99 => ⟨S50, .i32⟩
  | 100 => ⟨S_, .i32⟩
  | 101 => ⟨S50, .i32⟩
  | 102 => ⟨S50, .i32⟩
  | 103 => ⟨S50, .i32⟩
  | 104 => ⟨S_, .i32⟩
  | 105 => ⟨S50, .i32⟩
  | 106 => ⟨S50, .i32⟩
  | 107 => ⟨S_, .i32⟩
  | 108 => ⟨S50, .i32⟩
  | 109 => ⟨S50, .i32⟩
  | 110 => ⟨S50, .i32⟩
  | 111 => ⟨S50, .i32⟩
  | 112 => ⟨S50, .i32⟩
  | 113 => ⟨S_, .i32⟩
  | 114 => ⟨S50, .i32⟩
  | 115 => ⟨S50, .i32⟩
  | 116 => ⟨S_, .i32⟩
  | 117 => ⟨S50, .i32⟩
  | 118 => ⟨S50, .i32⟩
  | 119 => ⟨S50, .i32⟩
  | 120 => ⟨S50, .i32⟩
  | 121 => ⟨S50, .i32⟩
  | 122 => ⟨S_, .i32⟩
  | 123 => ⟨S50, .i32⟩
  | 124 => ⟨S50, .i32⟩
  | 125 => ⟨S_, .i32⟩
  | 126 => ⟨S50, .i32⟩
  | 127 => ⟨S50, .i32⟩
  | _ => ⟨S1024x50x1, .f32⟩

abbrev hbmTy0_3 (i : Nat) : BufTy := match i % 128 with
  | 0 => ⟨S50, .i32⟩
  | 1 => ⟨S50, .i32⟩
  | 2 => ⟨S50, .i32⟩
  | 3 => ⟨S_, .i32⟩
  | 4 => ⟨S50, .i32⟩
  | 5 => ⟨S50, .i32⟩
  | 6 => ⟨S_, .i32⟩
  | 7 => ⟨S50, .i32⟩
  | 8 => ⟨S50, .i32⟩
  | 9 => ⟨S50, .i32⟩
  | 10 => ⟨S50, .i32⟩
  | 11 => ⟨S50, .i32⟩
  | 12 => ⟨S50, .i32⟩
  | 13 => ⟨S50, .i32⟩
  | 14 => ⟨S50, .i32⟩
  | 15 => ⟨S_, .i32⟩
  | 16 => ⟨S50, .i32⟩
  | 17 => ⟨S50, .i32⟩
  | 18 => ⟨S50, .i32⟩
  | 19 => ⟨S_, .i32⟩
  | 20 => ⟨S50, .i32⟩
  | 21 => ⟨S50, .i32⟩
  | 22 => ⟨S_, .i32⟩
  | 23 => ⟨S50, .i32⟩
  | 24 => ⟨S50, .i32⟩
  | 25 => ⟨S50, .i32⟩
  | 26 => ⟨S50, .i32⟩
  | 27 => ⟨S50, .i32⟩
  | 28 => ⟨S_, .i32⟩
  | 29 => ⟨S50, .i32⟩
  | 30 => ⟨S50, .i32⟩
  | 31 => ⟨S_, .i32⟩
  | 32 => ⟨S50, .i32⟩
  | 33 => ⟨S50, .i32⟩
  | 34 => ⟨S50, .i32⟩
  | 35 => ⟨S50, .i32⟩
  | 36 => ⟨S50, .i32⟩
  | 37 => ⟨S_, .i32⟩
  | 38 => ⟨S50, .i32⟩
  | 39 => ⟨S50, .i32⟩
  | 40 => ⟨S_, .i32⟩
  | 41 => ⟨S50, .i32⟩
  | 42 => ⟨S50, .i32⟩
  | 43 => ⟨S50, .i32⟩
  | 44 => ⟨S50, .i32⟩
  | 45 => ⟨S50, .i32⟩
  | 46 => ⟨S_, .i32⟩
  | 47 => ⟨S50, .i32⟩
  | 48 => ⟨S50, .i32⟩
  | 49 => ⟨S_, .i32⟩
  | 50 => ⟨S50, .i32⟩
  | 51 => ⟨S50, .i32⟩
  | 52 => ⟨S50, .i32⟩
  | 53 => ⟨S50, .i32⟩
  | 54 => ⟨S50, .i32⟩
  | 55 => ⟨S50, .i32⟩
  | 56 => ⟨S50, .i32⟩
  | 57 => ⟨S50, .i32⟩
  | 58 => ⟨S_, .i32⟩
  | 59 => ⟨S50, .i32⟩
  | 60 => ⟨S50, .i32⟩
  | 61 => ⟨S50, .i32⟩
  | 62 => ⟨S_, .i32⟩
  | 63 => ⟨S50, .i32⟩
  | 64 => ⟨S50, .i32⟩
  | 65 => ⟨S_, .i32⟩
  | 66 => ⟨S50, .i32⟩
  | 67 => ⟨S50, .i32⟩
  | 68 => ⟨S50, .i32⟩
  | 69 => ⟨S50, .i32⟩
  | 70 => ⟨S50, .i32⟩
  | 71 => ⟨S_, .i32⟩
  | 72 => ⟨S50, .i32⟩
  | 73 => ⟨S50, .i32⟩
  | 74 => ⟨S_, .i32⟩
  | 75 => ⟨S50, .i32⟩
  | 76 => ⟨S50, .i32⟩
  | 77 => ⟨S50, .i32⟩
  | 78 => ⟨S50, .i32⟩
  | 79 => ⟨S50, .i32⟩
  | 80 => ⟨S_, .i32⟩
  | 81 => ⟨S50, .i32⟩
  | 82 => ⟨S50, .i32⟩
  | 83 => ⟨S_, .i32⟩
  | 84 => ⟨S50, .i32⟩
  | 85 => ⟨S50, .i32⟩
  | 86 => ⟨S50, .i32⟩
  | 87 => ⟨S50, .i32⟩
  | 88 => ⟨S50, .i32⟩
  | 89 => ⟨S_, .i32⟩
  | 90 => ⟨S50, .i32⟩
  | 91 => ⟨S50, .i32⟩
  | 92 => ⟨S_, .i32⟩
  | 93 => ⟨S50, .i32⟩
  | 94 => ⟨S50, .i32⟩
  | 95 => ⟨S50, .i32⟩
  | 96 => ⟨S50, .i32⟩
  | 97 => ⟨S50, .i32⟩
  | 98 => ⟨S50, .i32⟩
  | 99 => ⟨S50, .i32⟩
  | 100 => ⟨S50, .i32⟩
  | 101 => ⟨S_, .i32⟩
  | 102 => ⟨S50, .i32⟩
  | 103 => ⟨S50, .i32⟩
  | 104 => ⟨S50x1, .i32⟩
  | 105 => ⟨S50x1, .i32⟩
  | 106 => ⟨S50x2, .i32⟩
  | 107 => ⟨S1x2, .i32⟩
  | 108 => ⟨S51x2, .i32⟩
  | 109 => ⟨S50, .f32⟩
  | 110 => ⟨S_, .f32⟩
  | 111 => ⟨S50, .f32⟩
  | 112 => ⟨S50, .f32⟩
  | 113 => ⟨S50, .f32⟩
  | 114 => ⟨S_, .f32⟩
  | 115 => ⟨S50, .f32⟩
  | 116 => ⟨S50, .f32⟩
  | 117 => ⟨S1x50, .f32⟩
  | 118 => ⟨S1024x50, .f32⟩
  | 119 => ⟨S50x1x1024, .f32⟩
  | 120 => ⟨S50x1x1024, .f32⟩
  | 121 => ⟨S50x1024, .f32⟩
  | 122 => ⟨S1024x50, .f32⟩
  | 123 => ⟨S1024x50x1, .f32⟩
  | 124 => ⟨S50x1024, .f32⟩
  | 125 => ⟨S1024x50, .f32⟩
  | _ => ⟨S1024x50x1, .f32⟩

abbrev hbmTy (i : Nat) : BufTy := match i / 128 with
  | 0 => hbmTy0_0 i
  | 1 => hbmTy0_1 i
  | 2 => hbmTy0_2 i
  | 3 => hbmTy0_3 i
  | _ => ⟨S1024x50x1, .f32⟩

abbrev bufTy : (tb : Table) → Fin (tcTables nBuf tb) → BufTy
  | .hbm, ⟨i, _⟩ => hbmTy i
  | .local _ .vmem, ⟨0, _⟩ => ⟨S512x50, .f32⟩
  | .local _ .vmem, ⟨1, _⟩ => ⟨S512x50, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S512x1024, .f32⟩
  | .local _ .vmem, ⟨7, _⟩ => ⟨S512x1024, .f32⟩
  | .local _ .smem, ⟨0, _⟩ => ⟨S51x2, .i32⟩
  | .local _ .smem, ⟨1, _⟩ => ⟨S1x50, .f32⟩
  | _, _ => ⟨S1024x50x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_call1_v0 : Ref sig .tc := ⟨.hbm, 253, rfl⟩
abbrev main_call1_v1 : Ref sig .tc := ⟨.hbm, 254, rfl⟩
abbrev main_call1_v2 : Ref sig .tc := ⟨.hbm, 255, rfl⟩
abbrev main_call1_v3 : Ref sig .tc := ⟨.hbm, 256, rfl⟩
abbrev main_call1_v4 : Ref sig .tc := ⟨.hbm, 257, rfl⟩
abbrev main_call1_c : Ref sig .tc := ⟨.hbm, 258, rfl⟩
abbrev main_call1_v5 : Ref sig .tc := ⟨.hbm, 259, rfl⟩
abbrev main_call1_v6 : Ref sig .tc := ⟨.hbm, 260, rfl⟩
abbrev main_call1_c_0 : Ref sig .tc := ⟨.hbm, 261, rfl⟩
abbrev main_call1_v7 : Ref sig .tc := ⟨.hbm, 262, rfl⟩
abbrev main_call1_v8 : Ref sig .tc := ⟨.hbm, 263, rfl⟩
abbrev main_call1_v9 : Ref sig .tc := ⟨.hbm, 264, rfl⟩
abbrev main_call1_v10 : Ref sig .tc := ⟨.hbm, 265, rfl⟩
abbrev main_call1_call0_v0 : Ref sig .tc := ⟨.hbm, 266, rfl⟩
abbrev main_call1_call0_c : Ref sig .tc := ⟨.hbm, 267, rfl⟩
abbrev main_call1_call0_v1 : Ref sig .tc := ⟨.hbm, 268, rfl⟩
abbrev main_call1_call0_v2 : Ref sig .tc := ⟨.hbm, 269, rfl⟩
abbrev main_call1_call0_v3 : Ref sig .tc := ⟨.hbm, 270, rfl⟩
abbrev main_call1_call0_v4 : Ref sig .tc := ⟨.hbm, 271, rfl⟩
abbrev main_call1_call0_v5 : Ref sig .tc := ⟨.hbm, 272, rfl⟩
abbrev main_call1_call0_v6 : Ref sig .tc := ⟨.hbm, 273, rfl⟩
abbrev main_call1_call0_c_0 : Ref sig .tc := ⟨.hbm, 274, rfl⟩
abbrev main_call1_call0_v7 : Ref sig .tc := ⟨.hbm, 275, rfl⟩
abbrev main_call1_call0_v8 : Ref sig .tc := ⟨.hbm, 276, rfl⟩
abbrev main_call1_call0_c_1 : Ref sig .tc := ⟨.hbm, 277, rfl⟩
abbrev main_call1_call0_v9 : Ref sig .tc := ⟨.hbm, 278, rfl⟩
abbrev main_call1_call0_v10 : Ref sig .tc := ⟨.hbm, 279, rfl⟩
abbrev main_call1_call0_v11 : Ref sig .tc := ⟨.hbm, 280, rfl⟩
abbrev main_call1_call0_v12 : Ref sig .tc := ⟨.hbm, 281, rfl⟩
abbrev main_call1_call0_v13 : Ref sig .tc := ⟨.hbm, 282, rfl⟩
abbrev main_call1_call0_c_2 : Ref sig .tc := ⟨.hbm, 283, rfl⟩
abbrev main_call1_call0_v14 : Ref sig .tc := ⟨.hbm, 284, rfl⟩
abbrev main_call1_call0_v15 : Ref sig .tc := ⟨.hbm, 285, rfl⟩
abbrev main_call1_call0_c_3 : Ref sig .tc := ⟨.hbm, 286, rfl⟩
abbrev main_call1_call0_v16 : Ref sig .tc := ⟨.hbm, 287, rfl⟩
abbrev main_call1_call0_v17 : Ref sig .tc := ⟨.hbm, 288, rfl⟩
abbrev main_call1_call0_v18 : Ref sig .tc := ⟨.hbm, 289, rfl⟩
abbrev main_call1_call0_v19 : Ref sig .tc := ⟨.hbm, 290, rfl⟩
abbrev main_call1_call0_v20 : Ref sig .tc := ⟨.hbm, 291, rfl⟩
abbrev main_call1_call0_c_4 : Ref sig .tc := ⟨.hbm, 292, rfl⟩
abbrev main_call1_call0_v21 : Ref sig .tc := ⟨.hbm, 293, rfl⟩
abbrev main_call1_call0_v22 : Ref sig .tc := ⟨.hbm, 294, rfl⟩
abbrev main_call1_call0_c_5 : Ref sig .tc := ⟨.hbm, 295, rfl⟩
abbrev main_call1_call0_v23 : Ref sig .tc := ⟨.hbm, 296, rfl⟩
abbrev main_call1_call0_v24 : Ref sig .tc := ⟨.hbm, 297, rfl⟩
abbrev main_call1_call0_v25 : Ref sig .tc := ⟨.hbm, 298, rfl⟩
abbrev main_call1_call0_v26 : Ref sig .tc := ⟨.hbm, 299, rfl⟩
abbrev main_call1_call0_v27 : Ref sig .tc := ⟨.hbm, 300, rfl⟩
abbrev main_call1_call0_c_6 : Ref sig .tc := ⟨.hbm, 301, rfl⟩
abbrev main_call1_call0_v28 : Ref sig .tc := ⟨.hbm, 302, rfl⟩
abbrev main_call1_call0_v29 : Ref sig .tc := ⟨.hbm, 303, rfl⟩
abbrev main_call1_call0_c_7 : Ref sig .tc := ⟨.hbm, 304, rfl⟩
abbrev main_call1_call0_v30 : Ref sig .tc := ⟨.hbm, 305, rfl⟩
abbrev main_call1_call0_v31 : Ref sig .tc := ⟨.hbm, 306, rfl⟩
abbrev main_call1_call0_v32 : Ref sig .tc := ⟨.hbm, 307, rfl⟩
abbrev main_call1_call0_v33 : Ref sig .tc := ⟨.hbm, 308, rfl⟩
abbrev main_call1_call0_v34 : Ref sig .tc := ⟨.hbm, 309, rfl⟩
abbrev main_call1_call0_v35 : Ref sig .tc := ⟨.hbm, 310, rfl⟩
abbrev main_call1_call0_v36 : Ref sig .tc := ⟨.hbm, 311, rfl⟩
abbrev main_call1_call0_v37 : Ref sig .tc := ⟨.hbm, 312, rfl⟩
abbrev main_call1_call0_c_8 : Ref sig .tc := ⟨.hbm, 313, rfl⟩
abbrev main_call1_call0_v38 : Ref sig .tc := ⟨.hbm, 314, rfl⟩
abbrev main_call1_call0_v39 : Ref sig .tc := ⟨.hbm, 315, rfl⟩
abbrev main_call1_call0_v40 : Ref sig .tc := ⟨.hbm, 316, rfl⟩
abbrev main_call1_call0_c_9 : Ref sig .tc := ⟨.hbm, 317, rfl⟩
abbrev main_call1_call0_v41 : Ref sig .tc := ⟨.hbm, 318, rfl⟩
abbrev main_call1_call0_v42 : Ref sig .tc := ⟨.hbm, 319, rfl⟩
abbrev main_call1_call0_c_10 : Ref sig .tc := ⟨.hbm, 320, rfl⟩
abbrev main_call1_call0_v43 : Ref sig .tc := ⟨.hbm, 321, rfl⟩
abbrev main_call1_call0_v44 : Ref sig .tc := ⟨.hbm, 322, rfl⟩
abbrev main_call1_call0_v45 : Ref sig .tc := ⟨.hbm, 323, rfl⟩
abbrev main_call1_call0_v46 : Ref sig .tc := ⟨.hbm, 324, rfl⟩
abbrev main_call1_call0_v47 : Ref sig .tc := ⟨.hbm, 325, rfl⟩
abbrev main_call1_call0_c_11 : Ref sig .tc := ⟨.hbm, 326, rfl⟩
abbrev main_call1_call0_v48 : Ref sig .tc := ⟨.hbm, 327, rfl⟩
abbrev main_call1_call0_v49 : Ref sig .tc := ⟨.hbm, 328, rfl⟩
abbrev main_call1_call0_c_12 : Ref sig .tc := ⟨.hbm, 329, rfl⟩
abbrev main_call1_call0_v50 : Ref sig .tc := ⟨.hbm, 330, rfl⟩
abbrev main_call1_call0_v51 : Ref sig .tc := ⟨.hbm, 331, rfl⟩
abbrev main_call1_call0_v52 : Ref sig .tc := ⟨.hbm, 332, rfl⟩
abbrev main_call1_call0_v53 : Ref sig .tc := ⟨.hbm, 333, rfl⟩
abbrev main_call1_call0_v54 : Ref sig .tc := ⟨.hbm, 334, rfl⟩
abbrev main_call1_call0_c_13 : Ref sig .tc := ⟨.hbm, 335, rfl⟩
abbrev main_call1_call0_v55 : Ref sig .tc := ⟨.hbm, 336, rfl⟩
abbrev main_call1_call0_v56 : Ref sig .tc := ⟨.hbm, 337, rfl⟩
abbrev main_call1_call0_c_14 : Ref sig .tc := ⟨.hbm, 338, rfl⟩
abbrev main_call1_call0_v57 : Ref sig .tc := ⟨.hbm, 339, rfl⟩
abbrev main_call1_call0_v58 : Ref sig .tc := ⟨.hbm, 340, rfl⟩
abbrev main_call1_call0_v59 : Ref sig .tc := ⟨.hbm, 341, rfl⟩
abbrev main_call1_call0_v60 : Ref sig .tc := ⟨.hbm, 342, rfl⟩
abbrev main_call1_call0_v61 : Ref sig .tc := ⟨.hbm, 343, rfl⟩
abbrev main_call1_call0_c_15 : Ref sig .tc := ⟨.hbm, 344, rfl⟩
abbrev main_call1_call0_v62 : Ref sig .tc := ⟨.hbm, 345, rfl⟩
abbrev main_call1_call0_v63 : Ref sig .tc := ⟨.hbm, 346, rfl⟩
abbrev main_call1_call0_c_16 : Ref sig .tc := ⟨.hbm, 347, rfl⟩
abbrev main_call1_call0_v64 : Ref sig .tc := ⟨.hbm, 348, rfl⟩
abbrev main_call1_call0_v65 : Ref sig .tc := ⟨.hbm, 349, rfl⟩
abbrev main_call1_call0_v66 : Ref sig .tc := ⟨.hbm, 350, rfl⟩
abbrev main_call1_call0_v67 : Ref sig .tc := ⟨.hbm, 351, rfl⟩
abbrev main_call1_call0_v68 : Ref sig .tc := ⟨.hbm, 352, rfl⟩
abbrev main_call1_call0_v69 : Ref sig .tc := ⟨.hbm, 353, rfl⟩
abbrev main_call1_call0_v70 : Ref sig .tc := ⟨.hbm, 354, rfl⟩
abbrev main_call1_call0_v71 : Ref sig .tc := ⟨.hbm, 355, rfl⟩
abbrev main_call1_call0_c_17 : Ref sig .tc := ⟨.hbm, 356, rfl⟩
abbrev main_call1_call0_v72 : Ref sig .tc := ⟨.hbm, 357, rfl⟩
abbrev main_call1_call0_v73 : Ref sig .tc := ⟨.hbm, 358, rfl⟩
abbrev main_call1_call0_v74 : Ref sig .tc := ⟨.hbm, 359, rfl⟩
abbrev main_call1_call0_c_18 : Ref sig .tc := ⟨.hbm, 360, rfl⟩
abbrev main_call1_call0_v75 : Ref sig .tc := ⟨.hbm, 361, rfl⟩
abbrev main_call1_call0_v76 : Ref sig .tc := ⟨.hbm, 362, rfl⟩
abbrev main_call1_call0_c_19 : Ref sig .tc := ⟨.hbm, 363, rfl⟩
abbrev main_call1_call0_v77 : Ref sig .tc := ⟨.hbm, 364, rfl⟩
abbrev main_call1_call0_v78 : Ref sig .tc := ⟨.hbm, 365, rfl⟩
abbrev main_call1_call0_v79 : Ref sig .tc := ⟨.hbm, 366, rfl⟩
abbrev main_call1_call0_v80 : Ref sig .tc := ⟨.hbm, 367, rfl⟩
abbrev main_call1_call0_v81 : Ref sig .tc := ⟨.hbm, 368, rfl⟩
abbrev main_call1_call0_c_20 : Ref sig .tc := ⟨.hbm, 369, rfl⟩
abbrev main_call1_call0_v82 : Ref sig .tc := ⟨.hbm, 370, rfl⟩
abbrev main_call1_call0_v83 : Ref sig .tc := ⟨.hbm, 371, rfl⟩
abbrev main_call1_call0_c_21 : Ref sig .tc := ⟨.hbm, 372, rfl⟩
abbrev main_call1_call0_v84 : Ref sig .tc := ⟨.hbm, 373, rfl⟩
abbrev main_call1_call0_v85 : Ref sig .tc := ⟨.hbm, 374, rfl⟩
abbrev main_call1_call0_v86 : Ref sig .tc := ⟨.hbm, 375, rfl⟩
abbrev main_call1_call0_v87 : Ref sig .tc := ⟨.hbm, 376, rfl⟩
abbrev main_call1_call0_v88 : Ref sig .tc := ⟨.hbm, 377, rfl⟩
abbrev main_call1_call0_c_22 : Ref sig .tc := ⟨.hbm, 378, rfl⟩
abbrev main_call1_call0_v89 : Ref sig .tc := ⟨.hbm, 379, rfl⟩
abbrev main_call1_call0_v90 : Ref sig .tc := ⟨.hbm, 380, rfl⟩
abbrev main_call1_call0_c_23 : Ref sig .tc := ⟨.hbm, 381, rfl⟩
abbrev main_call1_call0_v91 : Ref sig .tc := ⟨.hbm, 382, rfl⟩
abbrev main_call1_call0_v92 : Ref sig .tc := ⟨.hbm, 383, rfl⟩
abbrev main_call1_call0_v93 : Ref sig .tc := ⟨.hbm, 384, rfl⟩
abbrev main_call1_call0_v94 : Ref sig .tc := ⟨.hbm, 385, rfl⟩
abbrev main_call1_call0_v95 : Ref sig .tc := ⟨.hbm, 386, rfl⟩
abbrev main_call1_call0_c_24 : Ref sig .tc := ⟨.hbm, 387, rfl⟩
abbrev main_call1_call0_v96 : Ref sig .tc := ⟨.hbm, 388, rfl⟩
abbrev main_call1_call0_v97 : Ref sig .tc := ⟨.hbm, 389, rfl⟩
abbrev main_call1_call0_c_25 : Ref sig .tc := ⟨.hbm, 390, rfl⟩
abbrev main_call1_call0_v98 : Ref sig .tc := ⟨.hbm, 391, rfl⟩
abbrev main_call1_call0_v99 : Ref sig .tc := ⟨.hbm, 392, rfl⟩
abbrev main_call1_call0_v100 : Ref sig .tc := ⟨.hbm, 393, rfl⟩
abbrev main_call1_call0_v101 : Ref sig .tc := ⟨.hbm, 394, rfl⟩
abbrev main_call1_call0_v102 : Ref sig .tc := ⟨.hbm, 395, rfl⟩
abbrev main_call1_call0_v103 : Ref sig .tc := ⟨.hbm, 396, rfl⟩
abbrev main_call1_call0_v104 : Ref sig .tc := ⟨.hbm, 397, rfl⟩
abbrev main_call1_call0_v105 : Ref sig .tc := ⟨.hbm, 398, rfl⟩
abbrev main_call1_call0_c_26 : Ref sig .tc := ⟨.hbm, 399, rfl⟩
abbrev main_call1_call0_v106 : Ref sig .tc := ⟨.hbm, 400, rfl⟩
abbrev main_call1_call0_v107 : Ref sig .tc := ⟨.hbm, 401, rfl⟩
abbrev main_call1_call0_v108 : Ref sig .tc := ⟨.hbm, 402, rfl⟩
abbrev main_call1_call0_c_27 : Ref sig .tc := ⟨.hbm, 403, rfl⟩
abbrev main_call1_call0_v109 : Ref sig .tc := ⟨.hbm, 404, rfl⟩
abbrev main_call1_call0_v110 : Ref sig .tc := ⟨.hbm, 405, rfl⟩
abbrev main_call1_call0_c_28 : Ref sig .tc := ⟨.hbm, 406, rfl⟩
abbrev main_call1_call0_v111 : Ref sig .tc := ⟨.hbm, 407, rfl⟩
abbrev main_call1_call0_v112 : Ref sig .tc := ⟨.hbm, 408, rfl⟩
abbrev main_call1_call0_v113 : Ref sig .tc := ⟨.hbm, 409, rfl⟩
abbrev main_call1_call0_v114 : Ref sig .tc := ⟨.hbm, 410, rfl⟩
abbrev main_call1_call0_v115 : Ref sig .tc := ⟨.hbm, 411, rfl⟩
abbrev main_call1_call0_c_29 : Ref sig .tc := ⟨.hbm, 412, rfl⟩
abbrev main_call1_call0_v116 : Ref sig .tc := ⟨.hbm, 413, rfl⟩
abbrev main_call1_call0_v117 : Ref sig .tc := ⟨.hbm, 414, rfl⟩
abbrev main_call1_call0_c_30 : Ref sig .tc := ⟨.hbm, 415, rfl⟩
abbrev main_call1_call0_v118 : Ref sig .tc := ⟨.hbm, 416, rfl⟩
abbrev main_call1_call0_v119 : Ref sig .tc := ⟨.hbm, 417, rfl⟩
abbrev main_call1_call0_v120 : Ref sig .tc := ⟨.hbm, 418, rfl⟩
abbrev main_call1_call0_v121 : Ref sig .tc := ⟨.hbm, 419, rfl⟩
abbrev main_call1_call0_v122 : Ref sig .tc := ⟨.hbm, 420, rfl⟩
abbrev main_call1_call0_c_31 : Ref sig .tc := ⟨.hbm, 421, rfl⟩
abbrev main_call1_call0_v123 : Ref sig .tc := ⟨.hbm, 422, rfl⟩
abbrev main_call1_call0_v124 : Ref sig .tc := ⟨.hbm, 423, rfl⟩
abbrev main_call1_call0_c_32 : Ref sig .tc := ⟨.hbm, 424, rfl⟩
abbrev main_call1_call0_v125 : Ref sig .tc := ⟨.hbm, 425, rfl⟩
abbrev main_call1_call0_v126 : Ref sig .tc := ⟨.hbm, 426, rfl⟩
abbrev main_call1_call0_v127 : Ref sig .tc := ⟨.hbm, 427, rfl⟩
abbrev main_call1_call0_v128 : Ref sig .tc := ⟨.hbm, 428, rfl⟩
abbrev main_call1_call0_v129 : Ref sig .tc := ⟨.hbm, 429, rfl⟩
abbrev main_call1_call0_c_33 : Ref sig .tc := ⟨.hbm, 430, rfl⟩
abbrev main_call1_call0_v130 : Ref sig .tc := ⟨.hbm, 431, rfl⟩
abbrev main_call1_call0_v131 : Ref sig .tc := ⟨.hbm, 432, rfl⟩
abbrev main_call1_call0_c_34 : Ref sig .tc := ⟨.hbm, 433, rfl⟩
abbrev main_call1_call0_v132 : Ref sig .tc := ⟨.hbm, 434, rfl⟩
abbrev main_call1_call0_v133 : Ref sig .tc := ⟨.hbm, 435, rfl⟩
abbrev main_call1_call0_v134 : Ref sig .tc := ⟨.hbm, 436, rfl⟩
abbrev main_call1_call0_v135 : Ref sig .tc := ⟨.hbm, 437, rfl⟩
abbrev main_call1_call0_v136 : Ref sig .tc := ⟨.hbm, 438, rfl⟩
abbrev main_call1_call0_v137 : Ref sig .tc := ⟨.hbm, 439, rfl⟩
abbrev main_call1_call0_v138 : Ref sig .tc := ⟨.hbm, 440, rfl⟩
abbrev main_call1_call0_v139 : Ref sig .tc := ⟨.hbm, 441, rfl⟩
abbrev main_call1_call0_c_35 : Ref sig .tc := ⟨.hbm, 442, rfl⟩
abbrev main_call1_call0_v140 : Ref sig .tc := ⟨.hbm, 443, rfl⟩
abbrev main_call1_call0_v141 : Ref sig .tc := ⟨.hbm, 444, rfl⟩
abbrev main_call1_call0_v142 : Ref sig .tc := ⟨.hbm, 445, rfl⟩
abbrev main_call1_call0_c_36 : Ref sig .tc := ⟨.hbm, 446, rfl⟩
abbrev main_call1_call0_v143 : Ref sig .tc := ⟨.hbm, 447, rfl⟩
abbrev main_call1_call0_v144 : Ref sig .tc := ⟨.hbm, 448, rfl⟩
abbrev main_call1_call0_c_37 : Ref sig .tc := ⟨.hbm, 449, rfl⟩
abbrev main_call1_call0_v145 : Ref sig .tc := ⟨.hbm, 450, rfl⟩
abbrev main_call1_call0_v146 : Ref sig .tc := ⟨.hbm, 451, rfl⟩
abbrev main_call1_call0_v147 : Ref sig .tc := ⟨.hbm, 452, rfl⟩
abbrev main_call1_call0_v148 : Ref sig .tc := ⟨.hbm, 453, rfl⟩
abbrev main_call1_call0_v149 : Ref sig .tc := ⟨.hbm, 454, rfl⟩
abbrev main_call1_call0_c_38 : Ref sig .tc := ⟨.hbm, 455, rfl⟩
abbrev main_call1_call0_v150 : Ref sig .tc := ⟨.hbm, 456, rfl⟩
abbrev main_call1_call0_v151 : Ref sig .tc := ⟨.hbm, 457, rfl⟩
abbrev main_call1_call0_c_39 : Ref sig .tc := ⟨.hbm, 458, rfl⟩
abbrev main_call1_call0_v152 : Ref sig .tc := ⟨.hbm, 459, rfl⟩
abbrev main_call1_call0_v153 : Ref sig .tc := ⟨.hbm, 460, rfl⟩
abbrev main_call1_call0_v154 : Ref sig .tc := ⟨.hbm, 461, rfl⟩
abbrev main_call1_call0_v155 : Ref sig .tc := ⟨.hbm, 462, rfl⟩
abbrev main_call1_call0_v156 : Ref sig .tc := ⟨.hbm, 463, rfl⟩
abbrev main_call1_call0_c_40 : Ref sig .tc := ⟨.hbm, 464, rfl⟩
abbrev main_call1_call0_v157 : Ref sig .tc := ⟨.hbm, 465, rfl⟩
abbrev main_call1_call0_v158 : Ref sig .tc := ⟨.hbm, 466, rfl⟩
abbrev main_call1_call0_c_41 : Ref sig .tc := ⟨.hbm, 467, rfl⟩
abbrev main_call1_call0_v159 : Ref sig .tc := ⟨.hbm, 468, rfl⟩
abbrev main_call1_call0_v160 : Ref sig .tc := ⟨.hbm, 469, rfl⟩
abbrev main_call1_call0_v161 : Ref sig .tc := ⟨.hbm, 470, rfl⟩
abbrev main_call1_call0_v162 : Ref sig .tc := ⟨.hbm, 471, rfl⟩
abbrev main_call1_call0_v163 : Ref sig .tc := ⟨.hbm, 472, rfl⟩
abbrev main_call1_call0_c_42 : Ref sig .tc := ⟨.hbm, 473, rfl⟩
abbrev main_call1_call0_v164 : Ref sig .tc := ⟨.hbm, 474, rfl⟩
abbrev main_call1_call0_v165 : Ref sig .tc := ⟨.hbm, 475, rfl⟩
abbrev main_call1_call0_c_43 : Ref sig .tc := ⟨.hbm, 476, rfl⟩
abbrev main_call1_call0_v166 : Ref sig .tc := ⟨.hbm, 477, rfl⟩
abbrev main_call1_call0_v167 : Ref sig .tc := ⟨.hbm, 478, rfl⟩
abbrev main_call1_call0_v168 : Ref sig .tc := ⟨.hbm, 479, rfl⟩
abbrev main_call1_call0_v169 : Ref sig .tc := ⟨.hbm, 480, rfl⟩
abbrev main_call1_call0_v170 : Ref sig .tc := ⟨.hbm, 481, rfl⟩
abbrev main_call1_v11_0 : Ref sig .tc := ⟨.hbm, 482, rfl⟩
abbrev main_call1_call0_v172 : Ref sig .tc := ⟨.hbm, 483, rfl⟩
abbrev main_call1_call0_v173 : Ref sig .tc := ⟨.hbm, 484, rfl⟩
abbrev main_call1_call0_c_44 : Ref sig .tc := ⟨.hbm, 485, rfl⟩
abbrev main_call1_call0_v174 : Ref sig .tc := ⟨.hbm, 486, rfl⟩
abbrev main_call1_v11_1 : Ref sig .tc := ⟨.hbm, 487, rfl⟩
abbrev main_call1_v12 : Ref sig .tc := ⟨.hbm, 488, rfl⟩
abbrev main_call1_v13 : Ref sig .tc := ⟨.hbm, 489, rfl⟩
abbrev main_v12 : Ref sig .tc := ⟨.hbm, 490, rfl⟩
abbrev main_v13 : Ref sig .tc := ⟨.hbm, 491, rfl⟩
abbrev main_v14 : Ref sig .tc := ⟨.hbm, 492, rfl⟩
abbrev main_v15 : Ref sig .tc := ⟨.hbm, 493, rfl⟩
abbrev main_cst : Ref sig .tc := ⟨.hbm, 494, rfl⟩
abbrev main_v16 : Ref sig .tc := ⟨.hbm, 495, rfl⟩
abbrev main_v17 : Ref sig .tc := ⟨.hbm, 496, rfl⟩
abbrev main_v18 : Ref sig .tc := ⟨.hbm, 497, rfl⟩
abbrev main_cst_2 : Ref sig .tc := ⟨.hbm, 498, rfl⟩
abbrev main_v19 : Ref sig .tc := ⟨.hbm, 499, rfl⟩
abbrev main_v20 : Ref sig .tc := ⟨.hbm, 500, rfl⟩
abbrev main_v21 : Ref sig .tc := ⟨.hbm, 501, rfl⟩
abbrev main_v22 : Ref sig .tc := ⟨.hbm, 502, rfl⟩
abbrev main_v23_0 : Ref sig .tc := ⟨.hbm, 503, rfl⟩
abbrev main_v23_1 : Ref sig .tc := ⟨.hbm, 504, rfl⟩
abbrev main_v24 : Ref sig .tc := ⟨.hbm, 505, rfl⟩
abbrev main_v25 : Ref sig .tc := ⟨.hbm, 506, rfl⟩
abbrev main_v26 : Ref sig .tc := ⟨.hbm, 507, rfl⟩
abbrev main_v27 : Ref sig .tc := ⟨.hbm, 508, rfl⟩
abbrev main_v28 : Ref sig .tc := ⟨.hbm, 509, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 50], ![false, false]⟩

def k0_off1 (i : grid0.Coords) : Fin 2 → Nat :=
  let arg1 : BitVec 32 := BitVec.ofNat 32 (i 1).val
  let c1_i32 : BitVec 32 := 1#32
  let v5 : BitVec 32 := Scalar.addi arg1 c1_i32
  let v6 : Index := Scalar.indexCast v5
  let c0 : Index := 0#32
  ![v6.toNat, 0]
def k0_off2 (i : grid0.Coords) : Fin 2 → Nat :=
  let arg1 : BitVec 32 := BitVec.ofNat 32 (i 1).val
  let c1_i32_1 : BitVec 32 := 1#32
  let v8 : BitVec 32 := Scalar.addi arg1 c1_i32_1
  let v9 : Index := Scalar.indexCast v8
  let c1 : Index := 1#32
  ![v9.toNat, 1]
def k0_off3 (i : grid0.Coords) : Fin 2 → Nat :=
  let c0_63 : Index := 0#32
  let arg1 : BitVec 32 := BitVec.ofNat 32 (i 1).val
  let v268 : Index := Scalar.indexCast arg1
  ![0, v268.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .smem S51x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "root10" => some ((Real.sqrt 10 : ℝ) : EReal)
  | "root2" => some ((Real.sqrt 2 : ℝ) : EReal)
  | "twentieth" => some ((1 / 20 : ℝ) : EReal)
  | _ => none
-- ==== ReferenceIdeal.lean ====
abbrev S1024x50x1 : Shape := ⟨3, ![1024, 50, 1]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1024x1024x1 : Shape := ⟨3, ![1024, 1024, 1]⟩
abbrev S1024x1024 : Shape := ⟨2, ![1024, 1024]⟩
abbrev S50 : Shape := ⟨1, ![50]⟩
abbrev S50x1 : Shape := ⟨2, ![50, 1]⟩
abbrev S50x2 : Shape := ⟨2, ![50, 2]⟩
abbrev S50x1024x1 : Shape := ⟨3, ![50, 1024, 1]⟩
abbrev S50x1024 : Shape := ⟨2, ![50, 1024]⟩
abbrev S1x1024x1 : Shape := ⟨3, ![1, 1024, 1]⟩
abbrev S1024x1 : Shape := ⟨2, ![1024, 1]⟩
abbrev S1024x1x1 : Shape := ⟨3, ![1024, 1, 1]⟩
abbrev S1024 : Shape := ⟨1, ![1024]⟩
abbrev S1x1024 : Shape := ⟨2, ![1, 1024]⟩
abbrev S1024x50 : Shape := ⟨2, ![1024, 50]⟩

abbrev nBuf : Space → Nat
  | .hbm => 1293
  | .vmem => 0
  | .smem => 0
  | _ => 0

abbrev hbmTy0_0 (i : Nat) : BufTy := match i % 128 with
  | 0 => ⟨S1024x50x1, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S_, .i32⟩
  | 16 => ⟨S2, .i32⟩
  | 17 => ⟨S2, .i32⟩
  | 18 => ⟨S_, .i32⟩
  | 19 => ⟨S_, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S_, .i32⟩
  | 125 => ⟨S2, .i32⟩
  | 126 => ⟨S2, .i32⟩
  | 127 => ⟨S2, .i32⟩
  | _ => ⟨S1024x50x1, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S_, .i32⟩
  | 40 => ⟨S2, .i32⟩
  | 41 => ⟨S2, .i32⟩
  | 42 => ⟨S2, .i32⟩
  | 43 => ⟨S2, .i32⟩
  | 44 => ⟨S2, .i32⟩
  | 45 => ⟨S_, .i32⟩
  | 46 => ⟨S2, .i32⟩
  | 47 => ⟨S2, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S2x1, .i32⟩
  | 113 => ⟨S2x1, .i32⟩
  | 114 => ⟨S2x2, .i32⟩
  | 115 => ⟨S1x2, .i32⟩
  | 116 => ⟨S2, .i32⟩
  | 117 => ⟨S1x2, .i32⟩
  | 118 => ⟨S2, .i32⟩
  | 119 => ⟨S1, .i32⟩
  | 120 => ⟨S_, .i32⟩
  | 121 => ⟨S1, .i32⟩
  | 122 => ⟨S_, .i32⟩
  | 123 => ⟨S1024x1024x1, .i64⟩
  | 124 => ⟨S1024x1024x1, .i64⟩
  | 125 => ⟨S1024x1024x1, .i64⟩
  | 126 => ⟨S_, .i64⟩
  | 127 => ⟨S1024x1024x1, .i64⟩
  | _ => ⟨S1024x50x1, .f32⟩

abbrev hbmTy0_2 (i : Nat) : BufTy := match i % 128 with
  | 0 => ⟨S1024x1024x1, .i64⟩
  | 1 => ⟨S_, .i64⟩
  | 2 => ⟨S1024x1024x1, .i64⟩
  | 3 => ⟨S1024x1024x1, .i64⟩
  | 4 => ⟨S_, .i64⟩
  | 5 => ⟨S1024x1024x1, .i64⟩
  | 6 => ⟨S1024x1024x1, .i64⟩
  | 7 => ⟨S1024x1024x1, .i64⟩
  | 8 => ⟨S1024x1024x1, .i64⟩
  | 9 => ⟨S_, .i64⟩
  | 10 => ⟨S1024x1024x1, .i64⟩
  | 11 => ⟨S1024x1024x1, .i64⟩
  | 12 => ⟨S1024x1024x1, .i32⟩
  | 13 => ⟨S1024x1024x1, .i32⟩
  | 14 => ⟨S_, .i32⟩
  | 15 => ⟨S_, .i32⟩
  | 16 => ⟨S_, .i32⟩
  | 17 => ⟨S1024x1024x1, .i32⟩
  | 18 => ⟨S1024x1024x1, .i32⟩
  | 19 => ⟨S1024x1024x1, .i32⟩
  | 20 => ⟨S1024x1024x1, .i32⟩
  | 21 => ⟨S1024x1024x1, .i32⟩
  | 22 => ⟨S_, .i32⟩
  | 23 => ⟨S1024x1024x1, .i32⟩
  | 24 => ⟨S1024x1024x1, .i32⟩
  | 25 => ⟨S_, .i32⟩
  | 26 => ⟨S1024x1024x1, .i32⟩
  | 27 => ⟨S1024x1024x1, .i32⟩
  | 28 => ⟨S1024x1024x1, .i32⟩
  | 29 => ⟨S1024x1024x1, .i32⟩
  | 30 => ⟨S1024x1024x1, .i32⟩
  | 31 => ⟨S_, .i32⟩
  | 32 => ⟨S1024x1024x1, .i32⟩
  | 33 => ⟨S1024x1024x1, .i32⟩
  | 34 => ⟨S_, .i32⟩
  | 35 => ⟨S1024x1024x1, .i32⟩
  | 36 => ⟨S1024x1024x1, .i32⟩
  | 37 => ⟨S1024x1024x1, .i32⟩
  | 38 => ⟨S1024x1024x1, .i32⟩
  | 39 => ⟨S1024x1024x1, .i32⟩
  | 40 => ⟨S_, .i32⟩
  | 41 => ⟨S1024x1024x1, .i32⟩
  | 42 => ⟨S1024x1024x1, .i32⟩
  | 43 => ⟨S_, .i32⟩
  | 44 => ⟨S1024x1024x1, .i32⟩
  | 45 => ⟨S1024x1024x1, .i32⟩
  | 46 => ⟨S1024x1024x1, .i32⟩
  | 47 => ⟨S1024x1024x1, .i32⟩
  | 48 => ⟨S1024x1024x1, .i32⟩
  | 49 => ⟨S_, .i32⟩
  | 50 => ⟨S1024x1024x1, .i32⟩
  | 51 => ⟨S1024x1024x1, .i32⟩
  | 52 => ⟨S_, .i32⟩
  | 53 => ⟨S1024x1024x1, .i32⟩
  | 54 => ⟨S1024x1024x1, .i32⟩
  | 55 => ⟨S1024x1024x1, .i32⟩
  | 56 => ⟨S1024x1024x1, .i32⟩
  | 57 => ⟨S1024x1024x1, .i32⟩
  | 58 => ⟨S1024x1024x1, .i32⟩
  | 59 => ⟨S1024x1024x1, .i32⟩
  | 60 => ⟨S1024x1024x1, .i32⟩
  | 61 => ⟨S_, .i32⟩
  | 62 => ⟨S1024x1024x1, .i32⟩
  | 63 => ⟨S1024x1024x1, .i32⟩
  | 64 => ⟨S1024x1024x1, .i32⟩
  | 65 => ⟨S_, .i32⟩
  | 66 => ⟨S1024x1024x1, .i32⟩
  | 67 => ⟨S1024x1024x1, .i32⟩
  | 68 => ⟨S_, .i32⟩
  | 69 => ⟨S1024x1024x1, .i32⟩
  | 70 => ⟨S1024x1024x1, .i32⟩
  | 71 => ⟨S1024x1024x1, .i32⟩
  | 72 => ⟨S1024x1024x1, .i32⟩
  | 73 => ⟨S1024x1024x1, .i32⟩
  | 74 => ⟨S_, .i32⟩
  | 75 => ⟨S1024x1024x1, .i32⟩
  | 76 => ⟨S1024x1024x1, .i32⟩
  | 77 => ⟨S_, .i32⟩
  | 78 => ⟨S1024x1024x1, .i32⟩
  | 79 => ⟨S1024x1024x1, .i32⟩
  | 80 => ⟨S1024x1024x1, .i32⟩
  | 81 => ⟨S1024x1024x1, .i32⟩
  | 82 => ⟨S1024x1024x1, .i32⟩
  | 83 => ⟨S_, .i32⟩
  | 84 => ⟨S1024x1024x1, .i32⟩
  | 85 => ⟨S1024x1024x1, .i32⟩
  | 86 => ⟨S_, .i32⟩
  | 87 => ⟨S1024x1024x1, .i32⟩
  | 88 => ⟨S1024x1024x1, .i32⟩
  | 89 => ⟨S1024x1024x1, .i32⟩
  | 90 => ⟨S1024x1024x1, .i32⟩
  | 91 => ⟨S1024x1024x1, .i32⟩
  | 92 => ⟨S_, .i32⟩
  | 93 => ⟨S1024x1024x1, .i32⟩
  | 94 => ⟨S1024x1024x1, .i32⟩
  | 95 => ⟨S_, .i32⟩
  | 96 => ⟨S1024x1024x1, .i32⟩
  | 97 => ⟨S1024x1024x1, .i32⟩
  | 98 => ⟨S1024x1024x1, .i32⟩
  | 99 => ⟨S1024x1024x1, .i32⟩
  | 100 => ⟨S1024x1024x1, .i32⟩
  | 101 => ⟨S1024x1024x1, .i32⟩
  | 102 => ⟨S1024x1024x1, .i32⟩
  | 103 => ⟨S1024x1024x1, .i32⟩
  | 104 => ⟨S_, .i32⟩
  | 105 => ⟨S1024x1024x1, .i32⟩
  | 106 => ⟨S1024x1024x1, .i32⟩
  | 107 => ⟨S1024x1024x1, .i32⟩
  | 108 => ⟨S_, .i32⟩
  | 109 => ⟨S1024x1024x1, .i32⟩
  | 110 => ⟨S1024x1024x1, .i32⟩
  | 111 => ⟨S_, .i32⟩
  | 112 => ⟨S1024x1024x1, .i32⟩
  | 113 => ⟨S1024x1024x1, .i32⟩
  | 114 => ⟨S1024x1024x1, .i32⟩
  | 115 => ⟨S1024x1024x1, .i32⟩
  | 116 => ⟨S1024x1024x1, .i32⟩
  | 117 => ⟨S_, .i32⟩
  | 118 => ⟨S1024x1024x1, .i32⟩
  | 119 => ⟨S1024x1024x1, .i32⟩
  | 120 => ⟨S_, .i32⟩
  | 121 => ⟨S1024x1024x1, .i32⟩
  | 122 => ⟨S1024x1024x1, .i32⟩
  | 123 => ⟨S1024x1024x1, .i32⟩
  | 124 => ⟨S1024x1024x1, .i32⟩
  | 125 => ⟨S1024x1024x1, .i32⟩
  | 126 => ⟨S_, .i32⟩
  | 127 => ⟨S1024x1024x1, .i32⟩
  | _ => ⟨S1024x50x1, .f32⟩

abbrev hbmTy0_3 (i : Nat) : BufTy := match i % 128 with
  | 0 => ⟨S1024x1024x1, .i32⟩
  | 1 => ⟨S_, .i32⟩
  | 2 => ⟨S1024x1024x1, .i32⟩
  | 3 => ⟨S1024x1024x1, .i32⟩
  | 4 => ⟨S1024x1024x1, .i32⟩
  | 5 => ⟨S1024x1024x1, .i32⟩
  | 6 => ⟨S1024x1024x1, .i32⟩
  | 7 => ⟨S_, .i32⟩
  | 8 => ⟨S1024x1024x1, .i32⟩
  | 9 => ⟨S1024x1024x1, .i32⟩
  | 10 => ⟨S_, .i32⟩
  | 11 => ⟨S1024x1024x1, .i32⟩
  | 12 => ⟨S1024x1024x1, .i32⟩
  | 13 => ⟨S1024x1024x1, .i32⟩
  | 14 => ⟨S1024x1024x1, .i32⟩
  | 15 => ⟨S1024x1024x1, .i32⟩
  | 16 => ⟨S1024x1024x1, .i32⟩
  | 17 => ⟨S1024x1024x1, .i32⟩
  | 18 => ⟨S1024x1024x1, .i32⟩
  | 19 => ⟨S_, .i32⟩
  | 20 => ⟨S1024x1024x1, .i32⟩
  | 21 => ⟨S1024x1024x1, .i32⟩
  | 22 => ⟨S1024x1024x1, .i32⟩
  | 23 => ⟨S_, .i32⟩
  | 24 => ⟨S1024x1024x1, .i32⟩
  | 25 => ⟨S1024x1024x1, .i32⟩
  | 26 => ⟨S_, .i32⟩
  | 27 => ⟨S1024x1024x1, .i32⟩
  | 28 => ⟨S1024x1024x1, .i32⟩
  | 29 => ⟨S1024x1024x1, .i32⟩
  | 30 => ⟨S1024x1024x1, .i32⟩
  | 31 => ⟨S1024x1024x1, .i32⟩
  | 32 => ⟨S_, .i32⟩
  | 33 => ⟨S1024x1024x1, .i32⟩
  | 34 => ⟨S1024x1024x1, .i32⟩
  | 35 => ⟨S_, .i32⟩
  | 36 => ⟨S1024x1024x1, .i32⟩
  | 37 => ⟨S1024x1024x1, .i32⟩
  | 38 => ⟨S1024x1024x1, .i32⟩
  | 39 => ⟨S1024x1024x1, .i32⟩
  | 40 => ⟨S1024x1024x1, .i32⟩
  | 41 => ⟨S_, .i32⟩
  | 42 => ⟨S1024x1024x1, .i32⟩
  | 43 => ⟨S1024x1024x1, .i32⟩
  | 44 => ⟨S_, .i32⟩
  | 45 => ⟨S1024x1024x1, .i32⟩
  | 46 => ⟨S1024x1024x1, .i32⟩
  | 47 => ⟨S1024x1024x1, .i32⟩
  | 48 => ⟨S1024x1024x1, .i32⟩
  | 49 => ⟨S1024x1024x1, .i32⟩
  | 50 => ⟨S_, .i32⟩
  | 51 => ⟨S1024x1024x1, .i32⟩
  | 52 => ⟨S1024x1024x1, .i32⟩
  | 53 => ⟨S_, .i32⟩
  | 54 => ⟨S1024x1024x1, .i32⟩
  | 55 => ⟨S1024x1024x1, .i32⟩
  | 56 => ⟨S1024x1024x1, .i32⟩
  | 57 => ⟨S1024x1024x1, .i32⟩
  | 58 => ⟨S1024x1024x1, .i32⟩
  | 59 => ⟨S1024x1024x1, .i32⟩
  | 60 => ⟨S1024x1024x1, .i32⟩
  | 61 => ⟨S1024x1024x1, .i32⟩
  | 62 => ⟨S_, .i32⟩
  | 63 => ⟨S1024x1024x1, .i32⟩
  | 64 => ⟨S1024x1024x1, .i32⟩
  | 65 => ⟨S1024x1024x1, .i32⟩
  | 66 => ⟨S_, .i32⟩
  | 67 => ⟨S1024x1024x1, .i32⟩
  | 68 => ⟨S1024x1024x1, .i32⟩
  | 69 => ⟨S_, .i32⟩
  | 70 => ⟨S1024x1024x1, .i32⟩
  | 71 => ⟨S1024x1024x1, .i32⟩
  | 72 => ⟨S1024x1024x1, .i32⟩
  | 73 => ⟨S1024x1024x1, .i32⟩
  | 74 => ⟨S1024x1024x1, .i32⟩
  | 75 => ⟨S_, .i32⟩
  | 76 => ⟨S1024x1024x1, .i32⟩
  | 77 => ⟨S1024x1024x1, .i32⟩
  | 78 => ⟨S_, .i32⟩
  | 79 => ⟨S1024x1024x1, .i32⟩
  | 80 => ⟨S1024x1024x1, .i32⟩
  | 81 => ⟨S1024x1024x1, .i32⟩
  | 82 => ⟨S1024x1024x1, .i32⟩
  | 83 => ⟨S1024x1024x1, .i32⟩
  | 84 => ⟨S_, .i32⟩
  | 85 => ⟨S1024x1024x1, .i32⟩
  | 86 => ⟨S1024x1024x1, .i32⟩
  | 87 => ⟨S_, .i32⟩
  | 88 => ⟨S1024x1024x1, .i32⟩
  | 89 => ⟨S1024x1024x1, .i32⟩
  | 90 => ⟨S1024x1024x1, .i32⟩
  | 91 => ⟨S1024x1024x1, .i32⟩
  | 92 => ⟨S1024x1024x1, .i32⟩
  | 93 => ⟨S_, .i32⟩
  | 94 => ⟨S1024x1024x1, .i32⟩
  | 95 => ⟨S1024x1024x1, .i32⟩
  | 96 => ⟨S_, .i32⟩
  | 97 => ⟨S1024x1024x1, .i32⟩
  | 98 => ⟨S1024x1024x1, .i32⟩
  | 99 => ⟨S1024x1024x1, .i32⟩
  | 100 => ⟨S1024x1024x1, .i32⟩
  | 101 => ⟨S1024x1024x1, .i32⟩
  | 102 => ⟨S1024x1024x1, .i32⟩
  | 103 => ⟨S1024x1024x1, .i32⟩
  | 104 => ⟨S1024x1024x1, .i32⟩
  | 105 => ⟨S_, .i32⟩
  | 106 => ⟨S1024x1024x1, .i32⟩
  | 107 => ⟨S1024x1024x1, .i32⟩
  | 108 => ⟨S1024x1024x1, .i32⟩
  | 109 => ⟨S_, .i32⟩
  | 110 => ⟨S1024x1024x1, .i32⟩
  | 111 => ⟨S1024x1024x1, .i32⟩
  | 112 => ⟨S_, .i32⟩
  | 113 => ⟨S1024x1024x1, .i32⟩
  | 114 => ⟨S1024x1024x1, .i32⟩
  | 115 => ⟨S1024x1024x1, .f32⟩
  | 116 => ⟨S_, .f32⟩
  | 117 => ⟨S1024x1024x1, .f32⟩
  | 118 => ⟨S1024x1024x1, .f32⟩
  | 119 => ⟨S_, .f32⟩
  | 120 => ⟨S1024x1024x1, .f32⟩
  | 121 => ⟨S1024x1024x1, .f32⟩
  | 122 => ⟨S_, .f32⟩
  | 123 => ⟨S1024x1024x1, .f32⟩
  | 124 => ⟨S1024x1024x1, .f32⟩
  | 125 => ⟨S_, .f32⟩
  | 126 => ⟨S1024x1024x1, .f32⟩
  | 127 => ⟨S1024x1024x1, .f32⟩
  | _ => ⟨S1024x50x1, .f32⟩

abbrev hbmTy0_4 (i : Nat) : BufTy := match i % 128 with
  | 0 => ⟨S_, .f32⟩
  | 1 => ⟨S_, .f32⟩
  | 2 => ⟨S1024x1024x1, .f32⟩
  | 3 => ⟨S1024x1024x1, .f32⟩
  | 4 => ⟨S1024x1024x1, .f32⟩
  | 5 => ⟨S1024x1024x1, .f32⟩
  | 6 => ⟨S_, .f32⟩
  | 7 => ⟨S1024x1024x1, .f32⟩
  | 8 => ⟨S1024x1024x1, .i1⟩
  | 9 => ⟨S_, .f32⟩
  | 10 => ⟨S1024x1024x1, .f32⟩
  | 11 => ⟨S1024x1024x1, .f32⟩
  | 12 => ⟨S_, .f32⟩
  | 13 => ⟨S1024x1024x1, .f32⟩
  | 14 => ⟨S1024x1024x1, .f32⟩
  | 15 => ⟨S_, .f32⟩
  | 16 => ⟨S1024x1024x1, .f32⟩
  | 17 => ⟨S1024x1024x1, .f32⟩
  | 18 => ⟨S1024x1024x1, .f32⟩
  | 19 => ⟨S_, .f32⟩
  | 20 => ⟨S1024x1024x1, .f32⟩
  | 21 => ⟨S1024x1024x1, .f32⟩
  | 22 => ⟨S1024x1024x1, .f32⟩
  | 23 => ⟨S_, .f32⟩
  | 24 => ⟨S1024x1024x1, .f32⟩
  | 25 => ⟨S1024x1024x1, .f32⟩
  | 26 => ⟨S1024x1024x1, .f32⟩
  | 27 => ⟨S_, .f32⟩
  | 28 => ⟨S1024x1024x1, .f32⟩
  | 29 => ⟨S1024x1024x1, .f32⟩
  | 30 => ⟨S1024x1024x1, .f32⟩
  | 31 => ⟨S_, .f32⟩
  | 32 => ⟨S1024x1024x1, .f32⟩
  | 33 => ⟨S1024x1024x1, .f32⟩
  | 34 => ⟨S1024x1024x1, .f32⟩
  | 35 => ⟨S_, .f32⟩
  | 36 => ⟨S1024x1024x1, .f32⟩
  | 37 => ⟨S1024x1024x1, .f32⟩
  | 38 => ⟨S1024x1024x1, .f32⟩
  | 39 => ⟨S_, .f32⟩
  | 40 => ⟨S1024x1024x1, .f32⟩
  | 41 => ⟨S1024x1024x1, .f32⟩
  | 42 => ⟨S1024x1024x1, .f32⟩
  | 43 => ⟨S_, .f32⟩
  | 44 => ⟨S1024x1024x1, .f32⟩
  | 45 => ⟨S1024x1024x1, .f32⟩
  | 46 => ⟨S1024x1024x1, .f32⟩
  | 47 => ⟨S_, .f32⟩
  | 48 => ⟨S1024x1024x1, .f32⟩
  | 49 => ⟨S1024x1024x1, .f32⟩
  | 50 => ⟨S_, .f32⟩
  | 51 => ⟨S1024x1024x1, .f32⟩
  | 52 => ⟨S1024x1024x1, .f32⟩
  | 53 => ⟨S_, .f32⟩
  | 54 => ⟨S1024x1024x1, .f32⟩
  | 55 => ⟨S1024x1024x1, .f32⟩
  | 56 => ⟨S1024x1024x1, .f32⟩
  | 57 => ⟨S_, .f32⟩
  | 58 => ⟨S1024x1024x1, .f32⟩
  | 59 => ⟨S1024x1024x1, .f32⟩
  | 60 => ⟨S1024x1024x1, .f32⟩
  | 61 => ⟨S_, .f32⟩
  | 62 => ⟨S1024x1024x1, .f32⟩
  | 63 => ⟨S1024x1024x1, .f32⟩
  | 64 => ⟨S1024x1024x1, .f32⟩
  | 65 => ⟨S_, .f32⟩
  | 66 => ⟨S1024x1024x1, .f32⟩
  | 67 => ⟨S1024x1024x1, .f32⟩
  | 68 => ⟨S1024x1024x1, .f32⟩
  | 69 => ⟨S_, .f32⟩
  | 70 => ⟨S1024x1024x1, .f32⟩
  | 71 => ⟨S1024x1024x1, .f32⟩
  | 72 => ⟨S1024x1024x1, .f32⟩
  | 73 => ⟨S_, .f32⟩
  | 74 => ⟨S1024x1024x1, .f32⟩
  | 75 => ⟨S1024x1024x1, .f32⟩
  | 76 => ⟨S1024x1024x1, .f32⟩
  | 77 => ⟨S_, .f32⟩
  | 78 => ⟨S1024x1024x1, .f32⟩
  | 79 => ⟨S1024x1024x1, .f32⟩
  | 80 => ⟨S1024x1024x1, .f32⟩
  | 81 => ⟨S_, .f32⟩
  | 82 => ⟨S1024x1024x1, .f32⟩
  | 83 => ⟨S1024x1024x1, .f32⟩
  | 84 => ⟨S1024x1024x1, .f32⟩
  | 85 => ⟨S1024x1024x1, .f32⟩
  | 86 => ⟨S1024x1024x1, .f32⟩
  | 87 => ⟨S1024x1024x1, .f32⟩
  | 88 => ⟨S_, .f32⟩
  | 89 => ⟨S_, .f32⟩
  | 90 => ⟨S1024x1024x1, .f32⟩
  | 91 => ⟨S1024x1024x1, .f32⟩
  | 92 => ⟨S_, .f32⟩
  | 93 => ⟨S1024x1024, .f32⟩
  | 94 => ⟨S_, .f32⟩
  | 95 => ⟨S1024x1024, .f32⟩
  | 96 => ⟨S1024x1024, .f32⟩
  | 97 => ⟨S50, .f32⟩
  | 98 => ⟨S1, .i32⟩
  | 99 => ⟨S_, .i32⟩
  | 100 => ⟨S1, .i32⟩
  | 101 => ⟨S_, .i32⟩
  | 102 => ⟨S_, .i32⟩
  | 103 => ⟨S50, .i32⟩
  | 104 => ⟨S50, .i32⟩
  | 105 => ⟨S_, .i32⟩
  | 106 => ⟨S_, .i32⟩
  | 107 => ⟨S_, .i32⟩
  | 108 => ⟨S50, .i32⟩
  | 109 => ⟨S50, .i32⟩
  | 110 => ⟨S50, .i32⟩
  | 111 => ⟨S50, .i32⟩
  | 112 => ⟨S50, .i32⟩
  | 113 => ⟨S_, .i32⟩
  | 114 => ⟨S50, .i32⟩
  | 115 => ⟨S50, .i32⟩
  | 116 => ⟨S_, .i32⟩
  | 117 => ⟨S50, .i32⟩
  | 118 => ⟨S50, .i32⟩
  | 119 => ⟨S50, .i32⟩
  | 120 => ⟨S50, .i32⟩
  | 121 => ⟨S50, .i32⟩
  | 122 => ⟨S_, .i32⟩
  | 123 => ⟨S50, .i32⟩
  | 124 => ⟨S50, .i32⟩
  | 125 => ⟨S_, .i32⟩
  | 126 => ⟨S50, .i32⟩
  | 127 => ⟨S50, .i32⟩
  | _ => ⟨S1024x50x1, .f32⟩

abbrev hbmTy0_5 (i : Nat) : BufTy := match i % 128 with
  | 0 => ⟨S50, .i32⟩
  | 1 => ⟨S50, .i32⟩
  | 2 => ⟨S50, .i32⟩
  | 3 => ⟨S_, .i32⟩
  | 4 => ⟨S50, .i32⟩
  | 5 => ⟨S50, .i32⟩
  | 6 => ⟨S_, .i32⟩
  | 7 => ⟨S50, .i32⟩
  | 8 => ⟨S50, .i32⟩
  | 9 => ⟨S50, .i32⟩
  | 10 => ⟨S50, .i32⟩
  | 11 => ⟨S50, .i32⟩
  | 12 => ⟨S_, .i32⟩
  | 13 => ⟨S50, .i32⟩
  | 14 => ⟨S50, .i32⟩
  | 15 => ⟨S_, .i32⟩
  | 16 => ⟨S50, .i32⟩
  | 17 => ⟨S50, .i32⟩
  | 18 => ⟨S50, .i32⟩
  | 19 => ⟨S50, .i32⟩
  | 20 => ⟨S50, .i32⟩
  | 21 => ⟨S50, .i32⟩
  | 22 => ⟨S50, .i32⟩
  | 23 => ⟨S50, .i32⟩
  | 24 => ⟨S_, .i32⟩
  | 25 => ⟨S50, .i32⟩
  | 26 => ⟨S50, .i32⟩
  | 27 => ⟨S50, .i32⟩
  | 28 => ⟨S_, .i32⟩
  | 29 => ⟨S50, .i32⟩
  | 30 => ⟨S50, .i32⟩
  | 31 => ⟨S_, .i32⟩
  | 32 => ⟨S50, .i32⟩
  | 33 => ⟨S50, .i32⟩
  | 34 => ⟨S50, .i32⟩
  | 35 => ⟨S50, .i32⟩
  | 36 => ⟨S50, .i32⟩
  | 37 => ⟨S_, .i32⟩
  | 38 => ⟨S50, .i32⟩
  | 39 => ⟨S50, .i32⟩
  | 40 => ⟨S_, .i32⟩
  | 41 => ⟨S50, .i32⟩
  | 42 => ⟨S50, .i32⟩
  | 43 => ⟨S50, .i32⟩
  | 44 => ⟨S50, .i32⟩
  | 45 => ⟨S50, .i32⟩
  | 46 => ⟨S_, .i32⟩
  | 47 => ⟨S50, .i32⟩
  | 48 => ⟨S50, .i32⟩
  | 49 => ⟨S_, .i32⟩
  | 50 => ⟨S50, .i32⟩
  | 51 => ⟨S50, .i32⟩
  | 52 => ⟨S50, .i32⟩
  | 53 => ⟨S50, .i32⟩
  | 54 => ⟨S50, .i32⟩
  | 55 => ⟨S_, .i32⟩
  | 56 => ⟨S50, .i32⟩
  | 57 => ⟨S50, .i32⟩
  | 58 => ⟨S_, .i32⟩
  | 59 => ⟨S50, .i32⟩
  | 60 => ⟨S50, .i32⟩
  | 61 => ⟨S50, .i32⟩
  | 62 => ⟨S50, .i32⟩
  | 63 => ⟨S50, .i32⟩
  | 64 => ⟨S50, .i32⟩
  | 65 => ⟨S50, .i32⟩
  | 66 => ⟨S50, .i32⟩
  | 67 => ⟨S_, .i32⟩
  | 68 => ⟨S50, .i32⟩
  | 69 => ⟨S50, .i32⟩
  | 70 => ⟨S50, .i32⟩
  | 71 => ⟨S_, .i32⟩
  | 72 => ⟨S50, .i32⟩
  | 73 => ⟨S50, .i32⟩
  | 74 => ⟨S_, .i32⟩
  | 75 => ⟨S50, .i32⟩
  | 76 => ⟨S50, .i32⟩
  | 77 => ⟨S50, .i32⟩
  | 78 => ⟨S50, .i32⟩
  | 79 => ⟨S50, .i32⟩
  | 80 => ⟨S_, .i32⟩
  | 81 => ⟨S50, .i32⟩
  | 82 => ⟨S50, .i32⟩
  | 83 => ⟨S_, .i32⟩
  | 84 => ⟨S50, .i32⟩
  | 85 => ⟨S50, .i32⟩
  | 86 => ⟨S50, .i32⟩
  | 87 => ⟨S50, .i32⟩
  | 88 => ⟨S50, .i32⟩
  | 89 => ⟨S_, .i32⟩
  | 90 => ⟨S50, .i32⟩
  | 91 => ⟨S50, .i32⟩
  | 92 => ⟨S_, .i32⟩
  | 93 => ⟨S50, .i32⟩
  | 94 => ⟨S50, .i32⟩
  | 95 => ⟨S50, .i32⟩
  | 96 => ⟨S50, .i32⟩
  | 97 => ⟨S50, .i32⟩
  | 98 => ⟨S_, .i32⟩
  | 99 => ⟨S50, .i32⟩
  | 100 => ⟨S50, .i32⟩
  | 101 => ⟨S_, .i32⟩
  | 102 => ⟨S50, .i32⟩
  | 103 => ⟨S50, .i32⟩
  | 104 => ⟨S50, .i32⟩
  | 105 => ⟨S50, .i32⟩
  | 106 => ⟨S50, .i32⟩
  | 107 => ⟨S50, .i32⟩
  | 108 => ⟨S50, .i32⟩
  | 109 => ⟨S50, .i32⟩
  | 110 => ⟨S_, .i32⟩
  | 111 => ⟨S50, .i32⟩
  | 112 => ⟨S50, .i32⟩
  | 113 => ⟨S50, .i32⟩
  | 114 => ⟨S_, .i32⟩
  | 115 => ⟨S50, .i32⟩
  | 116 => ⟨S50, .i32⟩
  | 117 => ⟨S_, .i32⟩
  | 118 => ⟨S50, .i32⟩
  | 119 => ⟨S50, .i32⟩
  | 120 => ⟨S50, .i32⟩
  | 121 => ⟨S50, .i32⟩
  | 122 => ⟨S50, .i32⟩
  | 123 => ⟨S_, .i32⟩
  | 124 => ⟨S50, .i32⟩
  | 125 => ⟨S50, .i32⟩
  | 126 => ⟨S_, .i32⟩
  | 127 => ⟨S50, .i32⟩
  | _ => ⟨S1024x50x1, .f32⟩

abbrev hbmTy0_6 (i : Nat) : BufTy := match i % 128 with
  | 0 => ⟨S50, .i32⟩
  | 1 => ⟨S50, .i32⟩
  | 2 => ⟨S50, .i32⟩
  | 3 => ⟨S50, .i32⟩
  | 4 => ⟨S_, .i32⟩
  | 5 => ⟨S50, .i32⟩
  | 6 => ⟨S50, .i32⟩
  | 7 => ⟨S_, .i32⟩
  | 8 => ⟨S50, .i32⟩
  | 9 => ⟨S50, .i32⟩
  | 10 => ⟨S50, .i32⟩
  | 11 => ⟨S50, .i32⟩
  | 12 => ⟨S50, .i32⟩
  | 13 => ⟨S_, .i32⟩
  | 14 => ⟨S50, .i32⟩
  | 15 => ⟨S50, .i32⟩
  | 16 => ⟨S_, .i32⟩
  | 17 => ⟨S50, .i32⟩
  | 18 => ⟨S50, .i32⟩
  | 19 => ⟨S50, .i32⟩
  | 20 => ⟨S50, .i32⟩
  | 21 => ⟨S50, .i32⟩
  | 22 => ⟨S50, .i32⟩
  | 23 => ⟨S50, .i32⟩
  | 24 => ⟨S50, .i32⟩
  | 25 => ⟨S_, .i32⟩
  | 26 => ⟨S50, .i32⟩
  | 27 => ⟨S50, .i32⟩
  | 28 => ⟨S50, .i32⟩
  | 29 => ⟨S_, .i32⟩
  | 30 => ⟨S50, .i32⟩
  | 31 => ⟨S50, .i32⟩
  | 32 => ⟨S_, .i32⟩
  | 33 => ⟨S50, .i32⟩
  | 34 => ⟨S50, .i32⟩
  | 35 => ⟨S50, .i32⟩
  | 36 => ⟨S50, .i32⟩
  | 37 => ⟨S50, .i32⟩
  | 38 => ⟨S_, .i32⟩
  | 39 => ⟨S50, .i32⟩
  | 40 => ⟨S50, .i32⟩
  | 41 => ⟨S_, .i32⟩
  | 42 => ⟨S50, .i32⟩
  | 43 => ⟨S50, .i32⟩
  | 44 => ⟨S50, .i32⟩
  | 45 => ⟨S50, .i32⟩
  | 46 => ⟨S50, .i32⟩
  | 47 => ⟨S_, .i32⟩
  | 48 => ⟨S50, .i32⟩
  | 49 => ⟨S50, .i32⟩
  | 50 => ⟨S_, .i32⟩
  | 51 => ⟨S50, .i32⟩
  | 52 => ⟨S50, .i32⟩
  | 53 => ⟨S50, .i32⟩
  | 54 => ⟨S50, .i32⟩
  | 55 => ⟨S50, .i32⟩
  | 56 => ⟨S_, .i32⟩
  | 57 => ⟨S50, .i32⟩
  | 58 => ⟨S50, .i32⟩
  | 59 => ⟨S_, .i32⟩
  | 60 => ⟨S50, .i32⟩
  | 61 => ⟨S50, .i32⟩
  | 62 => ⟨S50, .i32⟩
  | 63 => ⟨S50, .i32⟩
  | 64 => ⟨S50, .i32⟩
  | 65 => ⟨S50, .i32⟩
  | 66 => ⟨S50, .i32⟩
  | 67 => ⟨S50, .i32⟩
  | 68 => ⟨S_, .i32⟩
  | 69 => ⟨S50, .i32⟩
  | 70 => ⟨S50, .i32⟩
  | 71 => ⟨S50x1, .i32⟩
  | 72 => ⟨S50x1, .i32⟩
  | 73 => ⟨S50x2, .i32⟩
  | 74 => ⟨S50x1024x1, .f32⟩
  | 75 => ⟨S_, .f32⟩
  | 76 => ⟨S50x1024x1, .f32⟩
  | 77 => ⟨S_, .f32⟩
  | 78 => ⟨S50x1024, .f32⟩
  | 79 => ⟨S_, .i32⟩
  | 80 => ⟨S50, .f32⟩
  | 81 => ⟨S50x1024x1, .f32⟩
  | 82 => ⟨S50x2, .i32⟩
  | 83 => ⟨S_, .i32⟩
  | 84 => ⟨S1024x1024x1, .f32⟩
  | 85 => ⟨S1024x1024, .f32⟩
  | 86 => ⟨S50x1024x1, .f32⟩
  | 87 => ⟨S50x1024, .f32⟩
  | 88 => ⟨S_, .i32⟩
  | 89 => ⟨S_, .i1⟩
  | 90 => ⟨S1, .f32⟩
  | 91 => ⟨S_, .f32⟩
  | 92 => ⟨S_, .i32⟩
  | 93 => ⟨S_, .i32⟩
  | 94 => ⟨S1x1024x1, .f32⟩
  | 95 => ⟨S1024x1, .f32⟩
  | 96 => ⟨S_, .i32⟩
  | 97 => ⟨S1x2, .i32⟩
  | 98 => ⟨S2, .i32⟩
  | 99 => ⟨S1, .i32⟩
  | 100 => ⟨S_, .i32⟩
  | 101 => ⟨S1, .i32⟩
  | 102 => ⟨S_, .i32⟩
  | 103 => ⟨S1024x1024x1, .i64⟩
  | 104 => ⟨S1024x1024x1, .i64⟩
  | 105 => ⟨S1024x1024x1, .i64⟩
  | 106 => ⟨S_, .i64⟩
  | 107 => ⟨S1024x1024x1, .i64⟩
  | 108 => ⟨S1024x1024x1, .i64⟩
  | 109 => ⟨S_, .i64⟩
  | 110 => ⟨S1024x1024x1, .i64⟩
  | 111 => ⟨S1024x1024x1, .i64⟩
  | 112 => ⟨S_, .i64⟩
  | 113 => ⟨S1024x1024x1, .i64⟩
  | 114 => ⟨S1024x1024x1, .i64⟩
  | 115 => ⟨S1024x1024x1, .i64⟩
  | 116 => ⟨S1024x1024x1, .i64⟩
  | 117 => ⟨S_, .i64⟩
  | 118 => ⟨S1024x1024x1, .i64⟩
  | 119 => ⟨S1024x1024x1, .i64⟩
  | 120 => ⟨S1024x1024x1, .i32⟩
  | 121 => ⟨S1024x1024x1, .i32⟩
  | 122 => ⟨S_, .i32⟩
  | 123 => ⟨S_, .i32⟩
  | 124 => ⟨S_, .i32⟩
  | 125 => ⟨S1024x1024x1, .i32⟩
  | 126 => ⟨S1024x1024x1, .i32⟩
  | 127 => ⟨S1024x1024x1, .i32⟩
  | _ => ⟨S1024x50x1, .f32⟩

abbrev hbmTy0_7 (i : Nat) : BufTy := match i % 128 with
  | 0 => ⟨S1024x1024x1, .i32⟩
  | 1 => ⟨S1024x1024x1, .i32⟩
  | 2 => ⟨S_, .i32⟩
  | 3 => ⟨S1024x1024x1, .i32⟩
  | 4 => ⟨S1024x1024x1, .i32⟩
  | 5 => ⟨S_, .i32⟩
  | 6 => ⟨S1024x1024x1, .i32⟩
  | 7 => ⟨S1024x1024x1, .i32⟩
  | 8 => ⟨S1024x1024x1, .i32⟩
  | 9 => ⟨S1024x1024x1, .i32⟩
  | 10 => ⟨S1024x1024x1, .i32⟩
  | 11 => ⟨S_, .i32⟩
  | 12 => ⟨S1024x1024x1, .i32⟩
  | 13 => ⟨S1024x1024x1, .i32⟩
  | 14 => ⟨S_, .i32⟩
  | 15 => ⟨S1024x1024x1, .i32⟩
  | 16 => ⟨S1024x1024x1, .i32⟩
  | 17 => ⟨S1024x1024x1, .i32⟩
  | 18 => ⟨S1024x1024x1, .i32⟩
  | 19 => ⟨S1024x1024x1, .i32⟩
  | 20 => ⟨S_, .i32⟩
  | 21 => ⟨S1024x1024x1, .i32⟩
  | 22 => ⟨S1024x1024x1, .i32⟩
  | 23 => ⟨S_, .i32⟩
  | 24 => ⟨S1024x1024x1, .i32⟩
  | 25 => ⟨S1024x1024x1, .i32⟩
  | 26 => ⟨S1024x1024x1, .i32⟩
  | 27 => ⟨S1024x1024x1, .i32⟩
  | 28 => ⟨S1024x1024x1, .i32⟩
  | 29 => ⟨S_, .i32⟩
  | 30 => ⟨S1024x1024x1, .i32⟩
  | 31 => ⟨S1024x1024x1, .i32⟩
  | 32 => ⟨S_, .i32⟩
  | 33 => ⟨S1024x1024x1, .i32⟩
  | 34 => ⟨S1024x1024x1, .i32⟩
  | 35 => ⟨S1024x1024x1, .i32⟩
  | 36 => ⟨S1024x1024x1, .i32⟩
  | 37 => ⟨S1024x1024x1, .i32⟩
  | 38 => ⟨S1024x1024x1, .i32⟩
  | 39 => ⟨S1024x1024x1, .i32⟩
  | 40 => ⟨S1024x1024x1, .i32⟩
  | 41 => ⟨S_, .i32⟩
  | 42 => ⟨S1024x1024x1, .i32⟩
  | 43 => ⟨S1024x1024x1, .i32⟩
  | 44 => ⟨S1024x1024x1, .i32⟩
  | 45 => ⟨S_, .i32⟩
  | 46 => ⟨S1024x1024x1, .i32⟩
  | 47 => ⟨S1024x1024x1, .i32⟩
  | 48 => ⟨S_, .i32⟩
  | 49 => ⟨S1024x1024x1, .i32⟩
  | 50 => ⟨S1024x1024x1, .i32⟩
  | 51 => ⟨S1024x1024x1, .i32⟩
  | 52 => ⟨S1024x1024x1, .i32⟩
  | 53 => ⟨S1024x1024x1, .i32⟩
  | 54 => ⟨S_, .i32⟩
  | 55 => ⟨S1024x1024x1, .i32⟩
  | 56 => ⟨S1024x1024x1, .i32⟩
  | 57 => ⟨S_, .i32⟩
  | 58 => ⟨S1024x1024x1, .i32⟩
  | 59 => ⟨S1024x1024x1, .i32⟩
  | 60 => ⟨S1024x1024x1, .i32⟩
  | 61 => ⟨S1024x1024x1, .i32⟩
  | 62 => ⟨S1024x1024x1, .i32⟩
  | 63 => ⟨S_, .i32⟩
  | 64 => ⟨S1024x1024x1, .i32⟩
  | 65 => ⟨S1024x1024x1, .i32⟩
  | 66 => ⟨S_, .i32⟩
  | 67 => ⟨S1024x1024x1, .i32⟩
  | 68 => ⟨S1024x1024x1, .i32⟩
  | 69 => ⟨S1024x1024x1, .i32⟩
  | 70 => ⟨S1024x1024x1, .i32⟩
  | 71 => ⟨S1024x1024x1, .i32⟩
  | 72 => ⟨S_, .i32⟩
  | 73 => ⟨S1024x1024x1, .i32⟩
  | 74 => ⟨S1024x1024x1, .i32⟩
  | 75 => ⟨S_, .i32⟩
  | 76 => ⟨S1024x1024x1, .i32⟩
  | 77 => ⟨S1024x1024x1, .i32⟩
  | 78 => ⟨S1024x1024x1, .i32⟩
  | 79 => ⟨S1024x1024x1, .i32⟩
  | 80 => ⟨S1024x1024x1, .i32⟩
  | 81 => ⟨S1024x1024x1, .i32⟩
  | 82 => ⟨S1024x1024x1, .i32⟩
  | 83 => ⟨S1024x1024x1, .i32⟩
  | 84 => ⟨S_, .i32⟩
  | 85 => ⟨S1024x1024x1, .i32⟩
  | 86 => ⟨S1024x1024x1, .i32⟩
  | 87 => ⟨S1024x1024x1, .i32⟩
  | 88 => ⟨S_, .i32⟩
  | 89 => ⟨S1024x1024x1, .i32⟩
  | 90 => ⟨S1024x1024x1, .i32⟩
  | 91 => ⟨S_, .i32⟩
  | 92 => ⟨S1024x1024x1, .i32⟩
  | 93 => ⟨S1024x1024x1, .i32⟩
  | 94 => ⟨S1024x1024x1, .i32⟩
  | 95 => ⟨S1024x1024x1, .i32⟩
  | 96 => ⟨S1024x1024x1, .i32⟩
  | 97 => ⟨S_, .i32⟩
  | 98 => ⟨S1024x1024x1, .i32⟩
  | 99 => ⟨S1024x1024x1, .i32⟩
  | 100 => ⟨S_, .i32⟩
  | 101 => ⟨S1024x1024x1, .i32⟩
  | 102 => ⟨S1024x1024x1, .i32⟩
  | 103 => ⟨S1024x1024x1, .i32⟩
  | 104 => ⟨S1024x1024x1, .i32⟩
  | 105 => ⟨S1024x1024x1, .i32⟩
  | 106 => ⟨S_, .i32⟩
  | 107 => ⟨S1024x1024x1, .i32⟩
  | 108 => ⟨S1024x1024x1, .i32⟩
  | 109 => ⟨S_, .i32⟩
  | 110 => ⟨S1024x1024x1, .i32⟩
  | 111 => ⟨S1024x1024x1, .i32⟩
  | 112 => ⟨S1024x1024x1, .i32⟩
  | 113 => ⟨S1024x1024x1, .i32⟩
  | 114 => ⟨S1024x1024x1, .i32⟩
  | 115 => ⟨S_, .i32⟩
  | 116 => ⟨S1024x1024x1, .i32⟩
  | 117 => ⟨S1024x1024x1, .i32⟩
  | 118 => ⟨S_, .i32⟩
  | 119 => ⟨S1024x1024x1, .i32⟩
  | 120 => ⟨S1024x1024x1, .i32⟩
  | 121 => ⟨S1024x1024x1, .i32⟩
  | 122 => ⟨S1024x1024x1, .i32⟩
  | 123 => ⟨S1024x1024x1, .i32⟩
  | 124 => ⟨S1024x1024x1, .i32⟩
  | 125 => ⟨S1024x1024x1, .i32⟩
  | 126 => ⟨S1024x1024x1, .i32⟩
  | 127 => ⟨S_, .i32⟩
  | _ => ⟨S1024x50x1, .f32⟩

abbrev hbmTy0_8 (i : Nat) : BufTy := match i % 128 with
  | 0 => ⟨S1024x1024x1, .i32⟩
  | 1 => ⟨S1024x1024x1, .i32⟩
  | 2 => ⟨S1024x1024x1, .i32⟩
  | 3 => ⟨S_, .i32⟩
  | 4 => ⟨S1024x1024x1, .i32⟩
  | 5 => ⟨S1024x1024x1, .i32⟩
  | 6 => ⟨S_, .i32⟩
  | 7 => ⟨S1024x1024x1, .i32⟩
  | 8 => ⟨S1024x1024x1, .i32⟩
  | 9 => ⟨S1024x1024x1, .i32⟩
  | 10 => ⟨S1024x1024x1, .i32⟩
  | 11 => ⟨S1024x1024x1, .i32⟩
  | 12 => ⟨S_, .i32⟩
  | 13 => ⟨S1024x1024x1, .i32⟩
  | 14 => ⟨S1024x1024x1, .i32⟩
  | 15 => ⟨S_, .i32⟩
  | 16 => ⟨S1024x1024x1, .i32⟩
  | 17 => ⟨S1024x1024x1, .i32⟩
  | 18 => ⟨S1024x1024x1, .i32⟩
  | 19 => ⟨S1024x1024x1, .i32⟩
  | 20 => ⟨S1024x1024x1, .i32⟩
  | 21 => ⟨S_, .i32⟩
  | 22 => ⟨S1024x1024x1, .i32⟩
  | 23 => ⟨S1024x1024x1, .i32⟩
  | 24 => ⟨S_, .i32⟩
  | 25 => ⟨S1024x1024x1, .i32⟩
  | 26 => ⟨S1024x1024x1, .i32⟩
  | 27 => ⟨S1024x1024x1, .i32⟩
  | 28 => ⟨S1024x1024x1, .i32⟩
  | 29 => ⟨S1024x1024x1, .i32⟩
  | 30 => ⟨S_, .i32⟩
  | 31 => ⟨S1024x1024x1, .i32⟩
  | 32 => ⟨S1024x1024x1, .i32⟩
  | 33 => ⟨S_, .i32⟩
  | 34 => ⟨S1024x1024x1, .i32⟩
  | 35 => ⟨S1024x1024x1, .i32⟩
  | 36 => ⟨S1024x1024x1, .i32⟩
  | 37 => ⟨S1024x1024x1, .i32⟩
  | 38 => ⟨S1024x1024x1, .i32⟩
  | 39 => ⟨S1024x1024x1, .i32⟩
  | 40 => ⟨S1024x1024x1, .i32⟩
  | 41 => ⟨S1024x1024x1, .i32⟩
  | 42 => ⟨S_, .i32⟩
  | 43 => ⟨S1024x1024x1, .i32⟩
  | 44 => ⟨S1024x1024x1, .i32⟩
  | 45 => ⟨S1024x1024x1, .i32⟩
  | 46 => ⟨S_, .i32⟩
  | 47 => ⟨S1024x1024x1, .i32⟩
  | 48 => ⟨S1024x1024x1, .i32⟩
  | 49 => ⟨S_, .i32⟩
  | 50 => ⟨S1024x1024x1, .i32⟩
  | 51 => ⟨S1024x1024x1, .i32⟩
  | 52 => ⟨S1024x1024x1, .i32⟩
  | 53 => ⟨S1024x1024x1, .i32⟩
  | 54 => ⟨S1024x1024x1, .i32⟩
  | 55 => ⟨S_, .i32⟩
  | 56 => ⟨S1024x1024x1, .i32⟩
  | 57 => ⟨S1024x1024x1, .i32⟩
  | 58 => ⟨S_, .i32⟩
  | 59 => ⟨S1024x1024x1, .i32⟩
  | 60 => ⟨S1024x1024x1, .i32⟩
  | 61 => ⟨S1024x1024x1, .i32⟩
  | 62 => ⟨S1024x1024x1, .i32⟩
  | 63 => ⟨S1024x1024x1, .i32⟩
  | 64 => ⟨S_, .i32⟩
  | 65 => ⟨S1024x1024x1, .i32⟩
  | 66 => ⟨S1024x1024x1, .i32⟩
  | 67 => ⟨S_, .i32⟩
  | 68 => ⟨S1024x1024x1, .i32⟩
  | 69 => ⟨S1024x1024x1, .i32⟩
  | 70 => ⟨S1024x1024x1, .i32⟩
  | 71 => ⟨S1024x1024x1, .i32⟩
  | 72 => ⟨S1024x1024x1, .i32⟩
  | 73 => ⟨S_, .i32⟩
  | 74 => ⟨S1024x1024x1, .i32⟩
  | 75 => ⟨S1024x1024x1, .i32⟩
  | 76 => ⟨S_, .i32⟩
  | 77 => ⟨S1024x1024x1, .i32⟩
  | 78 => ⟨S1024x1024x1, .i32⟩
  | 79 => ⟨S1024x1024x1, .i32⟩
  | 80 => ⟨S1024x1024x1, .i32⟩
  | 81 => ⟨S1024x1024x1, .i32⟩
  | 82 => ⟨S1024x1024x1, .i32⟩
  | 83 => ⟨S1024x1024x1, .i32⟩
  | 84 => ⟨S1024x1024x1, .i32⟩
  | 85 => ⟨S_, .i32⟩
  | 86 => ⟨S1024x1024x1, .i32⟩
  | 87 => ⟨S1024x1024x1, .i32⟩
  | 88 => ⟨S1024x1024x1, .i32⟩
  | 89 => ⟨S_, .i32⟩
  | 90 => ⟨S1024x1024x1, .i32⟩
  | 91 => ⟨S1024x1024x1, .i32⟩
  | 92 => ⟨S_, .i32⟩
  | 93 => ⟨S1024x1024x1, .i32⟩
  | 94 => ⟨S1024x1024x1, .i32⟩
  | 95 => ⟨S1024x1024x1, .f32⟩
  | 96 => ⟨S_, .f32⟩
  | 97 => ⟨S1024x1024x1, .f32⟩
  | 98 => ⟨S1024x1024x1, .f32⟩
  | 99 => ⟨S_, .f32⟩
  | 100 => ⟨S1024x1024x1, .f32⟩
  | 101 => ⟨S1024x1024x1, .f32⟩
  | 102 => ⟨S_, .f32⟩
  | 103 => ⟨S1024x1024x1, .f32⟩
  | 104 => ⟨S1024x1024x1, .f32⟩
  | 105 => ⟨S_, .f32⟩
  | 106 => ⟨S1024x1024x1, .f32⟩
  | 107 => ⟨S1024x1024x1, .f32⟩
  | 108 => ⟨S_, .f32⟩
  | 109 => ⟨S_, .f32⟩
  | 110 => ⟨S1024x1024x1, .f32⟩
  | 111 => ⟨S1024x1024x1, .f32⟩
  | 112 => ⟨S1024x1024x1, .f32⟩
  | 113 => ⟨S1024x1024x1, .f32⟩
  | 114 => ⟨S_, .f32⟩
  | 115 => ⟨S1024x1024x1, .f32⟩
  | 116 => ⟨S1024x1024x1, .i1⟩
  | 117 => ⟨S_, .f32⟩
  | 118 => ⟨S1024x1024x1, .f32⟩
  | 119 => ⟨S1024x1024x1, .f32⟩
  | 120 => ⟨S_, .f32⟩
  | 121 => ⟨S1024x1024x1, .f32⟩
  | 122 => ⟨S1024x1024x1, .f32⟩
  | 123 => ⟨S_, .f32⟩
  | 124 => ⟨S1024x1024x1, .f32⟩
  | 125 => ⟨S1024x1024x1, .f32⟩
  | 126 => ⟨S1024x1024x1, .f32⟩
  | 127 => ⟨S_, .f32⟩
  | _ => ⟨S1024x50x1, .f32⟩

abbrev hbmTy0_9 (i : Nat) : BufTy := match i % 128 with
  | 0 => ⟨S1024x1024x1, .f32⟩
  | 1 => ⟨S1024x1024x1, .f32⟩
  | 2 => ⟨S1024x1024x1, .f32⟩
  | 3 => ⟨S_, .f32⟩
  | 4 => ⟨S1024x1024x1, .f32⟩
  | 5 => ⟨S1024x1024x1, .f32⟩
  | 6 => ⟨S1024x1024x1, .f32⟩
  | 7 => ⟨S_, .f32⟩
  | 8 => ⟨S1024x1024x1, .f32⟩
  | 9 => ⟨S1024x1024x1, .f32⟩
  | 10 => ⟨S1024x1024x1, .f32⟩
  | 11 => ⟨S_, .f32⟩
  | 12 => ⟨S1024x1024x1, .f32⟩
  | 13 => ⟨S1024x1024x1, .f32⟩
  | 14 => ⟨S1024x1024x1, .f32⟩
  | 15 => ⟨S_, .f32⟩
  | 16 => ⟨S1024x1024x1, .f32⟩
  | 17 => ⟨S1024x1024x1, .f32⟩
  | 18 => ⟨S1024x1024x1, .f32⟩
  | 19 => ⟨S_, .f32⟩
  | 20 => ⟨S1024x1024x1, .f32⟩
  | 21 => ⟨S1024x1024x1, .f32⟩
  | 22 => ⟨S1024x1024x1, .f32⟩
  | 23 => ⟨S_, .f32⟩
  | 24 => ⟨S1024x1024x1, .f32⟩
  | 25 => ⟨S1024x1024x1, .f32⟩
  | 26 => ⟨S1024x1024x1, .f32⟩
  | 27 => ⟨S_, .f32⟩
  | 28 => ⟨S1024x1024x1, .f32⟩
  | 29 => ⟨S1024x1024x1, .f32⟩
  | 30 => ⟨S_, .f32⟩
  | 31 => ⟨S1024x1024x1, .f32⟩
  | 32 => ⟨S1024x1024x1, .f32⟩
  | 33 => ⟨S_, .f32⟩
  | 34 => ⟨S1024x1024x1, .f32⟩
  | 35 => ⟨S1024x1024x1, .f32⟩
  | 36 => ⟨S1024x1024x1, .f32⟩
  | 37 => ⟨S_, .f32⟩
  | 38 => ⟨S1024x1024x1, .f32⟩
  | 39 => ⟨S1024x1024x1, .f32⟩
  | 40 => ⟨S1024x1024x1, .f32⟩
  | 41 => ⟨S_, .f32⟩
  | 42 => ⟨S1024x1024x1, .f32⟩
  | 43 => ⟨S1024x1024x1, .f32⟩
  | 44 => ⟨S1024x1024x1, .f32⟩
  | 45 => ⟨S_, .f32⟩
  | 46 => ⟨S1024x1024x1, .f32⟩
  | 47 => ⟨S1024x1024x1, .f32⟩
  | 48 => ⟨S1024x1024x1, .f32⟩
  | 49 => ⟨S_, .f32⟩
  | 50 => ⟨S1024x1024x1, .f32⟩
  | 51 => ⟨S1024x1024x1, .f32⟩
  | 52 => ⟨S1024x1024x1, .f32⟩
  | 53 => ⟨S_, .f32⟩
  | 54 => ⟨S1024x1024x1, .f32⟩
  | 55 => ⟨S1024x1024x1, .f32⟩
  | 56 => ⟨S1024x1024x1, .f32⟩
  | 57 => ⟨S_, .f32⟩
  | 58 => ⟨S1024x1024x1, .f32⟩
  | 59 => ⟨S1024x1024x1, .f32⟩
  | 60 => ⟨S1024x1024x1, .f32⟩
  | 61 => ⟨S_, .f32⟩
  | 62 => ⟨S1024x1024x1, .f32⟩
  | 63 => ⟨S1024x1024x1, .f32⟩
  | 64 => ⟨S1024x1024x1, .f32⟩
  | 65 => ⟨S1024x1024x1, .f32⟩
  | 66 => ⟨S1024x1024x1, .f32⟩
  | 67 => ⟨S1024x1024x1, .f32⟩
  | 68 => ⟨S_, .f32⟩
  | 69 => ⟨S1024x1024x1, .f32⟩
  | 70 => ⟨S1024x1024x1, .f32⟩
  | 71 => ⟨S_, .f32⟩
  | 72 => ⟨S1024x1024x1, .f32⟩
  | 73 => ⟨S1024x1024x1, .f32⟩
  | 74 => ⟨S1024x1024x1, .f32⟩
  | 75 => ⟨S_, .f32⟩
  | 76 => ⟨S1024x1024x1, .f32⟩
  | 77 => ⟨S1024x1024x1, .f32⟩
  | 78 => ⟨S1024x1024x1, .f32⟩
  | 79 => ⟨S_, .f32⟩
  | 80 => ⟨S_, .f32⟩
  | 81 => ⟨S_, .f32⟩
  | 82 => ⟨S_, .f32⟩
  | 83 => ⟨S_, .f32⟩
  | 84 => ⟨S1024x1024x1, .f32⟩
  | 85 => ⟨S1024x1024x1, .f32⟩
  | 86 => ⟨S1024x1024x1, .f32⟩
  | 87 => ⟨S_, .f32⟩
  | 88 => ⟨S1024x1024x1, .f32⟩
  | 89 => ⟨S1024x1024x1, .f32⟩
  | 90 => ⟨S1024x1024x1, .f32⟩
  | 91 => ⟨S1024x1024x1, .f32⟩
  | 92 => ⟨S_, .f32⟩
  | 93 => ⟨S1024x1024x1, .f32⟩
  | 94 => ⟨S1024x1024x1, .f32⟩
  | 95 => ⟨S1024x1x1, .f32⟩
  | 96 => ⟨S1024x1024x1, .f32⟩
  | 97 => ⟨S1024x1024x1, .f32⟩
  | 98 => ⟨S1024x1024x1, .f32⟩
  | 99 => ⟨S_, .f32⟩
  | 100 => ⟨S1024x1024, .f32⟩
  | 101 => ⟨S_, .f32⟩
  | 102 => ⟨S1024x1024, .f32⟩
  | 103 => ⟨S1024x1024, .f32⟩
  | 104 => ⟨S_, .f32⟩
  | 105 => ⟨S1024x1024, .f32⟩
  | 106 => ⟨S1024x1024, .f32⟩
  | 107 => ⟨S1024x1024, .f32⟩
  | 108 => ⟨S_, .f32⟩
  | 109 => ⟨S1024x1024, .f32⟩
  | 110 => ⟨S1024x1024, .f32⟩
  | 111 => ⟨S1024x1024, .f32⟩
  | 112 => ⟨S_, .f32⟩
  | 113 => ⟨S1024, .f32⟩
  | 114 => ⟨S1024x1, .f32⟩
  | 115 => ⟨S_, .f32⟩
  | 116 => ⟨S1024x1, .f32⟩
  | 117 => ⟨S1024x1, .f32⟩
  | 118 => ⟨S1024x1024, .f32⟩
  | 119 => ⟨S1024x1024, .f32⟩
  | 120 => ⟨S1024x1024x1, .f32⟩
  | 121 => ⟨S1024x1024x1, .f32⟩
  | 122 => ⟨S_, .f32⟩
  | 123 => ⟨S1024x1, .f32⟩
  | 124 => ⟨S1024x1024, .f32⟩
  | 125 => ⟨S_, .f32⟩
  | 126 => ⟨S1024, .f32⟩
  | 127 => ⟨S_, .f32⟩
  | _ => ⟨S1024x50x1, .f32⟩

abbrev hbmTy0_10 (i : Nat) : BufTy := match i % 128 with
  | 0 => ⟨S1024, .f32⟩
  | 1 => ⟨S1024, .f32⟩
  | 2 => ⟨S1x1024x1, .f32⟩
  | 3 => ⟨S_, .i32⟩
  | 4 => ⟨S_, .i32⟩
  | 5 => ⟨S50x1024x1, .f32⟩
  | 6 => ⟨S1x1024, .f32⟩
  | 7 => ⟨S_, .i32⟩
  | 8 => ⟨S50x1024, .f32⟩
  | 9 => ⟨S_, .i32⟩
  | 10 => ⟨S_, .i32⟩
  | 11 => ⟨S1024x50x1, .f32⟩
  | 12 => ⟨S1024x50, .f32⟩
  | _ => ⟨S1024x50x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S1024x50x1, .f32⟩

abbrev bufTy : (tb : Table) → Fin (tcTables nBuf tb) → BufTy
  | .hbm, ⟨i, _⟩ => hbmTy i
  | _, _ => ⟨S1024x50x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_2 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_c_0 : Ref sig .tc := ⟨.hbm, 26, rfl⟩
abbrev main_call0_v7 : Ref sig .tc := ⟨.hbm, 27, rfl⟩
abbrev main_call0_v8 : Ref sig .tc := ⟨.hbm, 28, rfl⟩
abbrev main_call0_c_1 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_c_2 : Ref sig .tc := ⟨.hbm, 35, rfl⟩
abbrev main_call0_v14 : Ref sig .tc := ⟨.hbm, 36, rfl⟩
abbrev main_call0_v15 : Ref sig .tc := ⟨.hbm, 37, rfl⟩
abbrev main_call0_c_3 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_call0_v20 : Ref sig .tc := ⟨.hbm, 43, rfl⟩
abbrev main_call0_c_4 : Ref sig .tc := ⟨.hbm, 44, rfl⟩
abbrev main_call0_v21 : Ref sig .tc := ⟨.hbm, 45, rfl⟩
abbrev main_call0_v22 : Ref sig .tc := ⟨.hbm, 46, rfl⟩
abbrev main_call0_c_5 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_call0_v26 : Ref sig .tc := ⟨.hbm, 51, rfl⟩
abbrev main_call0_v27 : Ref sig .tc := ⟨.hbm, 52, rfl⟩
abbrev main_call0_c_6 : Ref sig .tc := ⟨.hbm, 53, rfl⟩
abbrev main_call0_v28 : Ref sig .tc := ⟨.hbm, 54, rfl⟩
abbrev main_call0_v29 : Ref sig .tc := ⟨.hbm, 55, rfl⟩
abbrev main_call0_c_7 : Ref sig .tc := ⟨.hbm, 56, rfl⟩
abbrev main_call0_v30 : Ref sig .tc := ⟨.hbm, 57, rfl⟩
abbrev main_call0_v31 : Ref sig .tc := ⟨.hbm, 58, rfl⟩
abbrev main_call0_v32 : Ref sig .tc := ⟨.hbm, 59, rfl⟩
abbrev main_call0_v33 : Ref sig .tc := ⟨.hbm, 60, rfl⟩
abbrev main_call0_v34 : Ref sig .tc := ⟨.hbm, 61, rfl⟩
abbrev main_call0_v35 : Ref sig .tc := ⟨.hbm, 62, rfl⟩
abbrev main_call0_v36 : Ref sig .tc := ⟨.hbm, 63, rfl⟩
abbrev main_call0_v37 : Ref sig .tc := ⟨.hbm, 64, rfl⟩
abbrev main_call0_c_8 : Ref sig .tc := ⟨.hbm, 65, rfl⟩
abbrev main_call0_v38 : Ref sig .tc := ⟨.hbm, 66, rfl⟩
abbrev main_call0_v39 : Ref sig .tc := ⟨.hbm, 67, rfl⟩
abbrev main_call0_v40 : Ref sig .tc := ⟨.hbm, 68, rfl⟩
abbrev main_call0_c_9 : Ref sig .tc := ⟨.hbm, 69, rfl⟩
abbrev main_call0_v41 : Ref sig .tc := ⟨.hbm, 70, rfl⟩
abbrev main_call0_v42 : Ref sig .tc := ⟨.hbm, 71, rfl⟩
abbrev main_call0_c_10 : Ref sig .tc := ⟨.hbm, 72, rfl⟩
abbrev main_call0_v43 : Ref sig .tc := ⟨.hbm, 73, rfl⟩
abbrev main_call0_v44 : Ref sig .tc := ⟨.hbm, 74, rfl⟩
abbrev main_call0_v45 : Ref sig .tc := ⟨.hbm, 75, rfl⟩
abbrev main_call0_v46 : Ref sig .tc := ⟨.hbm, 76, rfl⟩
abbrev main_call0_v47 : Ref sig .tc := ⟨.hbm, 77, rfl⟩
abbrev main_call0_c_11 : Ref sig .tc := ⟨.hbm, 78, rfl⟩
abbrev main_call0_v48 : Ref sig .tc := ⟨.hbm, 79, rfl⟩
abbrev main_call0_v49 : Ref sig .tc := ⟨.hbm, 80, rfl⟩
abbrev main_call0_c_12 : Ref sig .tc := ⟨.hbm, 81, rfl⟩
abbrev main_call0_v50 : Ref sig .tc := ⟨.hbm, 82, rfl⟩
abbrev main_call0_v51 : Ref sig .tc := ⟨.hbm, 83, rfl⟩
abbrev main_call0_v52 : Ref sig .tc := ⟨.hbm, 84, rfl⟩
abbrev main_call0_v53 : Ref sig .tc := ⟨.hbm, 85, rfl⟩
abbrev main_call0_v54 : Ref sig .tc := ⟨.hbm, 86, rfl⟩
abbrev main_call0_c_13 : Ref sig .tc := ⟨.hbm, 87, rfl⟩
abbrev main_call0_v55 : Ref sig .tc := ⟨.hbm, 88, rfl⟩
abbrev main_call0_v56 : Ref sig .tc := ⟨.hbm, 89, rfl⟩
abbrev main_call0_c_14 : Ref sig .tc := ⟨.hbm, 90, rfl⟩
abbrev main_call0_v57 : Ref sig .tc := ⟨.hbm, 91, rfl⟩
abbrev main_call0_v58 : Ref sig .tc := ⟨.hbm, 92, rfl⟩
abbrev main_call0_v59 : Ref sig .tc := ⟨.hbm, 93, rfl⟩
abbrev main_call0_v60 : Ref sig .tc := ⟨.hbm, 94, rfl⟩
abbrev main_call0_v61 : Ref sig .tc := ⟨.hbm, 95, rfl⟩
abbrev main_call0_c_15 : Ref sig .tc := ⟨.hbm, 96, rfl⟩
abbrev main_call0_v62 : Ref sig .tc := ⟨.hbm, 97, rfl⟩
abbrev main_call0_v63 : Ref sig .tc := ⟨.hbm, 98, rfl⟩
abbrev main_call0_c_16 : Ref sig .tc := ⟨.hbm, 99, rfl⟩
abbrev main_call0_v64 : Ref sig .tc := ⟨.hbm, 100, rfl⟩
abbrev main_call0_v65 : Ref sig .tc := ⟨.hbm, 101, rfl⟩
abbrev main_call0_v66 : Ref sig .tc := ⟨.hbm, 102, rfl⟩
abbrev main_call0_v67 : Ref sig .tc := ⟨.hbm, 103, rfl⟩
abbrev main_call0_v68 : Ref sig .tc := ⟨.hbm, 104, rfl⟩
abbrev main_call0_v69 : Ref sig .tc := ⟨.hbm, 105, rfl⟩
abbrev main_call0_v70 : Ref sig .tc := ⟨.hbm, 106, rfl⟩
abbrev main_call0_v71 : Ref sig .tc := ⟨.hbm, 107, rfl⟩
abbrev main_call0_c_17 : Ref sig .tc := ⟨.hbm, 108, rfl⟩
abbrev main_call0_v72 : Ref sig .tc := ⟨.hbm, 109, rfl⟩
abbrev main_call0_v73 : Ref sig .tc := ⟨.hbm, 110, rfl⟩
abbrev main_call0_v74 : Ref sig .tc := ⟨.hbm, 111, rfl⟩
abbrev main_call0_c_18 : Ref sig .tc := ⟨.hbm, 112, rfl⟩
abbrev main_call0_v75 : Ref sig .tc := ⟨.hbm, 113, rfl⟩
abbrev main_call0_v76 : Ref sig .tc := ⟨.hbm, 114, rfl⟩
abbrev main_call0_c_19 : Ref sig .tc := ⟨.hbm, 115, rfl⟩
abbrev main_call0_v77 : Ref sig .tc := ⟨.hbm, 116, rfl⟩
abbrev main_call0_v78 : Ref sig .tc := ⟨.hbm, 117, rfl⟩
abbrev main_call0_v79 : Ref sig .tc := ⟨.hbm, 118, rfl⟩
abbrev main_call0_v80 : Ref sig .tc := ⟨.hbm, 119, rfl⟩
abbrev main_call0_v81 : Ref sig .tc := ⟨.hbm, 120, rfl⟩
abbrev main_call0_c_20 : Ref sig .tc := ⟨.hbm, 121, rfl⟩
abbrev main_call0_v82 : Ref sig .tc := ⟨.hbm, 122, rfl⟩
abbrev main_call0_v83 : Ref sig .tc := ⟨.hbm, 123, rfl⟩
abbrev main_call0_c_21 : Ref sig .tc := ⟨.hbm, 124, rfl⟩
abbrev main_call0_v84 : Ref sig .tc := ⟨.hbm, 125, rfl⟩
abbrev main_call0_v85 : Ref sig .tc := ⟨.hbm, 126, rfl⟩
abbrev main_call0_v86 : Ref sig .tc := ⟨.hbm, 127, rfl⟩
abbrev main_call0_v87 : Ref sig .tc := ⟨.hbm, 128, rfl⟩
abbrev main_call0_v88 : Ref sig .tc := ⟨.hbm, 129, rfl⟩
abbrev main_call0_c_22 : Ref sig .tc := ⟨.hbm, 130, rfl⟩
abbrev main_call0_v89 : Ref sig .tc := ⟨.hbm, 131, rfl⟩
abbrev main_call0_v90 : Ref sig .tc := ⟨.hbm, 132, rfl⟩
abbrev main_call0_c_23 : Ref sig .tc := ⟨.hbm, 133, rfl⟩
abbrev main_call0_v91 : Ref sig .tc := ⟨.hbm, 134, rfl⟩
abbrev main_call0_v92 : Ref sig .tc := ⟨.hbm, 135, rfl⟩
abbrev main_call0_v93 : Ref sig .tc := ⟨.hbm, 136, rfl⟩
abbrev main_call0_v94 : Ref sig .tc := ⟨.hbm, 137, rfl⟩
abbrev main_call0_v95 : Ref sig .tc := ⟨.hbm, 138, rfl⟩
abbrev main_call0_c_24 : Ref sig .tc := ⟨.hbm, 139, rfl⟩
abbrev main_call0_v96 : Ref sig .tc := ⟨.hbm, 140, rfl⟩
abbrev main_call0_v97 : Ref sig .tc := ⟨.hbm, 141, rfl⟩
abbrev main_call0_c_25 : Ref sig .tc := ⟨.hbm, 142, rfl⟩
abbrev main_call0_v98 : Ref sig .tc := ⟨.hbm, 143, rfl⟩
abbrev main_call0_v99 : Ref sig .tc := ⟨.hbm, 144, rfl⟩
abbrev main_call0_v100 : Ref sig .tc := ⟨.hbm, 145, rfl⟩
abbrev main_call0_v101 : Ref sig .tc := ⟨.hbm, 146, rfl⟩
abbrev main_call0_v102 : Ref sig .tc := ⟨.hbm, 147, rfl⟩
abbrev main_call0_v103 : Ref sig .tc := ⟨.hbm, 148, rfl⟩
abbrev main_call0_v104 : Ref sig .tc := ⟨.hbm, 149, rfl⟩
abbrev main_call0_v105 : Ref sig .tc := ⟨.hbm, 150, rfl⟩
abbrev main_call0_c_26 : Ref sig .tc := ⟨.hbm, 151, rfl⟩
abbrev main_call0_v106 : Ref sig .tc := ⟨.hbm, 152, rfl⟩
abbrev main_call0_v107 : Ref sig .tc := ⟨.hbm, 153, rfl⟩
abbrev main_call0_v108 : Ref sig .tc := ⟨.hbm, 154, rfl⟩
abbrev main_call0_c_27 : Ref sig .tc := ⟨.hbm, 155, rfl⟩
abbrev main_call0_v109 : Ref sig .tc := ⟨.hbm, 156, rfl⟩
abbrev main_call0_v110 : Ref sig .tc := ⟨.hbm, 157, rfl⟩
abbrev main_call0_c_28 : Ref sig .tc := ⟨.hbm, 158, rfl⟩
abbrev main_call0_v111 : Ref sig .tc := ⟨.hbm, 159, rfl⟩
abbrev main_call0_v112 : Ref sig .tc := ⟨.hbm, 160, rfl⟩
abbrev main_call0_v113 : Ref sig .tc := ⟨.hbm, 161, rfl⟩
abbrev main_call0_v114 : Ref sig .tc := ⟨.hbm, 162, rfl⟩
abbrev main_call0_v115 : Ref sig .tc := ⟨.hbm, 163, rfl⟩
abbrev main_call0_c_29 : Ref sig .tc := ⟨.hbm, 164, rfl⟩
abbrev main_call0_v116 : Ref sig .tc := ⟨.hbm, 165, rfl⟩
abbrev main_call0_v117 : Ref sig .tc := ⟨.hbm, 166, rfl⟩
abbrev main_call0_c_30 : Ref sig .tc := ⟨.hbm, 167, rfl⟩
abbrev main_call0_v118 : Ref sig .tc := ⟨.hbm, 168, rfl⟩
abbrev main_call0_v119 : Ref sig .tc := ⟨.hbm, 169, rfl⟩
abbrev main_call0_v120 : Ref sig .tc := ⟨.hbm, 170, rfl⟩
abbrev main_call0_v121 : Ref sig .tc := ⟨.hbm, 171, rfl⟩
abbrev main_call0_v122 : Ref sig .tc := ⟨.hbm, 172, rfl⟩
abbrev main_call0_c_31 : Ref sig .tc := ⟨.hbm, 173, rfl⟩
abbrev main_call0_v123 : Ref sig .tc := ⟨.hbm, 174, rfl⟩
abbrev main_call0_v124 : Ref sig .tc := ⟨.hbm, 175, rfl⟩
abbrev main_call0_c_32 : Ref sig .tc := ⟨.hbm, 176, rfl⟩
abbrev main_call0_v125 : Ref sig .tc := ⟨.hbm, 177, rfl⟩
abbrev main_call0_v126 : Ref sig .tc := ⟨.hbm, 178, rfl⟩
abbrev main_call0_v127 : Ref sig .tc := ⟨.hbm, 179, rfl⟩
abbrev main_call0_v128 : Ref sig .tc := ⟨.hbm, 180, rfl⟩
abbrev main_call0_v129 : Ref sig .tc := ⟨.hbm, 181, rfl⟩
abbrev main_call0_c_33 : Ref sig .tc := ⟨.hbm, 182, rfl⟩
abbrev main_call0_v130 : Ref sig .tc := ⟨.hbm, 183, rfl⟩
abbrev main_call0_v131 : Ref sig .tc := ⟨.hbm, 184, rfl⟩
abbrev main_call0_c_34 : Ref sig .tc := ⟨.hbm, 185, rfl⟩
abbrev main_call0_v132 : Ref sig .tc := ⟨.hbm, 186, rfl⟩
abbrev main_call0_v133 : Ref sig .tc := ⟨.hbm, 187, rfl⟩
abbrev main_call0_v134 : Ref sig .tc := ⟨.hbm, 188, rfl⟩
abbrev main_call0_v135 : Ref sig .tc := ⟨.hbm, 189, rfl⟩
abbrev main_call0_v136 : Ref sig .tc := ⟨.hbm, 190, rfl⟩
abbrev main_call0_v137 : Ref sig .tc := ⟨.hbm, 191, rfl⟩
abbrev main_call0_v138 : Ref sig .tc := ⟨.hbm, 192, rfl⟩
abbrev main_call0_v139 : Ref sig .tc := ⟨.hbm, 193, rfl⟩
abbrev main_call0_c_35 : Ref sig .tc := ⟨.hbm, 194, rfl⟩
abbrev main_call0_v140 : Ref sig .tc := ⟨.hbm, 195, rfl⟩
abbrev main_call0_v141 : Ref sig .tc := ⟨.hbm, 196, rfl⟩
abbrev main_call0_v142 : Ref sig .tc := ⟨.hbm, 197, rfl⟩
abbrev main_call0_c_36 : Ref sig .tc := ⟨.hbm, 198, rfl⟩
abbrev main_call0_v143 : Ref sig .tc := ⟨.hbm, 199, rfl⟩
abbrev main_call0_v144 : Ref sig .tc := ⟨.hbm, 200, rfl⟩
abbrev main_call0_c_37 : Ref sig .tc := ⟨.hbm, 201, rfl⟩
abbrev main_call0_v145 : Ref sig .tc := ⟨.hbm, 202, rfl⟩
abbrev main_call0_v146 : Ref sig .tc := ⟨.hbm, 203, rfl⟩
abbrev main_call0_v147 : Ref sig .tc := ⟨.hbm, 204, rfl⟩
abbrev main_call0_v148 : Ref sig .tc := ⟨.hbm, 205, rfl⟩
abbrev main_call0_v149 : Ref sig .tc := ⟨.hbm, 206, rfl⟩
abbrev main_call0_c_38 : Ref sig .tc := ⟨.hbm, 207, rfl⟩
abbrev main_call0_v150 : Ref sig .tc := ⟨.hbm, 208, rfl⟩
abbrev main_call0_v151 : Ref sig .tc := ⟨.hbm, 209, rfl⟩
abbrev main_call0_c_39 : Ref sig .tc := ⟨.hbm, 210, rfl⟩
abbrev main_call0_v152 : Ref sig .tc := ⟨.hbm, 211, rfl⟩
abbrev main_call0_v153 : Ref sig .tc := ⟨.hbm, 212, rfl⟩
abbrev main_call0_v154 : Ref sig .tc := ⟨.hbm, 213, rfl⟩
abbrev main_call0_v155 : Ref sig .tc := ⟨.hbm, 214, rfl⟩
abbrev main_call0_v156 : Ref sig .tc := ⟨.hbm, 215, rfl⟩
abbrev main_call0_c_40 : Ref sig .tc := ⟨.hbm, 216, rfl⟩
abbrev main_call0_v157 : Ref sig .tc := ⟨.hbm, 217, rfl⟩
abbrev main_call0_v158 : Ref sig .tc := ⟨.hbm, 218, rfl⟩
abbrev main_call0_c_41 : Ref sig .tc := ⟨.hbm, 219, rfl⟩
abbrev main_call0_v159 : Ref sig .tc := ⟨.hbm, 220, rfl⟩
abbrev main_call0_v160 : Ref sig .tc := ⟨.hbm, 221, rfl⟩
abbrev main_call0_v161 : Ref sig .tc := ⟨.hbm, 222, rfl⟩
abbrev main_call0_v162 : Ref sig .tc := ⟨.hbm, 223, rfl⟩
abbrev main_call0_v163 : Ref sig .tc := ⟨.hbm, 224, rfl⟩
abbrev main_call0_c_42 : Ref sig .tc := ⟨.hbm, 225, rfl⟩
abbrev main_call0_v164 : Ref sig .tc := ⟨.hbm, 226, rfl⟩
abbrev main_call0_v165 : Ref sig .tc := ⟨.hbm, 227, rfl⟩
abbrev main_call0_c_43 : Ref sig .tc := ⟨.hbm, 228, rfl⟩
abbrev main_call0_v166 : Ref sig .tc := ⟨.hbm, 229, rfl⟩
abbrev main_call0_v167 : Ref sig .tc := ⟨.hbm, 230, rfl⟩
abbrev main_call0_v168 : Ref sig .tc := ⟨.hbm, 231, rfl⟩
abbrev main_call0_v169 : Ref sig .tc := ⟨.hbm, 232, rfl⟩
abbrev main_call0_v170 : Ref sig .tc := ⟨.hbm, 233, rfl⟩
abbrev main_v13_0 : Ref sig .tc := ⟨.hbm, 234, rfl⟩
abbrev main_call0_v172 : Ref sig .tc := ⟨.hbm, 235, rfl⟩
abbrev main_call0_v173 : Ref sig .tc := ⟨.hbm, 236, rfl⟩
abbrev main_call0_c_44 : Ref sig .tc := ⟨.hbm, 237, rfl⟩
abbrev main_call0_v174 : Ref sig .tc := ⟨.hbm, 238, rfl⟩
abbrev main_v13_1 : Ref sig .tc := ⟨.hbm, 239, rfl⟩
abbrev main_v14 : Ref sig .tc := ⟨.hbm, 240, rfl⟩
abbrev main_v15 : Ref sig .tc := ⟨.hbm, 241, rfl⟩
abbrev main_v16 : Ref sig .tc := ⟨.hbm, 242, rfl⟩
abbrev main_v17 : Ref sig .tc := ⟨.hbm, 243, rfl⟩
abbrev main_v18 : Ref sig .tc := ⟨.hbm, 244, rfl⟩
abbrev main_v19 : Ref sig .tc := ⟨.hbm, 245, rfl⟩
abbrev main_v20 : Ref sig .tc := ⟨.hbm, 246, rfl⟩
abbrev main_v21 : Ref sig .tc := ⟨.hbm, 247, rfl⟩
abbrev main_v22 : Ref sig .tc := ⟨.hbm, 248, rfl⟩
abbrev main_v23 : Ref sig .tc := ⟨.hbm, 249, rfl⟩
abbrev main_v24 : Ref sig .tc := ⟨.hbm, 250, rfl⟩
abbrev main_v25 : Ref sig .tc := ⟨.hbm, 251, rfl⟩
abbrev main_v26 : Ref sig .tc := ⟨.hbm, 252, rfl⟩
abbrev main_v27 : Ref sig .tc := ⟨.hbm, 253, rfl⟩
abbrev main_c_3 : Ref sig .tc := ⟨.hbm, 254, rfl⟩
abbrev main_v28 : Ref sig .tc := ⟨.hbm, 255, rfl⟩
abbrev main_v29 : Ref sig .tc := ⟨.hbm, 256, rfl⟩
abbrev main_c_4 : Ref sig .tc := ⟨.hbm, 257, rfl⟩
abbrev main_v30 : Ref sig .tc := ⟨.hbm, 258, rfl⟩
abbrev main_v31 : Ref sig .tc := ⟨.hbm, 259, rfl⟩
abbrev main_c_5 : Ref sig .tc := ⟨.hbm, 260, rfl⟩
abbrev main_v32 : Ref sig .tc := ⟨.hbm, 261, rfl⟩
abbrev main_v33 : Ref sig .tc := ⟨.hbm, 262, rfl⟩
abbrev main_v34 : Ref sig .tc := ⟨.hbm, 263, rfl⟩
abbrev main_v35 : Ref sig .tc := ⟨.hbm, 264, rfl⟩
abbrev main_c_6 : Ref sig .tc := ⟨.hbm, 265, rfl⟩
abbrev main_v36 : Ref sig .tc := ⟨.hbm, 266, rfl⟩
abbrev main_v37 : Ref sig .tc := ⟨.hbm, 267, rfl⟩
abbrev main_v38 : Ref sig .tc := ⟨.hbm, 268, rfl⟩
abbrev main_v39 : Ref sig .tc := ⟨.hbm, 269, rfl⟩
abbrev main_call1_v0 : Ref sig .tc := ⟨.hbm, 270, rfl⟩
abbrev main_call1_c : Ref sig .tc := ⟨.hbm, 271, rfl⟩
abbrev main_call1_v1 : Ref sig .tc := ⟨.hbm, 272, rfl⟩
abbrev main_call1_v2 : Ref sig .tc := ⟨.hbm, 273, rfl⟩
abbrev main_call1_v3 : Ref sig .tc := ⟨.hbm, 274, rfl⟩
abbrev main_call1_v4 : Ref sig .tc := ⟨.hbm, 275, rfl⟩
abbrev main_call1_v5 : Ref sig .tc := ⟨.hbm, 276, rfl⟩
abbrev main_call1_v6 : Ref sig .tc := ⟨.hbm, 277, rfl⟩
abbrev main_call1_c_0 : Ref sig .tc := ⟨.hbm, 278, rfl⟩
abbrev main_call1_v7 : Ref sig .tc := ⟨.hbm, 279, rfl⟩
abbrev main_call1_v8 : Ref sig .tc := ⟨.hbm, 280, rfl⟩
abbrev main_call1_c_1 : Ref sig .tc := ⟨.hbm, 281, rfl⟩
abbrev main_call1_v9 : Ref sig .tc := ⟨.hbm, 282, rfl⟩
abbrev main_call1_v10 : Ref sig .tc := ⟨.hbm, 283, rfl⟩
abbrev main_call1_v11 : Ref sig .tc := ⟨.hbm, 284, rfl⟩
abbrev main_call1_v12 : Ref sig .tc := ⟨.hbm, 285, rfl⟩
abbrev main_call1_v13 : Ref sig .tc := ⟨.hbm, 286, rfl⟩
abbrev main_call1_c_2 : Ref sig .tc := ⟨.hbm, 287, rfl⟩
abbrev main_call1_v14 : Ref sig .tc := ⟨.hbm, 288, rfl⟩
abbrev main_call1_v15 : Ref sig .tc := ⟨.hbm, 289, rfl⟩
abbrev main_call1_c_3 : Ref sig .tc := ⟨.hbm, 290, rfl⟩
abbrev main_call1_v16 : Ref sig .tc := ⟨.hbm, 291, rfl⟩
abbrev main_call1_v17 : Ref sig .tc := ⟨.hbm, 292, rfl⟩
abbrev main_call1_v18 : Ref sig .tc := ⟨.hbm, 293, rfl⟩
abbrev main_call1_v19 : Ref sig .tc := ⟨.hbm, 294, rfl⟩
abbrev main_call1_v20 : Ref sig .tc := ⟨.hbm, 295, rfl⟩
abbrev main_call1_c_4 : Ref sig .tc := ⟨.hbm, 296, rfl⟩
abbrev main_call1_v21 : Ref sig .tc := ⟨.hbm, 297, rfl⟩
abbrev main_call1_v22 : Ref sig .tc := ⟨.hbm, 298, rfl⟩
abbrev main_call1_c_5 : Ref sig .tc := ⟨.hbm, 299, rfl⟩
abbrev main_call1_v23 : Ref sig .tc := ⟨.hbm, 300, rfl⟩
abbrev main_call1_v24 : Ref sig .tc := ⟨.hbm, 301, rfl⟩
abbrev main_call1_v25 : Ref sig .tc := ⟨.hbm, 302, rfl⟩
abbrev main_call1_v26 : Ref sig .tc := ⟨.hbm, 303, rfl⟩
abbrev main_call1_v27 : Ref sig .tc := ⟨.hbm, 304, rfl⟩
abbrev main_call1_c_6 : Ref sig .tc := ⟨.hbm, 305, rfl⟩
abbrev main_call1_v28 : Ref sig .tc := ⟨.hbm, 306, rfl⟩
abbrev main_call1_v29 : Ref sig .tc := ⟨.hbm, 307, rfl⟩
abbrev main_call1_c_7 : Ref sig .tc := ⟨.hbm, 308, rfl⟩
abbrev main_call1_v30 : Ref sig .tc := ⟨.hbm, 309, rfl⟩
abbrev main_call1_v31 : Ref sig .tc := ⟨.hbm, 310, rfl⟩
abbrev main_call1_v32 : Ref sig .tc := ⟨.hbm, 311, rfl⟩
abbrev main_call1_v33 : Ref sig .tc := ⟨.hbm, 312, rfl⟩
abbrev main_call1_v34 : Ref sig .tc := ⟨.hbm, 313, rfl⟩
abbrev main_call1_v35 : Ref sig .tc := ⟨.hbm, 314, rfl⟩
abbrev main_call1_v36 : Ref sig .tc := ⟨.hbm, 315, rfl⟩
abbrev main_call1_v37 : Ref sig .tc := ⟨.hbm, 316, rfl⟩
abbrev main_call1_c_8 : Ref sig .tc := ⟨.hbm, 317, rfl⟩
abbrev main_call1_v38 : Ref sig .tc := ⟨.hbm, 318, rfl⟩
abbrev main_call1_v39 : Ref sig .tc := ⟨.hbm, 319, rfl⟩
abbrev main_call1_v40 : Ref sig .tc := ⟨.hbm, 320, rfl⟩
abbrev main_call1_c_9 : Ref sig .tc := ⟨.hbm, 321, rfl⟩
abbrev main_call1_v41 : Ref sig .tc := ⟨.hbm, 322, rfl⟩
abbrev main_call1_v42 : Ref sig .tc := ⟨.hbm, 323, rfl⟩
abbrev main_call1_c_10 : Ref sig .tc := ⟨.hbm, 324, rfl⟩
abbrev main_call1_v43 : Ref sig .tc := ⟨.hbm, 325, rfl⟩
abbrev main_call1_v44 : Ref sig .tc := ⟨.hbm, 326, rfl⟩
abbrev main_call1_v45 : Ref sig .tc := ⟨.hbm, 327, rfl⟩
abbrev main_call1_v46 : Ref sig .tc := ⟨.hbm, 328, rfl⟩
abbrev main_call1_v47 : Ref sig .tc := ⟨.hbm, 329, rfl⟩
abbrev main_call1_c_11 : Ref sig .tc := ⟨.hbm, 330, rfl⟩
abbrev main_call1_v48 : Ref sig .tc := ⟨.hbm, 331, rfl⟩
abbrev main_call1_v49 : Ref sig .tc := ⟨.hbm, 332, rfl⟩
abbrev main_call1_c_12 : Ref sig .tc := ⟨.hbm, 333, rfl⟩
abbrev main_call1_v50 : Ref sig .tc := ⟨.hbm, 334, rfl⟩
abbrev main_call1_v51 : Ref sig .tc := ⟨.hbm, 335, rfl⟩
abbrev main_call1_v52 : Ref sig .tc := ⟨.hbm, 336, rfl⟩
abbrev main_call1_v53 : Ref sig .tc := ⟨.hbm, 337, rfl⟩
abbrev main_call1_v54 : Ref sig .tc := ⟨.hbm, 338, rfl⟩
abbrev main_call1_c_13 : Ref sig .tc := ⟨.hbm, 339, rfl⟩
abbrev main_call1_v55 : Ref sig .tc := ⟨.hbm, 340, rfl⟩
abbrev main_call1_v56 : Ref sig .tc := ⟨.hbm, 341, rfl⟩
abbrev main_call1_c_14 : Ref sig .tc := ⟨.hbm, 342, rfl⟩
abbrev main_call1_v57 : Ref sig .tc := ⟨.hbm, 343, rfl⟩
abbrev main_call1_v58 : Ref sig .tc := ⟨.hbm, 344, rfl⟩
abbrev main_call1_v59 : Ref sig .tc := ⟨.hbm, 345, rfl⟩
abbrev main_call1_v60 : Ref sig .tc := ⟨.hbm, 346, rfl⟩
abbrev main_call1_v61 : Ref sig .tc := ⟨.hbm, 347, rfl⟩
abbrev main_call1_c_15 : Ref sig .tc := ⟨.hbm, 348, rfl⟩
abbrev main_call1_v62 : Ref sig .tc := ⟨.hbm, 349, rfl⟩
abbrev main_call1_v63 : Ref sig .tc := ⟨.hbm, 350, rfl⟩
abbrev main_call1_c_16 : Ref sig .tc := ⟨.hbm, 351, rfl⟩
abbrev main_call1_v64 : Ref sig .tc := ⟨.hbm, 352, rfl⟩
abbrev main_call1_v65 : Ref sig .tc := ⟨.hbm, 353, rfl⟩
abbrev main_call1_v66 : Ref sig .tc := ⟨.hbm, 354, rfl⟩
abbrev main_call1_v67 : Ref sig .tc := ⟨.hbm, 355, rfl⟩
abbrev main_call1_v68 : Ref sig .tc := ⟨.hbm, 356, rfl⟩
abbrev main_call1_v69 : Ref sig .tc := ⟨.hbm, 357, rfl⟩
abbrev main_call1_v70 : Ref sig .tc := ⟨.hbm, 358, rfl⟩
abbrev main_call1_v71 : Ref sig .tc := ⟨.hbm, 359, rfl⟩
abbrev main_call1_c_17 : Ref sig .tc := ⟨.hbm, 360, rfl⟩
abbrev main_call1_v72 : Ref sig .tc := ⟨.hbm, 361, rfl⟩
abbrev main_call1_v73 : Ref sig .tc := ⟨.hbm, 362, rfl⟩
abbrev main_call1_v74 : Ref sig .tc := ⟨.hbm, 363, rfl⟩
abbrev main_call1_c_18 : Ref sig .tc := ⟨.hbm, 364, rfl⟩
abbrev main_call1_v75 : Ref sig .tc := ⟨.hbm, 365, rfl⟩
abbrev main_call1_v76 : Ref sig .tc := ⟨.hbm, 366, rfl⟩
abbrev main_call1_c_19 : Ref sig .tc := ⟨.hbm, 367, rfl⟩
abbrev main_call1_v77 : Ref sig .tc := ⟨.hbm, 368, rfl⟩
abbrev main_call1_v78 : Ref sig .tc := ⟨.hbm, 369, rfl⟩
abbrev main_call1_v79 : Ref sig .tc := ⟨.hbm, 370, rfl⟩
abbrev main_call1_v80 : Ref sig .tc := ⟨.hbm, 371, rfl⟩
abbrev main_call1_v81 : Ref sig .tc := ⟨.hbm, 372, rfl⟩
abbrev main_call1_c_20 : Ref sig .tc := ⟨.hbm, 373, rfl⟩
abbrev main_call1_v82 : Ref sig .tc := ⟨.hbm, 374, rfl⟩
abbrev main_call1_v83 : Ref sig .tc := ⟨.hbm, 375, rfl⟩
abbrev main_call1_c_21 : Ref sig .tc := ⟨.hbm, 376, rfl⟩
abbrev main_call1_v84 : Ref sig .tc := ⟨.hbm, 377, rfl⟩
abbrev main_call1_v85 : Ref sig .tc := ⟨.hbm, 378, rfl⟩
abbrev main_call1_v86 : Ref sig .tc := ⟨.hbm, 379, rfl⟩
abbrev main_call1_v87 : Ref sig .tc := ⟨.hbm, 380, rfl⟩
abbrev main_call1_v88 : Ref sig .tc := ⟨.hbm, 381, rfl⟩
abbrev main_call1_c_22 : Ref sig .tc := ⟨.hbm, 382, rfl⟩
abbrev main_call1_v89 : Ref sig .tc := ⟨.hbm, 383, rfl⟩
abbrev main_call1_v90 : Ref sig .tc := ⟨.hbm, 384, rfl⟩
abbrev main_call1_c_23 : Ref sig .tc := ⟨.hbm, 385, rfl⟩
abbrev main_call1_v91 : Ref sig .tc := ⟨.hbm, 386, rfl⟩
abbrev main_call1_v92 : Ref sig .tc := ⟨.hbm, 387, rfl⟩
abbrev main_call1_v93 : Ref sig .tc := ⟨.hbm, 388, rfl⟩
abbrev main_call1_v94 : Ref sig .tc := ⟨.hbm, 389, rfl⟩
abbrev main_call1_v95 : Ref sig .tc := ⟨.hbm, 390, rfl⟩
abbrev main_call1_c_24 : Ref sig .tc := ⟨.hbm, 391, rfl⟩
abbrev main_call1_v96 : Ref sig .tc := ⟨.hbm, 392, rfl⟩
abbrev main_call1_v97 : Ref sig .tc := ⟨.hbm, 393, rfl⟩
abbrev main_call1_c_25 : Ref sig .tc := ⟨.hbm, 394, rfl⟩
abbrev main_call1_v98 : Ref sig .tc := ⟨.hbm, 395, rfl⟩
abbrev main_call1_v99 : Ref sig .tc := ⟨.hbm, 396, rfl⟩
abbrev main_call1_v100 : Ref sig .tc := ⟨.hbm, 397, rfl⟩
abbrev main_call1_v101 : Ref sig .tc := ⟨.hbm, 398, rfl⟩
abbrev main_call1_v102 : Ref sig .tc := ⟨.hbm, 399, rfl⟩
abbrev main_call1_v103 : Ref sig .tc := ⟨.hbm, 400, rfl⟩
abbrev main_call1_v104 : Ref sig .tc := ⟨.hbm, 401, rfl⟩
abbrev main_call1_v105 : Ref sig .tc := ⟨.hbm, 402, rfl⟩
abbrev main_call1_c_26 : Ref sig .tc := ⟨.hbm, 403, rfl⟩
abbrev main_call1_v106 : Ref sig .tc := ⟨.hbm, 404, rfl⟩
abbrev main_call1_v107 : Ref sig .tc := ⟨.hbm, 405, rfl⟩
abbrev main_call1_v108 : Ref sig .tc := ⟨.hbm, 406, rfl⟩
abbrev main_call1_c_27 : Ref sig .tc := ⟨.hbm, 407, rfl⟩
abbrev main_call1_v109 : Ref sig .tc := ⟨.hbm, 408, rfl⟩
abbrev main_call1_v110 : Ref sig .tc := ⟨.hbm, 409, rfl⟩
abbrev main_call1_c_28 : Ref sig .tc := ⟨.hbm, 410, rfl⟩
abbrev main_call1_v111 : Ref sig .tc := ⟨.hbm, 411, rfl⟩
abbrev main_call1_v112 : Ref sig .tc := ⟨.hbm, 412, rfl⟩
abbrev main_call1_v113 : Ref sig .tc := ⟨.hbm, 413, rfl⟩
abbrev main_call1_v114 : Ref sig .tc := ⟨.hbm, 414, rfl⟩
abbrev main_call1_v115 : Ref sig .tc := ⟨.hbm, 415, rfl⟩
abbrev main_call1_c_29 : Ref sig .tc := ⟨.hbm, 416, rfl⟩
abbrev main_call1_v116 : Ref sig .tc := ⟨.hbm, 417, rfl⟩
abbrev main_call1_v117 : Ref sig .tc := ⟨.hbm, 418, rfl⟩
abbrev main_call1_c_30 : Ref sig .tc := ⟨.hbm, 419, rfl⟩
abbrev main_call1_v118 : Ref sig .tc := ⟨.hbm, 420, rfl⟩
abbrev main_call1_v119 : Ref sig .tc := ⟨.hbm, 421, rfl⟩
abbrev main_call1_v120 : Ref sig .tc := ⟨.hbm, 422, rfl⟩
abbrev main_call1_v121 : Ref sig .tc := ⟨.hbm, 423, rfl⟩
abbrev main_call1_v122 : Ref sig .tc := ⟨.hbm, 424, rfl⟩
abbrev main_call1_c_31 : Ref sig .tc := ⟨.hbm, 425, rfl⟩
abbrev main_call1_v123 : Ref sig .tc := ⟨.hbm, 426, rfl⟩
abbrev main_call1_v124 : Ref sig .tc := ⟨.hbm, 427, rfl⟩
abbrev main_call1_c_32 : Ref sig .tc := ⟨.hbm, 428, rfl⟩
abbrev main_call1_v125 : Ref sig .tc := ⟨.hbm, 429, rfl⟩
abbrev main_call1_v126 : Ref sig .tc := ⟨.hbm, 430, rfl⟩
abbrev main_call1_v127 : Ref sig .tc := ⟨.hbm, 431, rfl⟩
abbrev main_call1_v128 : Ref sig .tc := ⟨.hbm, 432, rfl⟩
abbrev main_call1_v129 : Ref sig .tc := ⟨.hbm, 433, rfl⟩
abbrev main_call1_c_33 : Ref sig .tc := ⟨.hbm, 434, rfl⟩
abbrev main_call1_v130 : Ref sig .tc := ⟨.hbm, 435, rfl⟩
abbrev main_call1_v131 : Ref sig .tc := ⟨.hbm, 436, rfl⟩
abbrev main_call1_c_34 : Ref sig .tc := ⟨.hbm, 437, rfl⟩
abbrev main_call1_v132 : Ref sig .tc := ⟨.hbm, 438, rfl⟩
abbrev main_call1_v133 : Ref sig .tc := ⟨.hbm, 439, rfl⟩
abbrev main_call1_v134 : Ref sig .tc := ⟨.hbm, 440, rfl⟩
abbrev main_call1_v135 : Ref sig .tc := ⟨.hbm, 441, rfl⟩
abbrev main_call1_v136 : Ref sig .tc := ⟨.hbm, 442, rfl⟩
abbrev main_call1_v137 : Ref sig .tc := ⟨.hbm, 443, rfl⟩
abbrev main_call1_v138 : Ref sig .tc := ⟨.hbm, 444, rfl⟩
abbrev main_call1_v139 : Ref sig .tc := ⟨.hbm, 445, rfl⟩
abbrev main_call1_c_35 : Ref sig .tc := ⟨.hbm, 446, rfl⟩
abbrev main_call1_v140 : Ref sig .tc := ⟨.hbm, 447, rfl⟩
abbrev main_call1_v141 : Ref sig .tc := ⟨.hbm, 448, rfl⟩
abbrev main_call1_v142 : Ref sig .tc := ⟨.hbm, 449, rfl⟩
abbrev main_call1_c_36 : Ref sig .tc := ⟨.hbm, 450, rfl⟩
abbrev main_call1_v143 : Ref sig .tc := ⟨.hbm, 451, rfl⟩
abbrev main_call1_v144 : Ref sig .tc := ⟨.hbm, 452, rfl⟩
abbrev main_call1_c_37 : Ref sig .tc := ⟨.hbm, 453, rfl⟩
abbrev main_call1_v145 : Ref sig .tc := ⟨.hbm, 454, rfl⟩
abbrev main_call1_v146 : Ref sig .tc := ⟨.hbm, 455, rfl⟩
abbrev main_call1_v147 : Ref sig .tc := ⟨.hbm, 456, rfl⟩
abbrev main_call1_v148 : Ref sig .tc := ⟨.hbm, 457, rfl⟩
abbrev main_call1_v149 : Ref sig .tc := ⟨.hbm, 458, rfl⟩
abbrev main_call1_c_38 : Ref sig .tc := ⟨.hbm, 459, rfl⟩
abbrev main_call1_v150 : Ref sig .tc := ⟨.hbm, 460, rfl⟩
abbrev main_call1_v151 : Ref sig .tc := ⟨.hbm, 461, rfl⟩
abbrev main_call1_c_39 : Ref sig .tc := ⟨.hbm, 462, rfl⟩
abbrev main_call1_v152 : Ref sig .tc := ⟨.hbm, 463, rfl⟩
abbrev main_call1_v153 : Ref sig .tc := ⟨.hbm, 464, rfl⟩
abbrev main_call1_v154 : Ref sig .tc := ⟨.hbm, 465, rfl⟩
abbrev main_call1_v155 : Ref sig .tc := ⟨.hbm, 466, rfl⟩
abbrev main_call1_v156 : Ref sig .tc := ⟨.hbm, 467, rfl⟩
abbrev main_call1_c_40 : Ref sig .tc := ⟨.hbm, 468, rfl⟩
abbrev main_call1_v157 : Ref sig .tc := ⟨.hbm, 469, rfl⟩
abbrev main_call1_v158 : Ref sig .tc := ⟨.hbm, 470, rfl⟩
abbrev main_call1_c_41 : Ref sig .tc := ⟨.hbm, 471, rfl⟩
abbrev main_call1_v159 : Ref sig .tc := ⟨.hbm, 472, rfl⟩
abbrev main_call1_v160 : Ref sig .tc := ⟨.hbm, 473, rfl⟩
abbrev main_call1_v161 : Ref sig .tc := ⟨.hbm, 474, rfl⟩
abbrev main_call1_v162 : Ref sig .tc := ⟨.hbm, 475, rfl⟩
abbrev main_call1_v163 : Ref sig .tc := ⟨.hbm, 476, rfl⟩
abbrev main_call1_c_42 : Ref sig .tc := ⟨.hbm, 477, rfl⟩
abbrev main_call1_v164 : Ref sig .tc := ⟨.hbm, 478, rfl⟩
abbrev main_call1_v165 : Ref sig .tc := ⟨.hbm, 479, rfl⟩
abbrev main_call1_c_43 : Ref sig .tc := ⟨.hbm, 480, rfl⟩
abbrev main_call1_v166 : Ref sig .tc := ⟨.hbm, 481, rfl⟩
abbrev main_call1_v167 : Ref sig .tc := ⟨.hbm, 482, rfl⟩
abbrev main_call1_v168 : Ref sig .tc := ⟨.hbm, 483, rfl⟩
abbrev main_call1_v169 : Ref sig .tc := ⟨.hbm, 484, rfl⟩
abbrev main_call1_v170 : Ref sig .tc := ⟨.hbm, 485, rfl⟩
abbrev main_v40_0 : Ref sig .tc := ⟨.hbm, 486, rfl⟩
abbrev main_call1_v172 : Ref sig .tc := ⟨.hbm, 487, rfl⟩
abbrev main_call1_v173 : Ref sig .tc := ⟨.hbm, 488, rfl⟩
abbrev main_call1_c_44 : Ref sig .tc := ⟨.hbm, 489, rfl⟩
abbrev main_call1_v174 : Ref sig .tc := ⟨.hbm, 490, rfl⟩
abbrev main_v40_1 : Ref sig .tc := ⟨.hbm, 491, rfl⟩
abbrev main_v41 : Ref sig .tc := ⟨.hbm, 492, rfl⟩
abbrev main_c_7 : Ref sig .tc := ⟨.hbm, 493, rfl⟩
abbrev main_v42 : Ref sig .tc := ⟨.hbm, 494, rfl⟩
abbrev main_v43 : Ref sig .tc := ⟨.hbm, 495, rfl⟩
abbrev main_c_8 : Ref sig .tc := ⟨.hbm, 496, rfl⟩
abbrev main_v44 : Ref sig .tc := ⟨.hbm, 497, rfl⟩
abbrev main_v45 : Ref sig .tc := ⟨.hbm, 498, rfl⟩
abbrev main_v46 : Ref sig .tc := ⟨.hbm, 499, rfl⟩
abbrev main_cst : Ref sig .tc := ⟨.hbm, 500, rfl⟩
abbrev main_v47 : Ref sig .tc := ⟨.hbm, 501, rfl⟩
abbrev main_v48 : Ref sig .tc := ⟨.hbm, 502, rfl⟩
abbrev main_cst_9 : Ref sig .tc := ⟨.hbm, 503, rfl⟩
abbrev main_v49 : Ref sig .tc := ⟨.hbm, 504, rfl⟩
abbrev main_v50 : Ref sig .tc := ⟨.hbm, 505, rfl⟩
abbrev main_cst_10 : Ref sig .tc := ⟨.hbm, 506, rfl⟩
abbrev main_v51 : Ref sig .tc := ⟨.hbm, 507, rfl⟩
abbrev main_v52 : Ref sig .tc := ⟨.hbm, 508, rfl⟩
abbrev main_cst_11 : Ref sig .tc := ⟨.hbm, 509, rfl⟩
abbrev main_v53 : Ref sig .tc := ⟨.hbm, 510, rfl⟩
abbrev main_v54 : Ref sig .tc := ⟨.hbm, 511, rfl⟩
abbrev main_cst_12 : Ref sig .tc := ⟨.hbm, 512, rfl⟩
abbrev main_v55 : Ref sig .tc := ⟨.hbm, 513, rfl⟩
abbrev main_v56 : Ref sig .tc := ⟨.hbm, 514, rfl⟩
abbrev main_v57 : Ref sig .tc := ⟨.hbm, 515, rfl⟩
abbrev main_v58 : Ref sig .tc := ⟨.hbm, 516, rfl⟩
abbrev main_v59 : Ref sig .tc := ⟨.hbm, 517, rfl⟩
abbrev main_cst_13 : Ref sig .tc := ⟨.hbm, 518, rfl⟩
abbrev main_v60 : Ref sig .tc := ⟨.hbm, 519, rfl⟩
abbrev main_v61 : Ref sig .tc := ⟨.hbm, 520, rfl⟩
abbrev main_cst_14 : Ref sig .tc := ⟨.hbm, 521, rfl⟩
abbrev main_v62 : Ref sig .tc := ⟨.hbm, 522, rfl⟩
abbrev main_v63 : Ref sig .tc := ⟨.hbm, 523, rfl⟩
abbrev main_cst_15 : Ref sig .tc := ⟨.hbm, 524, rfl⟩
abbrev main_v64 : Ref sig .tc := ⟨.hbm, 525, rfl⟩
abbrev main_v65 : Ref sig .tc := ⟨.hbm, 526, rfl⟩
abbrev main_cst_16 : Ref sig .tc := ⟨.hbm, 527, rfl⟩
abbrev main_v66 : Ref sig .tc := ⟨.hbm, 528, rfl⟩
abbrev main_v67 : Ref sig .tc := ⟨.hbm, 529, rfl⟩
abbrev main_v68 : Ref sig .tc := ⟨.hbm, 530, rfl⟩
abbrev main_cst_17 : Ref sig .tc := ⟨.hbm, 531, rfl⟩
abbrev main_v69 : Ref sig .tc := ⟨.hbm, 532, rfl⟩
abbrev main_v70 : Ref sig .tc := ⟨.hbm, 533, rfl⟩
abbrev main_v71 : Ref sig .tc := ⟨.hbm, 534, rfl⟩
abbrev main_cst_18 : Ref sig .tc := ⟨.hbm, 535, rfl⟩
abbrev main_v72 : Ref sig .tc := ⟨.hbm, 536, rfl⟩
abbrev main_v73 : Ref sig .tc := ⟨.hbm, 537, rfl⟩
abbrev main_v74 : Ref sig .tc := ⟨.hbm, 538, rfl⟩
abbrev main_cst_19 : Ref sig .tc := ⟨.hbm, 539, rfl⟩
abbrev main_v75 : Ref sig .tc := ⟨.hbm, 540, rfl⟩
abbrev main_v76 : Ref sig .tc := ⟨.hbm, 541, rfl⟩
abbrev main_v77 : Ref sig .tc := ⟨.hbm, 542, rfl⟩
abbrev main_cst_20 : Ref sig .tc := ⟨.hbm, 543, rfl⟩
abbrev main_v78 : Ref sig .tc := ⟨.hbm, 544, rfl⟩
abbrev main_v79 : Ref sig .tc := ⟨.hbm, 545, rfl⟩
abbrev main_v80 : Ref sig .tc := ⟨.hbm, 546, rfl⟩
abbrev main_cst_21 : Ref sig .tc := ⟨.hbm, 547, rfl⟩
abbrev main_v81 : Ref sig .tc := ⟨.hbm, 548, rfl⟩
abbrev main_v82 : Ref sig .tc := ⟨.hbm, 549, rfl⟩
abbrev main_v83 : Ref sig .tc := ⟨.hbm, 550, rfl⟩
abbrev main_cst_22 : Ref sig .tc := ⟨.hbm, 551, rfl⟩
abbrev main_v84 : Ref sig .tc := ⟨.hbm, 552, rfl⟩
abbrev main_v85 : Ref sig .tc := ⟨.hbm, 553, rfl⟩
abbrev main_v86 : Ref sig .tc := ⟨.hbm, 554, rfl⟩
abbrev main_cst_23 : Ref sig .tc := ⟨.hbm, 555, rfl⟩
abbrev main_v87 : Ref sig .tc := ⟨.hbm, 556, rfl⟩
abbrev main_v88 : Ref sig .tc := ⟨.hbm, 557, rfl⟩
abbrev main_v89 : Ref sig .tc := ⟨.hbm, 558, rfl⟩
abbrev main_cst_24 : Ref sig .tc := ⟨.hbm, 559, rfl⟩
abbrev main_v90 : Ref sig .tc := ⟨.hbm, 560, rfl⟩
abbrev main_v91 : Ref sig .tc := ⟨.hbm, 561, rfl⟩
abbrev main_cst_25 : Ref sig .tc := ⟨.hbm, 562, rfl⟩
abbrev main_v92 : Ref sig .tc := ⟨.hbm, 563, rfl⟩
abbrev main_v93 : Ref sig .tc := ⟨.hbm, 564, rfl⟩
abbrev main_cst_26 : Ref sig .tc := ⟨.hbm, 565, rfl⟩
abbrev main_v94 : Ref sig .tc := ⟨.hbm, 566, rfl⟩
abbrev main_v95 : Ref sig .tc := ⟨.hbm, 567, rfl⟩
abbrev main_v96 : Ref sig .tc := ⟨.hbm, 568, rfl⟩
abbrev main_cst_27 : Ref sig .tc := ⟨.hbm, 569, rfl⟩
abbrev main_v97 : Ref sig .tc := ⟨.hbm, 570, rfl⟩
abbrev main_v98 : Ref sig .tc := ⟨.hbm, 571, rfl⟩
abbrev main_v99 : Ref sig .tc := ⟨.hbm, 572, rfl⟩
abbrev main_cst_28 : Ref sig .tc := ⟨.hbm, 573, rfl⟩
abbrev main_v100 : Ref sig .tc := ⟨.hbm, 574, rfl⟩
abbrev main_v101 : Ref sig .tc := ⟨.hbm, 575, rfl⟩
abbrev main_v102 : Ref sig .tc := ⟨.hbm, 576, rfl⟩
abbrev main_cst_29 : Ref sig .tc := ⟨.hbm, 577, rfl⟩
abbrev main_v103 : Ref sig .tc := ⟨.hbm, 578, rfl⟩
abbrev main_v104 : Ref sig .tc := ⟨.hbm, 579, rfl⟩
abbrev main_v105 : Ref sig .tc := ⟨.hbm, 580, rfl⟩
abbrev main_cst_30 : Ref sig .tc := ⟨.hbm, 581, rfl⟩
abbrev main_v106 : Ref sig .tc := ⟨.hbm, 582, rfl⟩
abbrev main_v107 : Ref sig .tc := ⟨.hbm, 583, rfl⟩
abbrev main_v108 : Ref sig .tc := ⟨.hbm, 584, rfl⟩
abbrev main_cst_31 : Ref sig .tc := ⟨.hbm, 585, rfl⟩
abbrev main_v109 : Ref sig .tc := ⟨.hbm, 586, rfl⟩
abbrev main_v110 : Ref sig .tc := ⟨.hbm, 587, rfl⟩
abbrev main_v111 : Ref sig .tc := ⟨.hbm, 588, rfl⟩
abbrev main_cst_32 : Ref sig .tc := ⟨.hbm, 589, rfl⟩
abbrev main_v112 : Ref sig .tc := ⟨.hbm, 590, rfl⟩
abbrev main_v113 : Ref sig .tc := ⟨.hbm, 591, rfl⟩
abbrev main_v114 : Ref sig .tc := ⟨.hbm, 592, rfl⟩
abbrev main_cst_33 : Ref sig .tc := ⟨.hbm, 593, rfl⟩
abbrev main_v115 : Ref sig .tc := ⟨.hbm, 594, rfl⟩
abbrev main_v116 : Ref sig .tc := ⟨.hbm, 595, rfl⟩
abbrev main_v117 : Ref sig .tc := ⟨.hbm, 596, rfl⟩
abbrev main_v118 : Ref sig .tc := ⟨.hbm, 597, rfl⟩
abbrev main_v119 : Ref sig .tc := ⟨.hbm, 598, rfl⟩
abbrev main_v120 : Ref sig .tc := ⟨.hbm, 599, rfl⟩
abbrev main_cst_34 : Ref sig .tc := ⟨.hbm, 600, rfl⟩
abbrev main_v121 : Ref sig .tc := ⟨.hbm, 601, rfl⟩
abbrev main_v122 : Ref sig .tc := ⟨.hbm, 602, rfl⟩
abbrev main_v123 : Ref sig .tc := ⟨.hbm, 603, rfl⟩
abbrev main_cst_35 : Ref sig .tc := ⟨.hbm, 604, rfl⟩
abbrev main_v124 : Ref sig .tc := ⟨.hbm, 605, rfl⟩
abbrev main_cst_36 : Ref sig .tc := ⟨.hbm, 606, rfl⟩
abbrev main_v125 : Ref sig .tc := ⟨.hbm, 607, rfl⟩
abbrev main_v126 : Ref sig .tc := ⟨.hbm, 608, rfl⟩
abbrev main_v127 : Ref sig .tc := ⟨.hbm, 609, rfl⟩
abbrev main_v128 : Ref sig .tc := ⟨.hbm, 610, rfl⟩
abbrev main_v129 : Ref sig .tc := ⟨.hbm, 611, rfl⟩
abbrev main_v130 : Ref sig .tc := ⟨.hbm, 612, rfl⟩
abbrev main_v131 : Ref sig .tc := ⟨.hbm, 613, rfl⟩
abbrev main_c_37 : Ref sig .tc := ⟨.hbm, 614, rfl⟩
abbrev main_v132 : Ref sig .tc := ⟨.hbm, 615, rfl⟩
abbrev main_v133 : Ref sig .tc := ⟨.hbm, 616, rfl⟩
abbrev main_call3_v0 : Ref sig .tc := ⟨.hbm, 617, rfl⟩
abbrev main_call3_c : Ref sig .tc := ⟨.hbm, 618, rfl⟩
abbrev main_call3_v1 : Ref sig .tc := ⟨.hbm, 619, rfl⟩
abbrev main_call3_v2 : Ref sig .tc := ⟨.hbm, 620, rfl⟩
abbrev main_call3_v3 : Ref sig .tc := ⟨.hbm, 621, rfl⟩
abbrev main_call3_v4 : Ref sig .tc := ⟨.hbm, 622, rfl⟩
abbrev main_call3_v5 : Ref sig .tc := ⟨.hbm, 623, rfl⟩
abbrev main_call3_v6 : Ref sig .tc := ⟨.hbm, 624, rfl⟩
abbrev main_call3_c_0 : Ref sig .tc := ⟨.hbm, 625, rfl⟩
abbrev main_call3_v7 : Ref sig .tc := ⟨.hbm, 626, rfl⟩
abbrev main_call3_v8 : Ref sig .tc := ⟨.hbm, 627, rfl⟩
abbrev main_call3_c_1 : Ref sig .tc := ⟨.hbm, 628, rfl⟩
abbrev main_call3_v9 : Ref sig .tc := ⟨.hbm, 629, rfl⟩
abbrev main_call3_v10 : Ref sig .tc := ⟨.hbm, 630, rfl⟩
abbrev main_call3_v11 : Ref sig .tc := ⟨.hbm, 631, rfl⟩
abbrev main_call3_v12 : Ref sig .tc := ⟨.hbm, 632, rfl⟩
abbrev main_call3_v13 : Ref sig .tc := ⟨.hbm, 633, rfl⟩
abbrev main_call3_c_2 : Ref sig .tc := ⟨.hbm, 634, rfl⟩
abbrev main_call3_v14 : Ref sig .tc := ⟨.hbm, 635, rfl⟩
abbrev main_call3_v15 : Ref sig .tc := ⟨.hbm, 636, rfl⟩
abbrev main_call3_c_3 : Ref sig .tc := ⟨.hbm, 637, rfl⟩
abbrev main_call3_v16 : Ref sig .tc := ⟨.hbm, 638, rfl⟩
abbrev main_call3_v17 : Ref sig .tc := ⟨.hbm, 639, rfl⟩
abbrev main_call3_v18 : Ref sig .tc := ⟨.hbm, 640, rfl⟩
abbrev main_call3_v19 : Ref sig .tc := ⟨.hbm, 641, rfl⟩
abbrev main_call3_v20 : Ref sig .tc := ⟨.hbm, 642, rfl⟩
abbrev main_call3_c_4 : Ref sig .tc := ⟨.hbm, 643, rfl⟩
abbrev main_call3_v21 : Ref sig .tc := ⟨.hbm, 644, rfl⟩
abbrev main_call3_v22 : Ref sig .tc := ⟨.hbm, 645, rfl⟩
abbrev main_call3_c_5 : Ref sig .tc := ⟨.hbm, 646, rfl⟩
abbrev main_call3_v23 : Ref sig .tc := ⟨.hbm, 647, rfl⟩
abbrev main_call3_v24 : Ref sig .tc := ⟨.hbm, 648, rfl⟩
abbrev main_call3_v25 : Ref sig .tc := ⟨.hbm, 649, rfl⟩
abbrev main_call3_v26 : Ref sig .tc := ⟨.hbm, 650, rfl⟩
abbrev main_call3_v27 : Ref sig .tc := ⟨.hbm, 651, rfl⟩
abbrev main_call3_c_6 : Ref sig .tc := ⟨.hbm, 652, rfl⟩
abbrev main_call3_v28 : Ref sig .tc := ⟨.hbm, 653, rfl⟩
abbrev main_call3_v29 : Ref sig .tc := ⟨.hbm, 654, rfl⟩
abbrev main_call3_c_7 : Ref sig .tc := ⟨.hbm, 655, rfl⟩
abbrev main_call3_v30 : Ref sig .tc := ⟨.hbm, 656, rfl⟩
abbrev main_call3_v31 : Ref sig .tc := ⟨.hbm, 657, rfl⟩
abbrev main_call3_v32 : Ref sig .tc := ⟨.hbm, 658, rfl⟩
abbrev main_call3_v33 : Ref sig .tc := ⟨.hbm, 659, rfl⟩
abbrev main_call3_v34 : Ref sig .tc := ⟨.hbm, 660, rfl⟩
abbrev main_call3_v35 : Ref sig .tc := ⟨.hbm, 661, rfl⟩
abbrev main_call3_v36 : Ref sig .tc := ⟨.hbm, 662, rfl⟩
abbrev main_call3_v37 : Ref sig .tc := ⟨.hbm, 663, rfl⟩
abbrev main_call3_c_8 : Ref sig .tc := ⟨.hbm, 664, rfl⟩
abbrev main_call3_v38 : Ref sig .tc := ⟨.hbm, 665, rfl⟩
abbrev main_call3_v39 : Ref sig .tc := ⟨.hbm, 666, rfl⟩
abbrev main_call3_v40 : Ref sig .tc := ⟨.hbm, 667, rfl⟩
abbrev main_call3_c_9 : Ref sig .tc := ⟨.hbm, 668, rfl⟩
abbrev main_call3_v41 : Ref sig .tc := ⟨.hbm, 669, rfl⟩
abbrev main_call3_v42 : Ref sig .tc := ⟨.hbm, 670, rfl⟩
abbrev main_call3_c_10 : Ref sig .tc := ⟨.hbm, 671, rfl⟩
abbrev main_call3_v43 : Ref sig .tc := ⟨.hbm, 672, rfl⟩
abbrev main_call3_v44 : Ref sig .tc := ⟨.hbm, 673, rfl⟩
abbrev main_call3_v45 : Ref sig .tc := ⟨.hbm, 674, rfl⟩
abbrev main_call3_v46 : Ref sig .tc := ⟨.hbm, 675, rfl⟩
abbrev main_call3_v47 : Ref sig .tc := ⟨.hbm, 676, rfl⟩
abbrev main_call3_c_11 : Ref sig .tc := ⟨.hbm, 677, rfl⟩
abbrev main_call3_v48 : Ref sig .tc := ⟨.hbm, 678, rfl⟩
abbrev main_call3_v49 : Ref sig .tc := ⟨.hbm, 679, rfl⟩
abbrev main_call3_c_12 : Ref sig .tc := ⟨.hbm, 680, rfl⟩
abbrev main_call3_v50 : Ref sig .tc := ⟨.hbm, 681, rfl⟩
abbrev main_call3_v51 : Ref sig .tc := ⟨.hbm, 682, rfl⟩
abbrev main_call3_v52 : Ref sig .tc := ⟨.hbm, 683, rfl⟩
abbrev main_call3_v53 : Ref sig .tc := ⟨.hbm, 684, rfl⟩
abbrev main_call3_v54 : Ref sig .tc := ⟨.hbm, 685, rfl⟩
abbrev main_call3_c_13 : Ref sig .tc := ⟨.hbm, 686, rfl⟩
abbrev main_call3_v55 : Ref sig .tc := ⟨.hbm, 687, rfl⟩
abbrev main_call3_v56 : Ref sig .tc := ⟨.hbm, 688, rfl⟩
abbrev main_call3_c_14 : Ref sig .tc := ⟨.hbm, 689, rfl⟩
abbrev main_call3_v57 : Ref sig .tc := ⟨.hbm, 690, rfl⟩
abbrev main_call3_v58 : Ref sig .tc := ⟨.hbm, 691, rfl⟩
abbrev main_call3_v59 : Ref sig .tc := ⟨.hbm, 692, rfl⟩
abbrev main_call3_v60 : Ref sig .tc := ⟨.hbm, 693, rfl⟩
abbrev main_call3_v61 : Ref sig .tc := ⟨.hbm, 694, rfl⟩
abbrev main_call3_c_15 : Ref sig .tc := ⟨.hbm, 695, rfl⟩
abbrev main_call3_v62 : Ref sig .tc := ⟨.hbm, 696, rfl⟩
abbrev main_call3_v63 : Ref sig .tc := ⟨.hbm, 697, rfl⟩
abbrev main_call3_c_16 : Ref sig .tc := ⟨.hbm, 698, rfl⟩
abbrev main_call3_v64 : Ref sig .tc := ⟨.hbm, 699, rfl⟩
abbrev main_call3_v65 : Ref sig .tc := ⟨.hbm, 700, rfl⟩
abbrev main_call3_v66 : Ref sig .tc := ⟨.hbm, 701, rfl⟩
abbrev main_call3_v67 : Ref sig .tc := ⟨.hbm, 702, rfl⟩
abbrev main_call3_v68 : Ref sig .tc := ⟨.hbm, 703, rfl⟩
abbrev main_call3_v69 : Ref sig .tc := ⟨.hbm, 704, rfl⟩
abbrev main_call3_v70 : Ref sig .tc := ⟨.hbm, 705, rfl⟩
abbrev main_call3_v71 : Ref sig .tc := ⟨.hbm, 706, rfl⟩
abbrev main_call3_c_17 : Ref sig .tc := ⟨.hbm, 707, rfl⟩
abbrev main_call3_v72 : Ref sig .tc := ⟨.hbm, 708, rfl⟩
abbrev main_call3_v73 : Ref sig .tc := ⟨.hbm, 709, rfl⟩
abbrev main_call3_v74 : Ref sig .tc := ⟨.hbm, 710, rfl⟩
abbrev main_call3_c_18 : Ref sig .tc := ⟨.hbm, 711, rfl⟩
abbrev main_call3_v75 : Ref sig .tc := ⟨.hbm, 712, rfl⟩
abbrev main_call3_v76 : Ref sig .tc := ⟨.hbm, 713, rfl⟩
abbrev main_call3_c_19 : Ref sig .tc := ⟨.hbm, 714, rfl⟩
abbrev main_call3_v77 : Ref sig .tc := ⟨.hbm, 715, rfl⟩
abbrev main_call3_v78 : Ref sig .tc := ⟨.hbm, 716, rfl⟩
abbrev main_call3_v79 : Ref sig .tc := ⟨.hbm, 717, rfl⟩
abbrev main_call3_v80 : Ref sig .tc := ⟨.hbm, 718, rfl⟩
abbrev main_call3_v81 : Ref sig .tc := ⟨.hbm, 719, rfl⟩
abbrev main_call3_c_20 : Ref sig .tc := ⟨.hbm, 720, rfl⟩
abbrev main_call3_v82 : Ref sig .tc := ⟨.hbm, 721, rfl⟩
abbrev main_call3_v83 : Ref sig .tc := ⟨.hbm, 722, rfl⟩
abbrev main_call3_c_21 : Ref sig .tc := ⟨.hbm, 723, rfl⟩
abbrev main_call3_v84 : Ref sig .tc := ⟨.hbm, 724, rfl⟩
abbrev main_call3_v85 : Ref sig .tc := ⟨.hbm, 725, rfl⟩
abbrev main_call3_v86 : Ref sig .tc := ⟨.hbm, 726, rfl⟩
abbrev main_call3_v87 : Ref sig .tc := ⟨.hbm, 727, rfl⟩
abbrev main_call3_v88 : Ref sig .tc := ⟨.hbm, 728, rfl⟩
abbrev main_call3_c_22 : Ref sig .tc := ⟨.hbm, 729, rfl⟩
abbrev main_call3_v89 : Ref sig .tc := ⟨.hbm, 730, rfl⟩
abbrev main_call3_v90 : Ref sig .tc := ⟨.hbm, 731, rfl⟩
abbrev main_call3_c_23 : Ref sig .tc := ⟨.hbm, 732, rfl⟩
abbrev main_call3_v91 : Ref sig .tc := ⟨.hbm, 733, rfl⟩
abbrev main_call3_v92 : Ref sig .tc := ⟨.hbm, 734, rfl⟩
abbrev main_call3_v93 : Ref sig .tc := ⟨.hbm, 735, rfl⟩
abbrev main_call3_v94 : Ref sig .tc := ⟨.hbm, 736, rfl⟩
abbrev main_call3_v95 : Ref sig .tc := ⟨.hbm, 737, rfl⟩
abbrev main_call3_c_24 : Ref sig .tc := ⟨.hbm, 738, rfl⟩
abbrev main_call3_v96 : Ref sig .tc := ⟨.hbm, 739, rfl⟩
abbrev main_call3_v97 : Ref sig .tc := ⟨.hbm, 740, rfl⟩
abbrev main_call3_c_25 : Ref sig .tc := ⟨.hbm, 741, rfl⟩
abbrev main_call3_v98 : Ref sig .tc := ⟨.hbm, 742, rfl⟩
abbrev main_call3_v99 : Ref sig .tc := ⟨.hbm, 743, rfl⟩
abbrev main_call3_v100 : Ref sig .tc := ⟨.hbm, 744, rfl⟩
abbrev main_call3_v101 : Ref sig .tc := ⟨.hbm, 745, rfl⟩
abbrev main_call3_v102 : Ref sig .tc := ⟨.hbm, 746, rfl⟩
abbrev main_call3_v103 : Ref sig .tc := ⟨.hbm, 747, rfl⟩
abbrev main_call3_v104 : Ref sig .tc := ⟨.hbm, 748, rfl⟩
abbrev main_call3_v105 : Ref sig .tc := ⟨.hbm, 749, rfl⟩
abbrev main_call3_c_26 : Ref sig .tc := ⟨.hbm, 750, rfl⟩
abbrev main_call3_v106 : Ref sig .tc := ⟨.hbm, 751, rfl⟩
abbrev main_call3_v107 : Ref sig .tc := ⟨.hbm, 752, rfl⟩
abbrev main_call3_v108 : Ref sig .tc := ⟨.hbm, 753, rfl⟩
abbrev main_call3_c_27 : Ref sig .tc := ⟨.hbm, 754, rfl⟩
abbrev main_call3_v109 : Ref sig .tc := ⟨.hbm, 755, rfl⟩
abbrev main_call3_v110 : Ref sig .tc := ⟨.hbm, 756, rfl⟩
abbrev main_call3_c_28 : Ref sig .tc := ⟨.hbm, 757, rfl⟩
abbrev main_call3_v111 : Ref sig .tc := ⟨.hbm, 758, rfl⟩
abbrev main_call3_v112 : Ref sig .tc := ⟨.hbm, 759, rfl⟩
abbrev main_call3_v113 : Ref sig .tc := ⟨.hbm, 760, rfl⟩
abbrev main_call3_v114 : Ref sig .tc := ⟨.hbm, 761, rfl⟩
abbrev main_call3_v115 : Ref sig .tc := ⟨.hbm, 762, rfl⟩
abbrev main_call3_c_29 : Ref sig .tc := ⟨.hbm, 763, rfl⟩
abbrev main_call3_v116 : Ref sig .tc := ⟨.hbm, 764, rfl⟩
abbrev main_call3_v117 : Ref sig .tc := ⟨.hbm, 765, rfl⟩
abbrev main_call3_c_30 : Ref sig .tc := ⟨.hbm, 766, rfl⟩
abbrev main_call3_v118 : Ref sig .tc := ⟨.hbm, 767, rfl⟩
abbrev main_call3_v119 : Ref sig .tc := ⟨.hbm, 768, rfl⟩
abbrev main_call3_v120 : Ref sig .tc := ⟨.hbm, 769, rfl⟩
abbrev main_call3_v121 : Ref sig .tc := ⟨.hbm, 770, rfl⟩
abbrev main_call3_v122 : Ref sig .tc := ⟨.hbm, 771, rfl⟩
abbrev main_call3_c_31 : Ref sig .tc := ⟨.hbm, 772, rfl⟩
abbrev main_call3_v123 : Ref sig .tc := ⟨.hbm, 773, rfl⟩
abbrev main_call3_v124 : Ref sig .tc := ⟨.hbm, 774, rfl⟩
abbrev main_call3_c_32 : Ref sig .tc := ⟨.hbm, 775, rfl⟩
abbrev main_call3_v125 : Ref sig .tc := ⟨.hbm, 776, rfl⟩
abbrev main_call3_v126 : Ref sig .tc := ⟨.hbm, 777, rfl⟩
abbrev main_call3_v127 : Ref sig .tc := ⟨.hbm, 778, rfl⟩
abbrev main_call3_v128 : Ref sig .tc := ⟨.hbm, 779, rfl⟩
abbrev main_call3_v129 : Ref sig .tc := ⟨.hbm, 780, rfl⟩
abbrev main_call3_c_33 : Ref sig .tc := ⟨.hbm, 781, rfl⟩
abbrev main_call3_v130 : Ref sig .tc := ⟨.hbm, 782, rfl⟩
abbrev main_call3_v131 : Ref sig .tc := ⟨.hbm, 783, rfl⟩
abbrev main_call3_c_34 : Ref sig .tc := ⟨.hbm, 784, rfl⟩
abbrev main_call3_v132 : Ref sig .tc := ⟨.hbm, 785, rfl⟩
abbrev main_call3_v133 : Ref sig .tc := ⟨.hbm, 786, rfl⟩
abbrev main_call3_v134 : Ref sig .tc := ⟨.hbm, 787, rfl⟩
abbrev main_call3_v135 : Ref sig .tc := ⟨.hbm, 788, rfl⟩
abbrev main_call3_v136 : Ref sig .tc := ⟨.hbm, 789, rfl⟩
abbrev main_call3_v137 : Ref sig .tc := ⟨.hbm, 790, rfl⟩
abbrev main_call3_v138 : Ref sig .tc := ⟨.hbm, 791, rfl⟩
abbrev main_call3_v139 : Ref sig .tc := ⟨.hbm, 792, rfl⟩
abbrev main_call3_c_35 : Ref sig .tc := ⟨.hbm, 793, rfl⟩
abbrev main_call3_v140 : Ref sig .tc := ⟨.hbm, 794, rfl⟩
abbrev main_call3_v141 : Ref sig .tc := ⟨.hbm, 795, rfl⟩
abbrev main_call3_v142 : Ref sig .tc := ⟨.hbm, 796, rfl⟩
abbrev main_call3_c_36 : Ref sig .tc := ⟨.hbm, 797, rfl⟩
abbrev main_call3_v143 : Ref sig .tc := ⟨.hbm, 798, rfl⟩
abbrev main_call3_v144 : Ref sig .tc := ⟨.hbm, 799, rfl⟩
abbrev main_call3_c_37 : Ref sig .tc := ⟨.hbm, 800, rfl⟩
abbrev main_call3_v145 : Ref sig .tc := ⟨.hbm, 801, rfl⟩
abbrev main_call3_v146 : Ref sig .tc := ⟨.hbm, 802, rfl⟩
abbrev main_call3_v147 : Ref sig .tc := ⟨.hbm, 803, rfl⟩
abbrev main_call3_v148 : Ref sig .tc := ⟨.hbm, 804, rfl⟩
abbrev main_call3_v149 : Ref sig .tc := ⟨.hbm, 805, rfl⟩
abbrev main_call3_c_38 : Ref sig .tc := ⟨.hbm, 806, rfl⟩
abbrev main_call3_v150 : Ref sig .tc := ⟨.hbm, 807, rfl⟩
abbrev main_call3_v151 : Ref sig .tc := ⟨.hbm, 808, rfl⟩
abbrev main_call3_c_39 : Ref sig .tc := ⟨.hbm, 809, rfl⟩
abbrev main_call3_v152 : Ref sig .tc := ⟨.hbm, 810, rfl⟩
abbrev main_call3_v153 : Ref sig .tc := ⟨.hbm, 811, rfl⟩
abbrev main_call3_v154 : Ref sig .tc := ⟨.hbm, 812, rfl⟩
abbrev main_call3_v155 : Ref sig .tc := ⟨.hbm, 813, rfl⟩
abbrev main_call3_v156 : Ref sig .tc := ⟨.hbm, 814, rfl⟩
abbrev main_call3_c_40 : Ref sig .tc := ⟨.hbm, 815, rfl⟩
abbrev main_call3_v157 : Ref sig .tc := ⟨.hbm, 816, rfl⟩
abbrev main_call3_v158 : Ref sig .tc := ⟨.hbm, 817, rfl⟩
abbrev main_call3_c_41 : Ref sig .tc := ⟨.hbm, 818, rfl⟩
abbrev main_call3_v159 : Ref sig .tc := ⟨.hbm, 819, rfl⟩
abbrev main_call3_v160 : Ref sig .tc := ⟨.hbm, 820, rfl⟩
abbrev main_call3_v161 : Ref sig .tc := ⟨.hbm, 821, rfl⟩
abbrev main_call3_v162 : Ref sig .tc := ⟨.hbm, 822, rfl⟩
abbrev main_call3_v163 : Ref sig .tc := ⟨.hbm, 823, rfl⟩
abbrev main_call3_c_42 : Ref sig .tc := ⟨.hbm, 824, rfl⟩
abbrev main_call3_v164 : Ref sig .tc := ⟨.hbm, 825, rfl⟩
abbrev main_call3_v165 : Ref sig .tc := ⟨.hbm, 826, rfl⟩
abbrev main_call3_c_43 : Ref sig .tc := ⟨.hbm, 827, rfl⟩
abbrev main_call3_v166 : Ref sig .tc := ⟨.hbm, 828, rfl⟩
abbrev main_call3_v167 : Ref sig .tc := ⟨.hbm, 829, rfl⟩
abbrev main_call3_v168 : Ref sig .tc := ⟨.hbm, 830, rfl⟩
abbrev main_call3_v169 : Ref sig .tc := ⟨.hbm, 831, rfl⟩
abbrev main_call3_v170 : Ref sig .tc := ⟨.hbm, 832, rfl⟩
abbrev main_v134_0 : Ref sig .tc := ⟨.hbm, 833, rfl⟩
abbrev main_call3_v172 : Ref sig .tc := ⟨.hbm, 834, rfl⟩
abbrev main_call3_v173 : Ref sig .tc := ⟨.hbm, 835, rfl⟩
abbrev main_call3_c_44 : Ref sig .tc := ⟨.hbm, 836, rfl⟩
abbrev main_call3_v174 : Ref sig .tc := ⟨.hbm, 837, rfl⟩
abbrev main_v134_1 : Ref sig .tc := ⟨.hbm, 838, rfl⟩
abbrev main_v135 : Ref sig .tc := ⟨.hbm, 839, rfl⟩
abbrev main_v136 : Ref sig .tc := ⟨.hbm, 840, rfl⟩
abbrev main_v137 : Ref sig .tc := ⟨.hbm, 841, rfl⟩
abbrev main_v138 : Ref sig .tc := ⟨.hbm, 842, rfl⟩
abbrev main_cst_38 : Ref sig .tc := ⟨.hbm, 843, rfl⟩
abbrev main_v139 : Ref sig .tc := ⟨.hbm, 844, rfl⟩
abbrev main_cst_39 : Ref sig .tc := ⟨.hbm, 845, rfl⟩
abbrev main_v140 : Ref sig .tc := ⟨.hbm, 846, rfl⟩
abbrev main_c_40 : Ref sig .tc := ⟨.hbm, 847, rfl⟩
abbrev main_v141_0 : Ref sig .tc := ⟨.hbm, 848, rfl⟩
abbrev main_v141_1 : Ref sig .tc := ⟨.hbm, 849, rfl⟩
abbrev main_v141_2 : Ref sig .tc := ⟨.hbm, 850, rfl⟩
abbrev main_v141_3 : Ref sig .tc := ⟨.hbm, 851, rfl⟩
abbrev main_v141_4 : Ref sig .tc := ⟨.hbm, 852, rfl⟩
abbrev main_v141_5 : Ref sig .tc := ⟨.hbm, 853, rfl⟩
abbrev main_v141_6 : Ref sig .tc := ⟨.hbm, 854, rfl⟩
abbrev main_v141_7 : Ref sig .tc := ⟨.hbm, 855, rfl⟩
abbrev main_while0c_c_48 : Ref sig .tc := ⟨.hbm, 856, rfl⟩
abbrev main_while0c_v144 : Ref sig .tc := ⟨.hbm, 857, rfl⟩
abbrev main_while0b_call4_v0 : Ref sig .tc := ⟨.hbm, 858, rfl⟩
abbrev main_while0b_v144 : Ref sig .tc := ⟨.hbm, 859, rfl⟩
abbrev main_while0b_call5_c : Ref sig .tc := ⟨.hbm, 860, rfl⟩
abbrev main_while0b_call5_c_0 : Ref sig .tc := ⟨.hbm, 861, rfl⟩
abbrev main_while0b_call5_v0 : Ref sig .tc := ⟨.hbm, 862, rfl⟩
abbrev main_while0b_v145 : Ref sig .tc := ⟨.hbm, 863, rfl⟩
abbrev main_while0b_call6_c : Ref sig .tc := ⟨.hbm, 864, rfl⟩
abbrev main_while0b_call6_v0 : Ref sig .tc := ⟨.hbm, 865, rfl⟩
abbrev main_while0b_v146 : Ref sig .tc := ⟨.hbm, 866, rfl⟩
abbrev main_while0b_v147 : Ref sig .tc := ⟨.hbm, 867, rfl⟩
abbrev main_while0b_v148 : Ref sig .tc := ⟨.hbm, 868, rfl⟩
abbrev main_while0b_v149 : Ref sig .tc := ⟨.hbm, 869, rfl⟩
abbrev main_while0b_v150 : Ref sig .tc := ⟨.hbm, 870, rfl⟩
abbrev main_while0b_v151 : Ref sig .tc := ⟨.hbm, 871, rfl⟩
abbrev main_while0b_v152 : Ref sig .tc := ⟨.hbm, 872, rfl⟩
abbrev main_while0b_v153 : Ref sig .tc := ⟨.hbm, 873, rfl⟩
abbrev main_while0b_c_48 : Ref sig .tc := ⟨.hbm, 874, rfl⟩
abbrev main_while0b_v154 : Ref sig .tc := ⟨.hbm, 875, rfl⟩
abbrev main_while0b_v155 : Ref sig .tc := ⟨.hbm, 876, rfl⟩
abbrev main_while0b_c_49 : Ref sig .tc := ⟨.hbm, 877, rfl⟩
abbrev main_while0b_v156 : Ref sig .tc := ⟨.hbm, 878, rfl⟩
abbrev main_while0b_v157 : Ref sig .tc := ⟨.hbm, 879, rfl⟩
abbrev main_while0b_c_50 : Ref sig .tc := ⟨.hbm, 880, rfl⟩
abbrev main_while0b_v158 : Ref sig .tc := ⟨.hbm, 881, rfl⟩
abbrev main_while0b_v159 : Ref sig .tc := ⟨.hbm, 882, rfl⟩
abbrev main_while0b_v160 : Ref sig .tc := ⟨.hbm, 883, rfl⟩
abbrev main_while0b_v161 : Ref sig .tc := ⟨.hbm, 884, rfl⟩
abbrev main_while0b_c_51 : Ref sig .tc := ⟨.hbm, 885, rfl⟩
abbrev main_while0b_v162 : Ref sig .tc := ⟨.hbm, 886, rfl⟩
abbrev main_while0b_v163 : Ref sig .tc := ⟨.hbm, 887, rfl⟩
abbrev main_while0b_v164 : Ref sig .tc := ⟨.hbm, 888, rfl⟩
abbrev main_while0b_v165 : Ref sig .tc := ⟨.hbm, 889, rfl⟩
abbrev main_while0b_call7_v0 : Ref sig .tc := ⟨.hbm, 890, rfl⟩
abbrev main_while0b_call7_c : Ref sig .tc := ⟨.hbm, 891, rfl⟩
abbrev main_while0b_call7_v1 : Ref sig .tc := ⟨.hbm, 892, rfl⟩
abbrev main_while0b_call7_v2 : Ref sig .tc := ⟨.hbm, 893, rfl⟩
abbrev main_while0b_call7_v3 : Ref sig .tc := ⟨.hbm, 894, rfl⟩
abbrev main_while0b_call7_v4 : Ref sig .tc := ⟨.hbm, 895, rfl⟩
abbrev main_while0b_call7_v5 : Ref sig .tc := ⟨.hbm, 896, rfl⟩
abbrev main_while0b_call7_v6 : Ref sig .tc := ⟨.hbm, 897, rfl⟩
abbrev main_while0b_call7_c_0 : Ref sig .tc := ⟨.hbm, 898, rfl⟩
abbrev main_while0b_call7_v7 : Ref sig .tc := ⟨.hbm, 899, rfl⟩
abbrev main_while0b_call7_v8 : Ref sig .tc := ⟨.hbm, 900, rfl⟩
abbrev main_while0b_call7_c_1 : Ref sig .tc := ⟨.hbm, 901, rfl⟩
abbrev main_while0b_call7_v9 : Ref sig .tc := ⟨.hbm, 902, rfl⟩
abbrev main_while0b_call7_v10 : Ref sig .tc := ⟨.hbm, 903, rfl⟩
abbrev main_while0b_call7_v11 : Ref sig .tc := ⟨.hbm, 904, rfl⟩
abbrev main_while0b_call7_v12 : Ref sig .tc := ⟨.hbm, 905, rfl⟩
abbrev main_while0b_call7_v13 : Ref sig .tc := ⟨.hbm, 906, rfl⟩
abbrev main_while0b_call7_c_2 : Ref sig .tc := ⟨.hbm, 907, rfl⟩
abbrev main_while0b_call7_v14 : Ref sig .tc := ⟨.hbm, 908, rfl⟩
abbrev main_while0b_call7_v15 : Ref sig .tc := ⟨.hbm, 909, rfl⟩
abbrev main_while0b_call7_c_3 : Ref sig .tc := ⟨.hbm, 910, rfl⟩
abbrev main_while0b_call7_v16 : Ref sig .tc := ⟨.hbm, 911, rfl⟩
abbrev main_while0b_call7_v17 : Ref sig .tc := ⟨.hbm, 912, rfl⟩
abbrev main_while0b_call7_v18 : Ref sig .tc := ⟨.hbm, 913, rfl⟩
abbrev main_while0b_call7_v19 : Ref sig .tc := ⟨.hbm, 914, rfl⟩
abbrev main_while0b_call7_v20 : Ref sig .tc := ⟨.hbm, 915, rfl⟩
abbrev main_while0b_call7_c_4 : Ref sig .tc := ⟨.hbm, 916, rfl⟩
abbrev main_while0b_call7_v21 : Ref sig .tc := ⟨.hbm, 917, rfl⟩
abbrev main_while0b_call7_v22 : Ref sig .tc := ⟨.hbm, 918, rfl⟩
abbrev main_while0b_call7_c_5 : Ref sig .tc := ⟨.hbm, 919, rfl⟩
abbrev main_while0b_call7_v23 : Ref sig .tc := ⟨.hbm, 920, rfl⟩
abbrev main_while0b_call7_v24 : Ref sig .tc := ⟨.hbm, 921, rfl⟩
abbrev main_while0b_call7_v25 : Ref sig .tc := ⟨.hbm, 922, rfl⟩
abbrev main_while0b_call7_v26 : Ref sig .tc := ⟨.hbm, 923, rfl⟩
abbrev main_while0b_call7_v27 : Ref sig .tc := ⟨.hbm, 924, rfl⟩
abbrev main_while0b_call7_c_6 : Ref sig .tc := ⟨.hbm, 925, rfl⟩
abbrev main_while0b_call7_v28 : Ref sig .tc := ⟨.hbm, 926, rfl⟩
abbrev main_while0b_call7_v29 : Ref sig .tc := ⟨.hbm, 927, rfl⟩
abbrev main_while0b_call7_c_7 : Ref sig .tc := ⟨.hbm, 928, rfl⟩
abbrev main_while0b_call7_v30 : Ref sig .tc := ⟨.hbm, 929, rfl⟩
abbrev main_while0b_call7_v31 : Ref sig .tc := ⟨.hbm, 930, rfl⟩
abbrev main_while0b_call7_v32 : Ref sig .tc := ⟨.hbm, 931, rfl⟩
abbrev main_while0b_call7_v33 : Ref sig .tc := ⟨.hbm, 932, rfl⟩
abbrev main_while0b_call7_v34 : Ref sig .tc := ⟨.hbm, 933, rfl⟩
abbrev main_while0b_call7_v35 : Ref sig .tc := ⟨.hbm, 934, rfl⟩
abbrev main_while0b_call7_v36 : Ref sig .tc := ⟨.hbm, 935, rfl⟩
abbrev main_while0b_call7_v37 : Ref sig .tc := ⟨.hbm, 936, rfl⟩
abbrev main_while0b_call7_c_8 : Ref sig .tc := ⟨.hbm, 937, rfl⟩
abbrev main_while0b_call7_v38 : Ref sig .tc := ⟨.hbm, 938, rfl⟩
abbrev main_while0b_call7_v39 : Ref sig .tc := ⟨.hbm, 939, rfl⟩
abbrev main_while0b_call7_v40 : Ref sig .tc := ⟨.hbm, 940, rfl⟩
abbrev main_while0b_call7_c_9 : Ref sig .tc := ⟨.hbm, 941, rfl⟩
abbrev main_while0b_call7_v41 : Ref sig .tc := ⟨.hbm, 942, rfl⟩
abbrev main_while0b_call7_v42 : Ref sig .tc := ⟨.hbm, 943, rfl⟩
abbrev main_while0b_call7_c_10 : Ref sig .tc := ⟨.hbm, 944, rfl⟩
abbrev main_while0b_call7_v43 : Ref sig .tc := ⟨.hbm, 945, rfl⟩
abbrev main_while0b_call7_v44 : Ref sig .tc := ⟨.hbm, 946, rfl⟩
abbrev main_while0b_call7_v45 : Ref sig .tc := ⟨.hbm, 947, rfl⟩
abbrev main_while0b_call7_v46 : Ref sig .tc := ⟨.hbm, 948, rfl⟩
abbrev main_while0b_call7_v47 : Ref sig .tc := ⟨.hbm, 949, rfl⟩
abbrev main_while0b_call7_c_11 : Ref sig .tc := ⟨.hbm, 950, rfl⟩
abbrev main_while0b_call7_v48 : Ref sig .tc := ⟨.hbm, 951, rfl⟩
abbrev main_while0b_call7_v49 : Ref sig .tc := ⟨.hbm, 952, rfl⟩
abbrev main_while0b_call7_c_12 : Ref sig .tc := ⟨.hbm, 953, rfl⟩
abbrev main_while0b_call7_v50 : Ref sig .tc := ⟨.hbm, 954, rfl⟩
abbrev main_while0b_call7_v51 : Ref sig .tc := ⟨.hbm, 955, rfl⟩
abbrev main_while0b_call7_v52 : Ref sig .tc := ⟨.hbm, 956, rfl⟩
abbrev main_while0b_call7_v53 : Ref sig .tc := ⟨.hbm, 957, rfl⟩
abbrev main_while0b_call7_v54 : Ref sig .tc := ⟨.hbm, 958, rfl⟩
abbrev main_while0b_call7_c_13 : Ref sig .tc := ⟨.hbm, 959, rfl⟩
abbrev main_while0b_call7_v55 : Ref sig .tc := ⟨.hbm, 960, rfl⟩
abbrev main_while0b_call7_v56 : Ref sig .tc := ⟨.hbm, 961, rfl⟩
abbrev main_while0b_call7_c_14 : Ref sig .tc := ⟨.hbm, 962, rfl⟩
abbrev main_while0b_call7_v57 : Ref sig .tc := ⟨.hbm, 963, rfl⟩
abbrev main_while0b_call7_v58 : Ref sig .tc := ⟨.hbm, 964, rfl⟩
abbrev main_while0b_call7_v59 : Ref sig .tc := ⟨.hbm, 965, rfl⟩
abbrev main_while0b_call7_v60 : Ref sig .tc := ⟨.hbm, 966, rfl⟩
abbrev main_while0b_call7_v61 : Ref sig .tc := ⟨.hbm, 967, rfl⟩
abbrev main_while0b_call7_c_15 : Ref sig .tc := ⟨.hbm, 968, rfl⟩
abbrev main_while0b_call7_v62 : Ref sig .tc := ⟨.hbm, 969, rfl⟩
abbrev main_while0b_call7_v63 : Ref sig .tc := ⟨.hbm, 970, rfl⟩
abbrev main_while0b_call7_c_16 : Ref sig .tc := ⟨.hbm, 971, rfl⟩
abbrev main_while0b_call7_v64 : Ref sig .tc := ⟨.hbm, 972, rfl⟩
abbrev main_while0b_call7_v65 : Ref sig .tc := ⟨.hbm, 973, rfl⟩
abbrev main_while0b_call7_v66 : Ref sig .tc := ⟨.hbm, 974, rfl⟩
abbrev main_while0b_call7_v67 : Ref sig .tc := ⟨.hbm, 975, rfl⟩
abbrev main_while0b_call7_v68 : Ref sig .tc := ⟨.hbm, 976, rfl⟩
abbrev main_while0b_call7_v69 : Ref sig .tc := ⟨.hbm, 977, rfl⟩
abbrev main_while0b_call7_v70 : Ref sig .tc := ⟨.hbm, 978, rfl⟩
abbrev main_while0b_call7_v71 : Ref sig .tc := ⟨.hbm, 979, rfl⟩
abbrev main_while0b_call7_c_17 : Ref sig .tc := ⟨.hbm, 980, rfl⟩
abbrev main_while0b_call7_v72 : Ref sig .tc := ⟨.hbm, 981, rfl⟩
abbrev main_while0b_call7_v73 : Ref sig .tc := ⟨.hbm, 982, rfl⟩
abbrev main_while0b_call7_v74 : Ref sig .tc := ⟨.hbm, 983, rfl⟩
abbrev main_while0b_call7_c_18 : Ref sig .tc := ⟨.hbm, 984, rfl⟩
abbrev main_while0b_call7_v75 : Ref sig .tc := ⟨.hbm, 985, rfl⟩
abbrev main_while0b_call7_v76 : Ref sig .tc := ⟨.hbm, 986, rfl⟩
abbrev main_while0b_call7_c_19 : Ref sig .tc := ⟨.hbm, 987, rfl⟩
abbrev main_while0b_call7_v77 : Ref sig .tc := ⟨.hbm, 988, rfl⟩
abbrev main_while0b_call7_v78 : Ref sig .tc := ⟨.hbm, 989, rfl⟩
abbrev main_while0b_call7_v79 : Ref sig .tc := ⟨.hbm, 990, rfl⟩
abbrev main_while0b_call7_v80 : Ref sig .tc := ⟨.hbm, 991, rfl⟩
abbrev main_while0b_call7_v81 : Ref sig .tc := ⟨.hbm, 992, rfl⟩
abbrev main_while0b_call7_c_20 : Ref sig .tc := ⟨.hbm, 993, rfl⟩
abbrev main_while0b_call7_v82 : Ref sig .tc := ⟨.hbm, 994, rfl⟩
abbrev main_while0b_call7_v83 : Ref sig .tc := ⟨.hbm, 995, rfl⟩
abbrev main_while0b_call7_c_21 : Ref sig .tc := ⟨.hbm, 996, rfl⟩
abbrev main_while0b_call7_v84 : Ref sig .tc := ⟨.hbm, 997, rfl⟩
abbrev main_while0b_call7_v85 : Ref sig .tc := ⟨.hbm, 998, rfl⟩
abbrev main_while0b_call7_v86 : Ref sig .tc := ⟨.hbm, 999, rfl⟩
abbrev main_while0b_call7_v87 : Ref sig .tc := ⟨.hbm, 1000, rfl⟩
abbrev main_while0b_call7_v88 : Ref sig .tc := ⟨.hbm, 1001, rfl⟩
abbrev main_while0b_call7_c_22 : Ref sig .tc := ⟨.hbm, 1002, rfl⟩
abbrev main_while0b_call7_v89 : Ref sig .tc := ⟨.hbm, 1003, rfl⟩
abbrev main_while0b_call7_v90 : Ref sig .tc := ⟨.hbm, 1004, rfl⟩
abbrev main_while0b_call7_c_23 : Ref sig .tc := ⟨.hbm, 1005, rfl⟩
abbrev main_while0b_call7_v91 : Ref sig .tc := ⟨.hbm, 1006, rfl⟩
abbrev main_while0b_call7_v92 : Ref sig .tc := ⟨.hbm, 1007, rfl⟩
abbrev main_while0b_call7_v93 : Ref sig .tc := ⟨.hbm, 1008, rfl⟩
abbrev main_while0b_call7_v94 : Ref sig .tc := ⟨.hbm, 1009, rfl⟩
abbrev main_while0b_call7_v95 : Ref sig .tc := ⟨.hbm, 1010, rfl⟩
abbrev main_while0b_call7_c_24 : Ref sig .tc := ⟨.hbm, 1011, rfl⟩
abbrev main_while0b_call7_v96 : Ref sig .tc := ⟨.hbm, 1012, rfl⟩
abbrev main_while0b_call7_v97 : Ref sig .tc := ⟨.hbm, 1013, rfl⟩
abbrev main_while0b_call7_c_25 : Ref sig .tc := ⟨.hbm, 1014, rfl⟩
abbrev main_while0b_call7_v98 : Ref sig .tc := ⟨.hbm, 1015, rfl⟩
abbrev main_while0b_call7_v99 : Ref sig .tc := ⟨.hbm, 1016, rfl⟩
abbrev main_while0b_call7_v100 : Ref sig .tc := ⟨.hbm, 1017, rfl⟩
abbrev main_while0b_call7_v101 : Ref sig .tc := ⟨.hbm, 1018, rfl⟩
abbrev main_while0b_call7_v102 : Ref sig .tc := ⟨.hbm, 1019, rfl⟩
abbrev main_while0b_call7_v103 : Ref sig .tc := ⟨.hbm, 1020, rfl⟩
abbrev main_while0b_call7_v104 : Ref sig .tc := ⟨.hbm, 1021, rfl⟩
abbrev main_while0b_call7_v105 : Ref sig .tc := ⟨.hbm, 1022, rfl⟩
abbrev main_while0b_call7_c_26 : Ref sig .tc := ⟨.hbm, 1023, rfl⟩
abbrev main_while0b_call7_v106 : Ref sig .tc := ⟨.hbm, 1024, rfl⟩
abbrev main_while0b_call7_v107 : Ref sig .tc := ⟨.hbm, 1025, rfl⟩
abbrev main_while0b_call7_v108 : Ref sig .tc := ⟨.hbm, 1026, rfl⟩
abbrev main_while0b_call7_c_27 : Ref sig .tc := ⟨.hbm, 1027, rfl⟩
abbrev main_while0b_call7_v109 : Ref sig .tc := ⟨.hbm, 1028, rfl⟩
abbrev main_while0b_call7_v110 : Ref sig .tc := ⟨.hbm, 1029, rfl⟩
abbrev main_while0b_call7_c_28 : Ref sig .tc := ⟨.hbm, 1030, rfl⟩
abbrev main_while0b_call7_v111 : Ref sig .tc := ⟨.hbm, 1031, rfl⟩
abbrev main_while0b_call7_v112 : Ref sig .tc := ⟨.hbm, 1032, rfl⟩
abbrev main_while0b_call7_v113 : Ref sig .tc := ⟨.hbm, 1033, rfl⟩
abbrev main_while0b_call7_v114 : Ref sig .tc := ⟨.hbm, 1034, rfl⟩
abbrev main_while0b_call7_v115 : Ref sig .tc := ⟨.hbm, 1035, rfl⟩
abbrev main_while0b_call7_c_29 : Ref sig .tc := ⟨.hbm, 1036, rfl⟩
abbrev main_while0b_call7_v116 : Ref sig .tc := ⟨.hbm, 1037, rfl⟩
abbrev main_while0b_call7_v117 : Ref sig .tc := ⟨.hbm, 1038, rfl⟩
abbrev main_while0b_call7_c_30 : Ref sig .tc := ⟨.hbm, 1039, rfl⟩
abbrev main_while0b_call7_v118 : Ref sig .tc := ⟨.hbm, 1040, rfl⟩
abbrev main_while0b_call7_v119 : Ref sig .tc := ⟨.hbm, 1041, rfl⟩
abbrev main_while0b_call7_v120 : Ref sig .tc := ⟨.hbm, 1042, rfl⟩
abbrev main_while0b_call7_v121 : Ref sig .tc := ⟨.hbm, 1043, rfl⟩
abbrev main_while0b_call7_v122 : Ref sig .tc := ⟨.hbm, 1044, rfl⟩
abbrev main_while0b_call7_c_31 : Ref sig .tc := ⟨.hbm, 1045, rfl⟩
abbrev main_while0b_call7_v123 : Ref sig .tc := ⟨.hbm, 1046, rfl⟩
abbrev main_while0b_call7_v124 : Ref sig .tc := ⟨.hbm, 1047, rfl⟩
abbrev main_while0b_call7_c_32 : Ref sig .tc := ⟨.hbm, 1048, rfl⟩
abbrev main_while0b_call7_v125 : Ref sig .tc := ⟨.hbm, 1049, rfl⟩
abbrev main_while0b_call7_v126 : Ref sig .tc := ⟨.hbm, 1050, rfl⟩
abbrev main_while0b_call7_v127 : Ref sig .tc := ⟨.hbm, 1051, rfl⟩
abbrev main_while0b_call7_v128 : Ref sig .tc := ⟨.hbm, 1052, rfl⟩
abbrev main_while0b_call7_v129 : Ref sig .tc := ⟨.hbm, 1053, rfl⟩
abbrev main_while0b_call7_c_33 : Ref sig .tc := ⟨.hbm, 1054, rfl⟩
abbrev main_while0b_call7_v130 : Ref sig .tc := ⟨.hbm, 1055, rfl⟩
abbrev main_while0b_call7_v131 : Ref sig .tc := ⟨.hbm, 1056, rfl⟩
abbrev main_while0b_call7_c_34 : Ref sig .tc := ⟨.hbm, 1057, rfl⟩
abbrev main_while0b_call7_v132 : Ref sig .tc := ⟨.hbm, 1058, rfl⟩
abbrev main_while0b_call7_v133 : Ref sig .tc := ⟨.hbm, 1059, rfl⟩
abbrev main_while0b_call7_v134 : Ref sig .tc := ⟨.hbm, 1060, rfl⟩
abbrev main_while0b_call7_v135 : Ref sig .tc := ⟨.hbm, 1061, rfl⟩
abbrev main_while0b_call7_v136 : Ref sig .tc := ⟨.hbm, 1062, rfl⟩
abbrev main_while0b_call7_v137 : Ref sig .tc := ⟨.hbm, 1063, rfl⟩
abbrev main_while0b_call7_v138 : Ref sig .tc := ⟨.hbm, 1064, rfl⟩
abbrev main_while0b_call7_v139 : Ref sig .tc := ⟨.hbm, 1065, rfl⟩
abbrev main_while0b_call7_c_35 : Ref sig .tc := ⟨.hbm, 1066, rfl⟩
abbrev main_while0b_call7_v140 : Ref sig .tc := ⟨.hbm, 1067, rfl⟩
abbrev main_while0b_call7_v141 : Ref sig .tc := ⟨.hbm, 1068, rfl⟩
abbrev main_while0b_call7_v142 : Ref sig .tc := ⟨.hbm, 1069, rfl⟩
abbrev main_while0b_call7_c_36 : Ref sig .tc := ⟨.hbm, 1070, rfl⟩
abbrev main_while0b_call7_v143 : Ref sig .tc := ⟨.hbm, 1071, rfl⟩
abbrev main_while0b_call7_v144 : Ref sig .tc := ⟨.hbm, 1072, rfl⟩
abbrev main_while0b_call7_c_37 : Ref sig .tc := ⟨.hbm, 1073, rfl⟩
abbrev main_while0b_call7_v145 : Ref sig .tc := ⟨.hbm, 1074, rfl⟩
abbrev main_while0b_call7_v146 : Ref sig .tc := ⟨.hbm, 1075, rfl⟩
abbrev main_while0b_call7_v147 : Ref sig .tc := ⟨.hbm, 1076, rfl⟩
abbrev main_while0b_call7_v148 : Ref sig .tc := ⟨.hbm, 1077, rfl⟩
abbrev main_while0b_call7_v149 : Ref sig .tc := ⟨.hbm, 1078, rfl⟩
abbrev main_while0b_call7_c_38 : Ref sig .tc := ⟨.hbm, 1079, rfl⟩
abbrev main_while0b_call7_v150 : Ref sig .tc := ⟨.hbm, 1080, rfl⟩
abbrev main_while0b_call7_v151 : Ref sig .tc := ⟨.hbm, 1081, rfl⟩
abbrev main_while0b_call7_c_39 : Ref sig .tc := ⟨.hbm, 1082, rfl⟩
abbrev main_while0b_call7_v152 : Ref sig .tc := ⟨.hbm, 1083, rfl⟩
abbrev main_while0b_call7_v153 : Ref sig .tc := ⟨.hbm, 1084, rfl⟩
abbrev main_while0b_call7_v154 : Ref sig .tc := ⟨.hbm, 1085, rfl⟩
abbrev main_while0b_call7_v155 : Ref sig .tc := ⟨.hbm, 1086, rfl⟩
abbrev main_while0b_call7_v156 : Ref sig .tc := ⟨.hbm, 1087, rfl⟩
abbrev main_while0b_call7_c_40 : Ref sig .tc := ⟨.hbm, 1088, rfl⟩
abbrev main_while0b_call7_v157 : Ref sig .tc := ⟨.hbm, 1089, rfl⟩
abbrev main_while0b_call7_v158 : Ref sig .tc := ⟨.hbm, 1090, rfl⟩
abbrev main_while0b_call7_c_41 : Ref sig .tc := ⟨.hbm, 1091, rfl⟩
abbrev main_while0b_call7_v159 : Ref sig .tc := ⟨.hbm, 1092, rfl⟩
abbrev main_while0b_call7_v160 : Ref sig .tc := ⟨.hbm, 1093, rfl⟩
abbrev main_while0b_call7_v161 : Ref sig .tc := ⟨.hbm, 1094, rfl⟩
abbrev main_while0b_call7_v162 : Ref sig .tc := ⟨.hbm, 1095, rfl⟩
abbrev main_while0b_call7_v163 : Ref sig .tc := ⟨.hbm, 1096, rfl⟩
abbrev main_while0b_call7_c_42 : Ref sig .tc := ⟨.hbm, 1097, rfl⟩
abbrev main_while0b_call7_v164 : Ref sig .tc := ⟨.hbm, 1098, rfl⟩
abbrev main_while0b_call7_v165 : Ref sig .tc := ⟨.hbm, 1099, rfl⟩
abbrev main_while0b_call7_c_43 : Ref sig .tc := ⟨.hbm, 1100, rfl⟩
abbrev main_while0b_call7_v166 : Ref sig .tc := ⟨.hbm, 1101, rfl⟩
abbrev main_while0b_call7_v167 : Ref sig .tc := ⟨.hbm, 1102, rfl⟩
abbrev main_while0b_call7_v168 : Ref sig .tc := ⟨.hbm, 1103, rfl⟩
abbrev main_while0b_call7_v169 : Ref sig .tc := ⟨.hbm, 1104, rfl⟩
abbrev main_while0b_call7_v170 : Ref sig .tc := ⟨.hbm, 1105, rfl⟩
abbrev main_while0b_v166_0 : Ref sig .tc := ⟨.hbm, 1106, rfl⟩
abbrev main_while0b_call7_v172 : Ref sig .tc := ⟨.hbm, 1107, rfl⟩
abbrev main_while0b_call7_v173 : Ref sig .tc := ⟨.hbm, 1108, rfl⟩
abbrev main_while0b_call7_c_44 : Ref sig .tc := ⟨.hbm, 1109, rfl⟩
abbrev main_while0b_call7_v174 : Ref sig .tc := ⟨.hbm, 1110, rfl⟩
abbrev main_while0b_v166_1 : Ref sig .tc := ⟨.hbm, 1111, rfl⟩
abbrev main_while0b_v167 : Ref sig .tc := ⟨.hbm, 1112, rfl⟩
abbrev main_while0b_c_52 : Ref sig .tc := ⟨.hbm, 1113, rfl⟩
abbrev main_while0b_v168 : Ref sig .tc := ⟨.hbm, 1114, rfl⟩
abbrev main_while0b_v169 : Ref sig .tc := ⟨.hbm, 1115, rfl⟩
abbrev main_while0b_c_53 : Ref sig .tc := ⟨.hbm, 1116, rfl⟩
abbrev main_while0b_v170 : Ref sig .tc := ⟨.hbm, 1117, rfl⟩
abbrev main_while0b_v171 : Ref sig .tc := ⟨.hbm, 1118, rfl⟩
abbrev main_while0b_v172 : Ref sig .tc := ⟨.hbm, 1119, rfl⟩
abbrev main_while0b_cst_54 : Ref sig .tc := ⟨.hbm, 1120, rfl⟩
abbrev main_while0b_v173 : Ref sig .tc := ⟨.hbm, 1121, rfl⟩
abbrev main_while0b_v174 : Ref sig .tc := ⟨.hbm, 1122, rfl⟩
abbrev main_while0b_cst_55 : Ref sig .tc := ⟨.hbm, 1123, rfl⟩
abbrev main_while0b_v175 : Ref sig .tc := ⟨.hbm, 1124, rfl⟩
abbrev main_while0b_v176 : Ref sig .tc := ⟨.hbm, 1125, rfl⟩
abbrev main_while0b_cst_56 : Ref sig .tc := ⟨.hbm, 1126, rfl⟩
abbrev main_while0b_v177 : Ref sig .tc := ⟨.hbm, 1127, rfl⟩
abbrev main_while0b_v178 : Ref sig .tc := ⟨.hbm, 1128, rfl⟩
abbrev main_while0b_cst_57 : Ref sig .tc := ⟨.hbm, 1129, rfl⟩
abbrev main_while0b_v179 : Ref sig .tc := ⟨.hbm, 1130, rfl⟩
abbrev main_while0b_v180 : Ref sig .tc := ⟨.hbm, 1131, rfl⟩
abbrev main_while0b_cst_58 : Ref sig .tc := ⟨.hbm, 1132, rfl⟩
abbrev main_while0b_v181 : Ref sig .tc := ⟨.hbm, 1133, rfl⟩
abbrev main_while0b_v182 : Ref sig .tc := ⟨.hbm, 1134, rfl⟩
abbrev main_while0b_v183 : Ref sig .tc := ⟨.hbm, 1135, rfl⟩
abbrev main_while0b_v184 : Ref sig .tc := ⟨.hbm, 1136, rfl⟩
abbrev main_while0b_v185 : Ref sig .tc := ⟨.hbm, 1137, rfl⟩
abbrev main_while0b_cst_59 : Ref sig .tc := ⟨.hbm, 1138, rfl⟩
abbrev main_while0b_v186 : Ref sig .tc := ⟨.hbm, 1139, rfl⟩
abbrev main_while0b_v187 : Ref sig .tc := ⟨.hbm, 1140, rfl⟩
abbrev main_while0b_cst_60 : Ref sig .tc := ⟨.hbm, 1141, rfl⟩
abbrev main_while0b_v188 : Ref sig .tc := ⟨.hbm, 1142, rfl⟩
abbrev main_while0b_v189 : Ref sig .tc := ⟨.hbm, 1143, rfl⟩
abbrev main_while0b_cst_61 : Ref sig .tc := ⟨.hbm, 1144, rfl⟩
abbrev main_while0b_v190 : Ref sig .tc := ⟨.hbm, 1145, rfl⟩
abbrev main_while0b_v191 : Ref sig .tc := ⟨.hbm, 1146, rfl⟩
abbrev main_while0b_cst_62 : Ref sig .tc := ⟨.hbm, 1147, rfl⟩
abbrev main_while0b_v192 : Ref sig .tc := ⟨.hbm, 1148, rfl⟩
abbrev main_while0b_v193 : Ref sig .tc := ⟨.hbm, 1149, rfl⟩
abbrev main_while0b_v194 : Ref sig .tc := ⟨.hbm, 1150, rfl⟩
abbrev main_while0b_cst_63 : Ref sig .tc := ⟨.hbm, 1151, rfl⟩
abbrev main_while0b_v195 : Ref sig .tc := ⟨.hbm, 1152, rfl⟩
abbrev main_while0b_v196 : Ref sig .tc := ⟨.hbm, 1153, rfl⟩
abbrev main_while0b_v197 : Ref sig .tc := ⟨.hbm, 1154, rfl⟩
abbrev main_while0b_cst_64 : Ref sig .tc := ⟨.hbm, 1155, rfl⟩
abbrev main_while0b_v198 : Ref sig .tc := ⟨.hbm, 1156, rfl⟩
abbrev main_while0b_v199 : Ref sig .tc := ⟨.hbm, 1157, rfl⟩
abbrev main_while0b_v200 : Ref sig .tc := ⟨.hbm, 1158, rfl⟩
abbrev main_while0b_cst_65 : Ref sig .tc := ⟨.hbm, 1159, rfl⟩
abbrev main_while0b_v201 : Ref sig .tc := ⟨.hbm, 1160, rfl⟩
abbrev main_while0b_v202 : Ref sig .tc := ⟨.hbm, 1161, rfl⟩
abbrev main_while0b_v203 : Ref sig .tc := ⟨.hbm, 1162, rfl⟩
abbrev main_while0b_cst_66 : Ref sig .tc := ⟨.hbm, 1163, rfl⟩
abbrev main_while0b_v204 : Ref sig .tc := ⟨.hbm, 1164, rfl⟩
abbrev main_while0b_v205 : Ref sig .tc := ⟨.hbm, 1165, rfl⟩
abbrev main_while0b_v206 : Ref sig .tc := ⟨.hbm, 1166, rfl⟩
abbrev main_while0b_cst_67 : Ref sig .tc := ⟨.hbm, 1167, rfl⟩
abbrev main_while0b_v207 : Ref sig .tc := ⟨.hbm, 1168, rfl⟩
abbrev main_while0b_v208 : Ref sig .tc := ⟨.hbm, 1169, rfl⟩
abbrev main_while0b_v209 : Ref sig .tc := ⟨.hbm, 1170, rfl⟩
abbrev main_while0b_cst_68 : Ref sig .tc := ⟨.hbm, 1171, rfl⟩
abbrev main_while0b_v210 : Ref sig .tc := ⟨.hbm, 1172, rfl⟩
abbrev main_while0b_v211 : Ref sig .tc := ⟨.hbm, 1173, rfl⟩
abbrev main_while0b_v212 : Ref sig .tc := ⟨.hbm, 1174, rfl⟩
abbrev main_while0b_cst_69 : Ref sig .tc := ⟨.hbm, 1175, rfl⟩
abbrev main_while0b_v213 : Ref sig .tc := ⟨.hbm, 1176, rfl⟩
abbrev main_while0b_v214 : Ref sig .tc := ⟨.hbm, 1177, rfl⟩
abbrev main_while0b_v215 : Ref sig .tc := ⟨.hbm, 1178, rfl⟩
abbrev main_while0b_cst_70 : Ref sig .tc := ⟨.hbm, 1179, rfl⟩
abbrev main_while0b_v216 : Ref sig .tc := ⟨.hbm, 1180, rfl⟩
abbrev main_while0b_v217 : Ref sig .tc := ⟨.hbm, 1181, rfl⟩
abbrev main_while0b_cst_71 : Ref sig .tc := ⟨.hbm, 1182, rfl⟩
abbrev main_while0b_v218 : Ref sig .tc := ⟨.hbm, 1183, rfl⟩
abbrev main_while0b_v219 : Ref sig .tc := ⟨.hbm, 1184, rfl⟩
abbrev main_while0b_cst_72 : Ref sig .tc := ⟨.hbm, 1185, rfl⟩
abbrev main_while0b_v220 : Ref sig .tc := ⟨.hbm, 1186, rfl⟩
abbrev main_while0b_v221 : Ref sig .tc := ⟨.hbm, 1187, rfl⟩
abbrev main_while0b_v222 : Ref sig .tc := ⟨.hbm, 1188, rfl⟩
abbrev main_while0b_cst_73 : Ref sig .tc := ⟨.hbm, 1189, rfl⟩
abbrev main_while0b_v223 : Ref sig .tc := ⟨.hbm, 1190, rfl⟩
abbrev main_while0b_v224 : Ref sig .tc := ⟨.hbm, 1191, rfl⟩
abbrev main_while0b_v225 : Ref sig .tc := ⟨.hbm, 1192, rfl⟩
abbrev main_while0b_cst_74 : Ref sig .tc := ⟨.hbm, 1193, rfl⟩
abbrev main_while0b_v226 : Ref sig .tc := ⟨.hbm, 1194, rfl⟩
abbrev main_while0b_v227 : Ref sig .tc := ⟨.hbm, 1195, rfl⟩
abbrev main_while0b_v228 : Ref sig .tc := ⟨.hbm, 1196, rfl⟩
abbrev main_while0b_cst_75 : Ref sig .tc := ⟨.hbm, 1197, rfl⟩
abbrev main_while0b_v229 : Ref sig .tc := ⟨.hbm, 1198, rfl⟩
abbrev main_while0b_v230 : Ref sig .tc := ⟨.hbm, 1199, rfl⟩
abbrev main_while0b_v231 : Ref sig .tc := ⟨.hbm, 1200, rfl⟩
abbrev main_while0b_cst_76 : Ref sig .tc := ⟨.hbm, 1201, rfl⟩
abbrev main_while0b_v232 : Ref sig .tc := ⟨.hbm, 1202, rfl⟩
abbrev main_while0b_v233 : Ref sig .tc := ⟨.hbm, 1203, rfl⟩
abbrev main_while0b_v234 : Ref sig .tc := ⟨.hbm, 1204, rfl⟩
abbrev main_while0b_cst_77 : Ref sig .tc := ⟨.hbm, 1205, rfl⟩
abbrev main_while0b_v235 : Ref sig .tc := ⟨.hbm, 1206, rfl⟩
abbrev main_while0b_v236 : Ref sig .tc := ⟨.hbm, 1207, rfl⟩
abbrev main_while0b_v237 : Ref sig .tc := ⟨.hbm, 1208, rfl⟩
abbrev main_while0b_cst_78 : Ref sig .tc := ⟨.hbm, 1209, rfl⟩
abbrev main_while0b_v238 : Ref sig .tc := ⟨.hbm, 1210, rfl⟩
abbrev main_while0b_v239 : Ref sig .tc := ⟨.hbm, 1211, rfl⟩
abbrev main_while0b_v240 : Ref sig .tc := ⟨.hbm, 1212, rfl⟩
abbrev main_while0b_cst_79 : Ref sig .tc := ⟨.hbm, 1213, rfl⟩
abbrev main_while0b_v241 : Ref sig .tc := ⟨.hbm, 1214, rfl⟩
abbrev main_while0b_v242 : Ref sig .tc := ⟨.hbm, 1215, rfl⟩
abbrev main_while0b_v243 : Ref sig .tc := ⟨.hbm, 1216, rfl⟩
abbrev main_while0b_v244 : Ref sig .tc := ⟨.hbm, 1217, rfl⟩
abbrev main_while0b_v245 : Ref sig .tc := ⟨.hbm, 1218, rfl⟩
abbrev main_while0b_v246 : Ref sig .tc := ⟨.hbm, 1219, rfl⟩
abbrev main_while0b_cst_80 : Ref sig .tc := ⟨.hbm, 1220, rfl⟩
abbrev main_while0b_v247 : Ref sig .tc := ⟨.hbm, 1221, rfl⟩
abbrev main_while0b_v248 : Ref sig .tc := ⟨.hbm, 1222, rfl⟩
abbrev main_while0b_cst_81 : Ref sig .tc := ⟨.hbm, 1223, rfl⟩
abbrev main_while0b_v249 : Ref sig .tc := ⟨.hbm, 1224, rfl⟩
abbrev main_while0b_v250 : Ref sig .tc := ⟨.hbm, 1225, rfl⟩
abbrev main_while0b_v251 : Ref sig .tc := ⟨.hbm, 1226, rfl⟩
abbrev main_while0b_cst_82 : Ref sig .tc := ⟨.hbm, 1227, rfl⟩
abbrev main_while0b_v252 : Ref sig .tc := ⟨.hbm, 1228, rfl⟩
abbrev main_while0b_v253 : Ref sig .tc := ⟨.hbm, 1229, rfl⟩
abbrev main_while0b_v254 : Ref sig .tc := ⟨.hbm, 1230, rfl⟩
abbrev main_while0b_cst_83 : Ref sig .tc := ⟨.hbm, 1231, rfl⟩
abbrev main_while0b_v255 : Ref sig .tc := ⟨.hbm, 1232, rfl⟩
abbrev main_while0b_v256 : Ref sig .tc := ⟨.hbm, 1233, rfl⟩
abbrev main_while0b_cst_84 : Ref sig .tc := ⟨.hbm, 1234, rfl⟩
abbrev main_while0b_v257 : Ref sig .tc := ⟨.hbm, 1235, rfl⟩
abbrev main_while0b_v258 : Ref sig .tc := ⟨.hbm, 1236, rfl⟩
abbrev main_while0b_v259 : Ref sig .tc := ⟨.hbm, 1237, rfl⟩
abbrev main_while0b_v260 : Ref sig .tc := ⟨.hbm, 1238, rfl⟩
abbrev main_while0b_cst_85 : Ref sig .tc := ⟨.hbm, 1239, rfl⟩
abbrev main_while0b_v261 : Ref sig .tc := ⟨.hbm, 1240, rfl⟩
abbrev main_while0b_v262 : Ref sig .tc := ⟨.hbm, 1241, rfl⟩
abbrev main_while0b_v263 : Ref sig .tc := ⟨.hbm, 1242, rfl⟩
abbrev main_while0b_v264 : Ref sig .tc := ⟨.hbm, 1243, rfl⟩
abbrev main_while0b_cst_86 : Ref sig .tc := ⟨.hbm, 1244, rfl⟩
abbrev main_while0b_v265 : Ref sig .tc := ⟨.hbm, 1245, rfl⟩
abbrev main_while0b_v266 : Ref sig .tc := ⟨.hbm, 1246, rfl⟩
abbrev main_while0b_v267 : Ref sig .tc := ⟨.hbm, 1247, rfl⟩
abbrev main_while0b_v268 : Ref sig .tc := ⟨.hbm, 1248, rfl⟩
abbrev main_while0b_v269 : Ref sig .tc := ⟨.hbm, 1249, rfl⟩
abbrev main_while0b_v270 : Ref sig .tc := ⟨.hbm, 1250, rfl⟩
abbrev main_while0b_cst_87 : Ref sig .tc := ⟨.hbm, 1251, rfl⟩
abbrev main_while0b_v271 : Ref sig .tc := ⟨.hbm, 1252, rfl⟩
abbrev main_while0b_cst_88 : Ref sig .tc := ⟨.hbm, 1253, rfl⟩
abbrev main_while0b_v272 : Ref sig .tc := ⟨.hbm, 1254, rfl⟩
abbrev main_while0b_v273 : Ref sig .tc := ⟨.hbm, 1255, rfl⟩
abbrev main_while0b_cst_89 : Ref sig .tc := ⟨.hbm, 1256, rfl⟩
abbrev main_while0b_v274 : Ref sig .tc := ⟨.hbm, 1257, rfl⟩
abbrev main_while0b_v275 : Ref sig .tc := ⟨.hbm, 1258, rfl⟩
abbrev main_while0b_v276 : Ref sig .tc := ⟨.hbm, 1259, rfl⟩
abbrev main_while0b_cst_90 : Ref sig .tc := ⟨.hbm, 1260, rfl⟩
abbrev main_while0b_v277 : Ref sig .tc := ⟨.hbm, 1261, rfl⟩
abbrev main_while0b_v278 : Ref sig .tc := ⟨.hbm, 1262, rfl⟩
abbrev main_while0b_v279 : Ref sig .tc := ⟨.hbm, 1263, rfl⟩
abbrev main_while0b_cst_91 : Ref sig .tc := ⟨.hbm, 1264, rfl⟩
abbrev main_while0b_v280 : Ref sig .tc := ⟨.hbm, 1265, rfl⟩
abbrev main_while0b_v281 : Ref sig .tc := ⟨.hbm, 1266, rfl⟩
abbrev main_while0b_cst_92 : Ref sig .tc := ⟨.hbm, 1267, rfl⟩
abbrev main_while0b_v282 : Ref sig .tc := ⟨.hbm, 1268, rfl⟩
abbrev main_while0b_v283 : Ref sig .tc := ⟨.hbm, 1269, rfl⟩
abbrev main_while0b_v284 : Ref sig .tc := ⟨.hbm, 1270, rfl⟩
abbrev main_while0b_v285 : Ref sig .tc := ⟨.hbm, 1271, rfl⟩
abbrev main_while0b_v286 : Ref sig .tc := ⟨.hbm, 1272, rfl⟩
abbrev main_while0b_v287 : Ref sig .tc := ⟨.hbm, 1273, rfl⟩
abbrev main_while0b_cst_93 : Ref sig .tc := ⟨.hbm, 1274, rfl⟩
abbrev main_while0b_v288 : Ref sig .tc := ⟨.hbm, 1275, rfl⟩
abbrev main_while0b_v289 : Ref sig .tc := ⟨.hbm, 1276, rfl⟩
abbrev main_while0b_cst_94 : Ref sig .tc := ⟨.hbm, 1277, rfl⟩
abbrev main_while0b_v290 : Ref sig .tc := ⟨.hbm, 1278, rfl⟩
abbrev main_while0b_cst_95 : Ref sig .tc := ⟨.hbm, 1279, rfl⟩
abbrev main_while0b_v291 : Ref sig .tc := ⟨.hbm, 1280, rfl⟩
abbrev main_while0b_v292 : Ref sig .tc := ⟨.hbm, 1281, rfl⟩
abbrev main_while0b_call9_v0 : Ref sig .tc := ⟨.hbm, 1282, rfl⟩
abbrev main_while0b_call9_c : Ref sig .tc := ⟨.hbm, 1283, rfl⟩
abbrev main_while0b_call9_c_0 : Ref sig .tc := ⟨.hbm, 1284, rfl⟩
abbrev main_while0b_v293 : Ref sig .tc := ⟨.hbm, 1285, rfl⟩
abbrev main_while0b_call10_v0 : Ref sig .tc := ⟨.hbm, 1286, rfl⟩
abbrev main_while0b_call10_c : Ref sig .tc := ⟨.hbm, 1287, rfl⟩
abbrev main_while0b_v294 : Ref sig .tc := ⟨.hbm, 1288, rfl⟩
abbrev main_while0b_c_96 : Ref sig .tc := ⟨.hbm, 1289, rfl⟩
abbrev main_while0b_v295 : Ref sig .tc := ⟨.hbm, 1290, rfl⟩
abbrev main_v142 : Ref sig .tc := ⟨.hbm, 1291, rfl⟩
abbrev main_v143 : Ref sig .tc := ⟨.hbm, 1292, rfl⟩

abbrev nD : Nat := 1
abbrev τ : Topo := Topo.v7x

variable {F : FTy → Type} [FloatOps F]

abbrev main_while0_count : Scf.Loop 32 := ⟨0#32, 50#32, 1#32⟩
-- ==== Proof.Cipher.lean ====
module

public import proofs.«01_k».proof.Proof.Gen.ReferenceIdeal.Step
public import proofs.«01_k».proof.Proof.Gen.KernelIdeal.Skeleton
public import Idealize.ShloMosaic.Lib.Pointwise

@[expose] public section

noncomputable section

namespace Cert.Pf

open Idealize.ShloMosaic

/-- One round of the cipher on two words: add, rotate by `r` (`q = 32 - r`), exclusive or. -/
def rnd (r q : BitVec 32) (p : BitVec 32 × BitVec 32) : BitVec 32 × BitVec 32 :=
  (p.1 + p.2, (p.1 + p.2) ^^^ (p.2 <<< r ||| p.2 >>> q))

/-- Four rounds with the first set of rotations. -/
def rndA (p : BitVec 32 × BitVec 32) : BitVec 32 × BitVec 32 :=
  rnd 6#32 26#32 (rnd 26#32 6#32 (rnd 15#32 17#32 (rnd 13#32 19#32 p)))

/-- Four rounds with the second set of rotations. -/
def rndB (p : BitVec 32 × BitVec 32) : BitVec 32 × BitVec 32 :=
  rnd 24#32 8#32 (rnd 16#32 16#32 (rnd 29#32 3#32 (rnd 17#32 15#32 p)))

/-- The addition of key words between two groups of rounds. -/
def inj (a b n : BitVec 32) (p : BitVec 32 × BitVec 32) : BitVec 32 × BitVec 32 :=
  (p.1 + a, p.2 + b + n)

/-- The third key word. -/
def key3 (a b : BitVec 32) : BitVec 32 := a ^^^ b ^^^ 466688986#32

/-- The cipher: twenty rounds on the counter `(x, y)` under the key `(a, b)`. -/
def cipher (a b x y : BitVec 32) : BitVec 32 × BitVec 32 :=
  inj (key3 a b) a 5#32 <| rndA <| inj b (key3 a b) 4#32 <| rndB <| inj a b 3#32 <| rndA <|
    inj (key3 a b) a 2#32 <| rndB <| inj b (key3 a b) 1#32 <| rndA (x + a, y + b)

open Cert.ReferenceIdeal Cert.ReferenceIdeal.Gen

/-- One round on arrays of words, as the host prints it. -/
def hrnd {s : Shape} (h : S_.BroadcastsInDim s ![]) (r q : BitVec 32) (p : IVec s 32 × IVec s 32) : IVec s 32 × IVec s 32 :=
  (addi p.1 p.2, xori (addi p.1 p.2) (ori (Host.shli p.2 (broadcastInDim s ![] h (constantI S_ 32 r)))
    (Host.shrui p.2 (broadcastInDim s ![] h (constantI S_ 32 q)))))

/-- Four rounds on arrays with the first set of rotations. -/
def hrndA {s : Shape} (h : S_.BroadcastsInDim s ![]) (p : IVec s 32 × IVec s 32) : IVec s 32 × IVec s 32 :=
  hrnd h 6#32 26#32 (hrnd h 26#32 6#32 (hrnd h 15#32 17#32 (hrnd h 13#32 19#32 p)))

/-- Four rounds on arrays with the second set of rotations. -/
def hrndB {s : Shape} (h : S_.BroadcastsInDim s ![]) (p : IVec s 32 × IVec s 32) : IVec s 32 × IVec s 32 :=
  hrnd h 24#32 8#32 (hrnd h 16#32 16#32 (hrnd h 29#32 3#32 (hrnd h 17#32 15#32 p)))

/-- The addition of key words on arrays. -/
def hinj {s : Shape} (h : S_.BroadcastsInDim s ![]) (a b : IVec S_ 32) (n : BitVec 32) (p : IVec s 32 × IVec s 32) : IVec s 32 × IVec s 32 :=
  (addi p.1 (broadcastInDim s ![] h a), addi (addi p.2 (broadcastInDim s ![] h b)) (broadcastInDim s ![] h (constantI S_ 32 n)))

/-- The third key word, from the two as arrays of one element. -/
def hkey3 (a b : IVec S_ 32) : IVec S_ 32 := xori (xori a b) (constantI S_ 32 466688986#32)

/-- The cipher on arrays of counters `x`, `y`, as the host prints it. -/
def hcipher {s : Shape} (h : S_.BroadcastsInDim s ![]) (a b : IVec S_ 32) (x y : IVec s 32) : IVec s 32 × IVec s 32 :=
  hinj h (hkey3 a b) a 5#32 <| hrndA h <| hinj h b (hkey3 a b) 4#32 <| hrndB h <| hinj h a b 3#32 <| hrndA h <|
    hinj h (hkey3 a b) a 2#32 <| hrndB h <| hinj h b (hkey3 a b) 1#32 <|
      hrndA h (addi x (broadcastInDim s ![] h a), addi y (broadcastInDim s ![] h b))

/-- The pair of words that a pair of arrays holds at the index `i`. -/
def ev {s : Shape} (p : IVec s 32 × IVec s 32) (i : s.Idx) : BitVec 32 × BitVec 32 := (p.1 i, p.2 i)

/-- A host round on arrays is the round on words at every index. -/
theorem hrnd_ev {s : Shape} (h : S_.BroadcastsInDim s ![]) (r q : BitVec 32) (hr : r.toNat < 32) (hq : q.toNat < 32) (p : IVec s 32 × IVec s 32)
    (i : s.Idx) : ev (hrnd h r q p) i = rnd r q (ev p i) := by
  simp [ev, hrnd, rnd, addi, xori, ori, Host.shli, Host.shrui, IntOp.shli, IntOp.shrui, IntOp.addi, IntOp.xori, IntOp.ori, broadcastInDim, constantI, hr, hq]

/-- The host's addition of key words is the one on words at every index. -/
theorem hinj_ev {s : Shape} (h : S_.BroadcastsInDim s ![]) (a b : IVec S_ 32) (n : BitVec 32) (p : IVec s 32 × IVec s 32) (i : s.Idx) :
    ev (hinj h a b n p) i = inj (a ix0) (b ix0) n (ev p i) := by
  have e : ∀ k : S_.Idx, k = ix0 := fun k => Subsingleton.elim _ _
  simp only [ev, hinj, inj, addi, IntOp.addi, broadcastInDim, constantI]
  rw [e (fun d => _)]

/-- The host's cipher on arrays is the cipher on words at every index. -/
theorem hcipher_ev {s : Shape} (h : S_.BroadcastsInDim s ![]) (a b : IVec S_ 32) (x y : IVec s 32) (i : s.Idx) :
    ev (hcipher h a b x y) i = cipher (a ix0) (b ix0) (x i) (y i) := by
  have ek : hkey3 a b ix0 = key3 (a ix0) (b ix0) := rfl
  have e0 : ev (addi x (broadcastInDim s ![] h a), addi y (broadcastInDim s ![] h b)) i = (x i + a ix0, y i + b ix0) := by
    have e : ∀ k : S_.Idx, k = ix0 := fun k => Subsingleton.elim _ _
    simp only [ev, addi, IntOp.addi, broadcastInDim]
    rw [e (fun d => _)]
  simp [hcipher, cipher, hinj_ev, hrndA, hrndB, hrnd_ev, rndA, rndB, ek, e0]

/-- A computation that goes through the cipher's groups of rounds one by one ends at the cipher's value: `k` is the third key word, and `p0`, `p1`, … are
    the pairs of arrays between the groups. -/
theorem hcipher_of_groups {s : Shape} (h : S_.BroadcastsInDim s ![]) (a b k : IVec S_ 32) (x y : IVec s 32)
    (p0 p1 p2 p3 p4 p5 p6 p7 p8 p9 p10 : IVec s 32 × IVec s 32) (ek : hkey3 a b = k)
    (e0 : (addi x (broadcastInDim s ![] h a), addi y (broadcastInDim s ![] h b)) = p0)
    (e1 : hrndA h p0 = p1) (e2 : hinj h b k 1#32 p1 = p2) (e3 : hrndB h p2 = p3) (e4 : hinj h k a 2#32 p3 = p4)
    (e5 : hrndA h p4 = p5) (e6 : hinj h a b 3#32 p5 = p6) (e7 : hrndB h p6 = p7) (e8 : hinj h b k 4#32 p7 = p8)
    (e9 : hrndA h p8 = p9) (e10 : hinj h k a 5#32 p9 = p10) : hcipher h a b x y = p10 := by
  unfold hcipher
  rw [ek, e0, e1, e2, e3, e4, e5, e6, e7, e8, e9, e10]

section
variable {F : FTy → Type} [FloatOps F]

/-- The words that the reference's step draws are the cipher's values on its counters. -/
theorem ref_cipher (j : ℕ) (s : Step.State F) : hcipher bcast_S_S1024x1024x1 (Step.b10 j s) (Step.b12 j s) (Step.b31 j s) (Step.b30 j s)
    = (Step.b248 j s, Step.b253 j s) :=
  hcipher_of_groups _ _ _ (Step.b34 j s) _ _ (Step.b36 j s, Step.b38 j s) (Step.b66 j s, Step.b74 j s) (Step.b76 j s, Step.b81 j s)
    (Step.b109 j s, Step.b117 j s) (Step.b119 j s, Step.b124 j s) (Step.b152 j s, Step.b160 j s) (Step.b162 j s, Step.b167 j s)
    (Step.b195 j s, Step.b203 j s) (Step.b205 j s, Step.b210 j s) (Step.b238 j s, Step.b246 j s) (Step.b248 j s, Step.b253 j s)
    rfl rfl rfl rfl rfl rfl rfl rfl rfl rfl rfl rfl

open Step in
/-- The reference's first split of the key: the cipher's values on the counters of two rows. -/
theorem ref_split0 : hcipher bcast_S_S2 (K_main_v8 (F := F)) (K_main_v10 (F := F)) (K_main_v11 (F := F)) (K_main_v12 (F := F))
    = (K_main_v13_0 (F := F), K_main_v13_1 (F := F)) :=
  hcipher_of_groups _ _ _ (K_main_call0_v1 (F := F)) _ _ (K_main_call0_v3 (F := F), K_main_call0_v5 (F := F)) (K_main_call0_v27 (F := F), K_main_call0_v33 (F := F))
    (K_main_call0_v35 (F := F), K_main_call0_v39 (F := F)) (K_main_call0_v61 (F := F), K_main_call0_v67 (F := F)) (K_main_call0_v69 (F := F), K_main_call0_v73 (F := F))
    (K_main_call0_v95 (F := F), K_main_call0_v101 (F := F)) (K_main_call0_v103 (F := F), K_main_call0_v107 (F := F)) (K_main_call0_v129 (F := F), K_main_call0_v135 (F := F))
    (K_main_call0_v137 (F := F), K_main_call0_v141 (F := F)) (K_main_call0_v163 (F := F), K_main_call0_v169 (F := F)) _
    rfl rfl rfl rfl rfl rfl rfl rfl rfl rfl rfl rfl

open Step in
/-- The reference's second split of the key: the cipher's values on the counters of fifty rows. -/
theorem ref_split1 : hcipher bcast_S_S50 (K_main_v129 (F := F)) (K_main_v131 (F := F)) (K_main_v132 (F := F)) (K_main_v133 (F := F))
    = (K_main_v134_0 (F := F), K_main_v134_1 (F := F)) :=
  hcipher_of_groups _ _ _ (K_main_call3_v1 (F := F)) _ _ (K_main_call3_v3 (F := F), K_main_call3_v5 (F := F)) (K_main_call3_v27 (F := F), K_main_call3_v33 (F := F))
    (K_main_call3_v35 (F := F), K_main_call3_v39 (F := F)) (K_main_call3_v61 (F := F), K_main_call3_v67 (F := F)) (K_main_call3_v69 (F := F), K_main_call3_v73 (F := F))
    (K_main_call3_v95 (F := F), K_main_call3_v101 (F := F)) (K_main_call3_v103 (F := F), K_main_call3_v107 (F := F)) (K_main_call3_v129 (F := F), K_main_call3_v135 (F := F))
    (K_main_call3_v137 (F := F), K_main_call3_v141 (F := F)) (K_main_call3_v163 (F := F), K_main_call3_v169 (F := F)) _
    rfl rfl rfl rfl rfl rfl rfl rfl rfl rfl rfl rfl

open Step in
/-- The words of the reference's first particles: the cipher's values on its counters. -/
theorem ref_cipher0 : hcipher bcast_S_S1024x1024x1 (K_main_v22 (F := F)) (K_main_v24 (F := F)) (K_main_v39 (F := F)) (K_main_v38 (F := F))
    = (K_main_v40_0 (F := F), K_main_v40_1 (F := F)) :=
  hcipher_of_groups _ _ _ (K_main_call1_v1 (F := F)) _ _ (K_main_call1_v3 (F := F), K_main_call1_v5 (F := F)) (K_main_call1_v27 (F := F), K_main_call1_v33 (F := F))
    (K_main_call1_v35 (F := F), K_main_call1_v39 (F := F)) (K_main_call1_v61 (F := F), K_main_call1_v67 (F := F)) (K_main_call1_v69 (F := F), K_main_call1_v73 (F := F))
    (K_main_call1_v95 (F := F), K_main_call1_v101 (F := F)) (K_main_call1_v103 (F := F), K_main_call1_v107 (F := F)) (K_main_call1_v129 (F := F), K_main_call1_v135 (F := F))
    (K_main_call1_v137 (F := F), K_main_call1_v141 (F := F)) (K_main_call1_v163 (F := F), K_main_call1_v169 (F := F)) _
    rfl rfl rfl rfl rfl rfl rfl rfl rfl rfl rfl rfl
end

/-! ## The kernel's arrays -/

/-- One round on arrays of words, as the kernel prints it. -/
def krnd {s : Shape} (r q : BitVec 32) (p : IVec s 32 × IVec s 32) : IVec s 32 × IVec s 32 :=
  (addi p.1 p.2, xori (addi p.1 p.2) (ori (shli p.2 (broadcast s r)) (shrui p.2 (broadcast s q))))

/-- Four kernel rounds with the first set of rotations. -/
def krndA {s : Shape} (p : IVec s 32 × IVec s 32) : IVec s 32 × IVec s 32 :=
  krnd 6#32 26#32 (krnd 26#32 6#32 (krnd 15#32 17#32 (krnd 13#32 19#32 p)))

/-- Four kernel rounds with the second set of rotations. -/
def krndB {s : Shape} (p : IVec s 32 × IVec s 32) : IVec s 32 × IVec s 32 :=
  krnd 24#32 8#32 (krnd 16#32 16#32 (krnd 29#32 3#32 (krnd 17#32 15#32 p)))

/-- The kernel's addition of key words. -/
def kinj {s : Shape} (a b n : BitVec 32) (p : IVec s 32 × IVec s 32) : IVec s 32 × IVec s 32 :=
  (addi p.1 (broadcast s a), addi (addi p.2 (broadcast s b)) (broadcast s n))

/-- The kernel's cipher on arrays of counters. -/
def kcipher {s : Shape} (a b : BitVec 32) (x y : IVec s 32) : IVec s 32 × IVec s 32 :=
  kinj (key3 a b) a 5#32 <| krndA <| kinj b (key3 a b) 4#32 <| krndB <| kinj a b 3#32 <| krndA <|
    kinj (key3 a b) a 2#32 <| krndB <| kinj b (key3 a b) 1#32 <| krndA (addi x (broadcast s a), addi y (broadcast s b))

/-- A kernel round on arrays is the round on words at every index. -/
theorem krnd_ev {s : Shape} (r q : BitVec 32) (hr : r.toNat < 32) (hq : q.toNat < 32) (p : IVec s 32 × IVec s 32) (i : s.Idx) :
    ev (krnd r q p) i = rnd r q (ev p i) := by
  simp [ev, krnd, rnd, addi, xori, ori, shli, shrui, IntOp.shli, IntOp.shrui, IntOp.addi, IntOp.xori, IntOp.ori, broadcast, hr, hq]

/-- The kernel's addition of key words is the one on words at every index. -/
theorem kinj_ev {s : Shape} (a b n : BitVec 32) (p : IVec s 32 × IVec s 32) (i : s.Idx) : ev (kinj a b n p) i = inj a b n (ev p i) := rfl

/-- The kernel's cipher on arrays is the cipher on words at every index. -/
theorem kcipher_ev {s : Shape} (a b : BitVec 32) (x y : IVec s 32) (i : s.Idx) : ev (kcipher a b x y) i = cipher a b (x i) (y i) := by
  have e0 : ev (addi x (broadcast s a), addi y (broadcast s b)) i = (x i + a, y i + b) := rfl
  simp [kcipher, cipher, kinj_ev, krndA, krndB, krnd_ev, rndA, rndB, e0]

end Cert.Pf
-- ==== Proof.KCipher.lean ====
module

public import proofs.«01_k».proof.Proof.Cipher

@[expose] public section

noncomputable section

namespace Cert.Pf

open Idealize.ShloMosaic Cert.KernelIdeal Cert.KernelIdeal.Gen

/-- The low counter words of a block of rows whose first particle has the number `v1`. -/
def kctr (v1 : BitVec 32) : IVec S512x1024 32 :=
  addi (addi (broadcast S512x1024 v1) (muli (iota .tc S512x1024 32 [0] iota_S512x1024_d0_w32) (broadcast S512x1024 1024#32)))
    (iota .tc S512x1024 32 [1] iota_S512x1024_d1_w32)

/-- The number of the first particle of the block of rows of the grid point `i`. -/
def kbase (i : grid0.Coords) : BitVec 32 := Scalar.muli (Scalar.muli (BitVec.ofNat 32 (i 0).val) 512#32) 1024#32

/-- The third key word, as the kernel computes it. -/
def kkey (a b : BitVec 32) : BitVec 32 := Scalar.xori (Scalar.xori a b) 466688986#32

/-- The numbers between -1 and 1 that the kernel makes of words. -/
def kunif (w : IVec S512x1024 32) : FVec Ideal S512x1024 .f32 :=
  addf (mulf (subf (bitcastToFloat .f32 (ori (shrui w (broadcast S512x1024 9#32)) (broadcast S512x1024 1065353216#32)))
    (broadcast S512x1024 (Scalar.ofBits .f32 0x3F800000#32))) (broadcast S512x1024 (Scalar.ofBits .f32 0x40000000#32)))
    (broadcast S512x1024 (Scalar.ofBits .f32 0xBF7FFFFF#32))

/-- The kernel's first word of a step, after its eight first rounds. -/
def sx8 (i : grid0.Coords) (a b : BitVec 32) : IVec S512x1024 32 :=
  k0_pay64 (F := Ideal) b (kkey a b) (k0_pay51 (F := Ideal) i a b) (k0_pay52 (F := Ideal) i a b) k0_pay53

/-- The kernel's second word of a step, after its eight first rounds. -/
def sy8 (i : grid0.Coords) (a b : BitVec 32) : IVec S512x1024 32 :=
  k0_pay65 (F := Ideal) b (kkey a b) (k0_pay51 (F := Ideal) i a b) (k0_pay52 (F := Ideal) i a b) k0_pay53

/-- The kernel's second word of a step after thirteen rounds. -/
def sx13 (i : grid0.Coords) (a b : BitVec 32) : IVec S512x1024 32 := k0_pay76 (F := Ideal) a b (sx8 i a b) (sy8 i a b)

/-- The sum of the kernel's two words of a step after thirteen rounds. -/
def sy13 (i : grid0.Coords) (a b : BitVec 32) : IVec S512x1024 32 := k0_pay77 (F := Ideal) a b (sx8 i a b) (sy8 i a b)

/-- The kernel's second word of a step after nineteen rounds. -/
def sx19 (i : grid0.Coords) (a b : BitVec 32) : IVec S512x1024 32 :=
  k0_pay89 (F := Ideal) b (kkey a b) (sx13 i a b) (sy13 i a b) k0_pay78

/-- The sum of the kernel's two words of a step after nineteen rounds. -/
def sy19 (i : grid0.Coords) (a b : BitVec 32) : IVec S512x1024 32 :=
  k0_pay90 (F := Ideal) b (kkey a b) (sx13 i a b) (sy13 i a b) k0_pay78

/-- The numbers that the kernel draws in a step are those of the cipher's values on the block's counters under the key `(a, b)`. -/
theorem step_draw (i : grid0.Coords) (a b : BitVec 32) :
    k0_pay91 (F := Ideal) a (kkey a b) (sx19 i a b) (sy19 i a b) 6#32
      = kunif (xori (kcipher a b (broadcast S512x1024 0#32) (kctr (kbase i))).1 (kcipher a b (broadcast S512x1024 0#32) (kctr (kbase i))).2) := by
  have ek : kkey a b = key3 a b := rfl
  have e1 : krnd 15#32 17#32 (krnd 13#32 19#32 (addi (broadcast S512x1024 0#32) (broadcast S512x1024 a), addi (kctr (kbase i)) (broadcast S512x1024 b)))
      = (k0_pay50 (F := Ideal) i a b, k0_pay51 (F := Ideal) i a b) := rfl
  have e2 : ∀ q : IVec S512x1024 32 × IVec S512x1024 32, kinj b (kkey a b) 1#32 (krnd 6#32 26#32 (krnd 26#32 6#32 q))
      = (addi (k0_pay55 q.2 (addi q.1 q.2) k0_pay53) (broadcast S512x1024 b), k0_pay56 (kkey a b) q.2 (addi q.1 q.2) k0_pay53) := fun _ => rfl
  have e3 : ∀ q : IVec S512x1024 32 × IVec S512x1024 32,
      krndB (addi (k0_pay55 q.2 (addi q.1 q.2) k0_pay53) (broadcast S512x1024 b), k0_pay56 (kkey a b) q.2 (addi q.1 q.2) k0_pay53)
      = (k0_pay63 (F := Ideal) b (kkey a b) q.2 (addi q.1 q.2) k0_pay53, k0_pay64 (F := Ideal) b (kkey a b) q.2 (addi q.1 q.2) k0_pay53) := fun _ => rfl
  have e4 : kinj (kkey a b) a 2#32 (k0_pay63 (F := Ideal) b (kkey a b) (k0_pay51 (F := Ideal) i a b) (k0_pay52 (F := Ideal) i a b) k0_pay53, sx8 i a b)
      = (sy8 i a b, k0_pay66 (F := Ideal) a (sx8 i a b)) := rfl
  have e5 : ∀ x y : IVec S512x1024 32, kinj a b 3#32 (krndA (y, k0_pay66 (F := Ideal) a x))
      = (addi (k0_pay73 (F := Ideal) a x y) (broadcast S512x1024 a), k0_pay74 (F := Ideal) a b x y) := fun _ _ => rfl
  have e6 : ∀ x y : IVec S512x1024 32, krnd 17#32 15#32 (addi (k0_pay73 (F := Ideal) a x y) (broadcast S512x1024 a), k0_pay74 (F := Ideal) a b x y)
      = (k0_pay75 (F := Ideal) a b x y, k0_pay76 (F := Ideal) a b x y) := fun _ _ => rfl
  have e7 : ∀ q : IVec S512x1024 32 × IVec S512x1024 32,
      kinj b (kkey a b) 4#32 (krnd 24#32 8#32 (krnd 16#32 16#32 (krnd 29#32 3#32 q)))
      = (addi (k0_pay82 q.2 (addi q.1 q.2) k0_pay78) (broadcast S512x1024 b), k0_pay83 (kkey a b) q.2 (addi q.1 q.2) k0_pay78) := fun _ => rfl
  have e8 : ∀ q : IVec S512x1024 32 × IVec S512x1024 32,
      krnd 26#32 6#32 (krnd 15#32 17#32 (krnd 13#32 19#32
        (addi (k0_pay82 q.2 (addi q.1 q.2) k0_pay78) (broadcast S512x1024 b), k0_pay83 (kkey a b) q.2 (addi q.1 q.2) k0_pay78)))
      = (k0_pay88 (F := Ideal) b (kkey a b) q.2 (addi q.1 q.2) k0_pay78, k0_pay89 (F := Ideal) b (kkey a b) q.2 (addi q.1 q.2) k0_pay78) := fun _ => rfl
  have e9 : ∀ q : IVec S512x1024 32 × IVec S512x1024 32,
      k0_pay91 (F := Ideal) a (kkey a b) q.2 (addi q.1 q.2) 6#32
        = kunif (xori (kinj (kkey a b) a 5#32 (krnd 6#32 26#32 q)).1 (kinj (kkey a b) a 5#32 (krnd 6#32 26#32 q)).2) := fun _ => rfl
  have c1 : kcipher a b (broadcast S512x1024 0#32) (kctr (kbase i)) = kinj (kkey a b) a 5#32 (krnd 6#32 26#32
      (k0_pay88 (F := Ideal) b (kkey a b) (sx13 i a b) (sy13 i a b) k0_pay78, sx19 i a b)) := by
    unfold kcipher krndA
    rw [← ek, e1, e2, e3]
    have := e4
    unfold sx8 at this
    unfold krndA at e5
    rw [show addi (k0_pay50 (F := Ideal) i a b, k0_pay51 (F := Ideal) i a b).1 (k0_pay50 (F := Ideal) i a b, k0_pay51 (F := Ideal) i a b).2
      = k0_pay52 (F := Ideal) i a b from rfl, this, e5]
    unfold krndB
    rw [e6, e7, e8]
    rfl
  rw [c1, show sy19 i a b = addi (k0_pay88 (F := Ideal) b (kkey a b) (sx13 i a b) (sy13 i a b) k0_pay78) (sx19 i a b) from rfl]
  exact e9 (_, _)

/-- The kernel's words of the first particles after four rounds. -/
def ix4 (v1 a b : BitVec 32) : IVec S512x1024 32 := k0_pay13 (F := Ideal) v1 a b

/-- The kernel's second word of the first particles after nine rounds. -/
def ix9 (v1 a b : BitVec 32) : IVec S512x1024 32 := k0_pay25 (F := Ideal) a (kkey a b) (k0_pay12 (F := Ideal) v1 a b) (ix4 v1 a b) (k0_pay14 (F := Ideal) b)

/-- The sum of the kernel's words of the first particles after nine rounds. -/
def iy9 (v1 a b : BitVec 32) : IVec S512x1024 32 := k0_pay26 (F := Ideal) a (kkey a b) (k0_pay12 (F := Ideal) v1 a b) (ix4 v1 a b) (k0_pay14 (F := Ideal) b)

/-- The kernel's second word of the first particles after fifteen rounds. -/
def ix15 (v1 a b : BitVec 32) : IVec S512x1024 32 := k0_pay37 (F := Ideal) a b (ix9 v1 a b) (iy9 v1 a b) 15#32

/-- The sum of the kernel's words of the first particles after fifteen rounds. -/
def iy15 (v1 a b : BitVec 32) : IVec S512x1024 32 := k0_pay38 (F := Ideal) a b (ix9 v1 a b) (iy9 v1 a b) 15#32

/-- The words that the kernel draws for the first particles are the cipher's values on the block's counters. -/
theorem init_bits (v1 a b : BitVec 32) :
    k0_pay39 (F := Ideal) a b (kkey a b) (ix15 v1 a b) (iy15 v1 a b)
      = xori (kcipher a b (broadcast S512x1024 0#32) (kctr v1)).1 (kcipher a b (broadcast S512x1024 0#32) (kctr v1)).2 := by
  have ek : kkey a b = key3 a b := rfl
  have e1 : krndA (addi (broadcast S512x1024 0#32) (broadcast S512x1024 a), addi (kctr v1) (broadcast S512x1024 b))
      = (k0_pay12 (F := Ideal) v1 a b, ix4 v1 a b) := rfl
  have e2 : ∀ q : IVec S512x1024 32 × IVec S512x1024 32, kinj b (kkey a b) 1#32 q = (addi q.1 (k0_pay14 (F := Ideal) b), k0_pay15 (kkey a b) q.2) := fun _ => rfl
  have e3 : ∀ q : IVec S512x1024 32 × IVec S512x1024 32,
      kinj (kkey a b) a 2#32 (krndB (addi q.1 (k0_pay14 (F := Ideal) b), k0_pay15 (kkey a b) q.2))
      = (addi (k0_pay22 (kkey a b) q.1 q.2 (k0_pay14 (F := Ideal) b)) (broadcast S512x1024 (kkey a b)), k0_pay23 (F := Ideal) a (kkey a b) q.1 q.2 (k0_pay14 (F := Ideal) b)) := fun _ => rfl
  have e4 : ∀ q : IVec S512x1024 32 × IVec S512x1024 32, krnd 13#32 19#32
      (addi (k0_pay22 (kkey a b) q.1 q.2 (k0_pay14 (F := Ideal) b)) (broadcast S512x1024 (kkey a b)), k0_pay23 (F := Ideal) a (kkey a b) q.1 q.2 (k0_pay14 (F := Ideal) b))
      = (k0_pay24 (F := Ideal) a (kkey a b) q.1 q.2 (k0_pay14 (F := Ideal) b), k0_pay25 (F := Ideal) a (kkey a b) q.1 q.2 (k0_pay14 (F := Ideal) b)) := fun _ => rfl
  have e5 : ∀ q : IVec S512x1024 32 × IVec S512x1024 32, kinj a b 3#32 (krnd 6#32 26#32 (krnd 26#32 6#32 (krnd 15#32 17#32 q)))
      = (addi (k0_pay30 q.2 (addi q.1 q.2) 15#32) (broadcast S512x1024 a), k0_pay31 (F := Ideal) b q.2 (addi q.1 q.2) 15#32) := fun _ => rfl
  have e6 : ∀ q : IVec S512x1024 32 × IVec S512x1024 32, krnd 16#32 16#32 (krnd 29#32 3#32 (krnd 17#32 15#32
      (addi (k0_pay30 q.2 (addi q.1 q.2) 15#32) (broadcast S512x1024 a), k0_pay31 (F := Ideal) b q.2 (addi q.1 q.2) 15#32)))
      = (k0_pay36 (F := Ideal) a b q.2 (addi q.1 q.2) 15#32, k0_pay37 (F := Ideal) a b q.2 (addi q.1 q.2) 15#32) := fun _ => rfl
  have e7 : ∀ q : IVec S512x1024 32 × IVec S512x1024 32,
      k0_pay39 (F := Ideal) a b (kkey a b) q.2 (addi q.1 q.2)
        = xori (kinj (kkey a b) a 5#32 (krndA (kinj b (kkey a b) 4#32 (krnd 24#32 8#32 q)))).1
          (kinj (kkey a b) a 5#32 (krndA (kinj b (kkey a b) 4#32 (krnd 24#32 8#32 q)))).2 := fun _ => rfl
  have c1 : kcipher a b (broadcast S512x1024 0#32) (kctr v1) = kinj (kkey a b) a 5#32 (krndA (kinj b (kkey a b) 4#32 (krnd 24#32 8#32
      (k0_pay36 (F := Ideal) a b (ix9 v1 a b) (iy9 v1 a b) 15#32, ix15 v1 a b)))) := by
    unfold kcipher
    rw [← ek, e1, e2, e3]
    unfold krndA krndB
    rw [e4, e5, e6]
    rfl
  rw [c1, show iy15 v1 a b = addi (k0_pay36 (F := Ideal) a b (ix9 v1 a b) (iy9 v1 a b) 15#32) (ix15 v1 a b) from rfl]
  exact e7 (_, _)

end Cert.Pf
-- ==== Proof.Normal.lean ====
module

public import proofs.«01_k».proof.Proof.KCipher
public import Idealize.ShloMosaic.Lib.IdealHost

@[expose] public section

noncomputable section

namespace Cert.Pf

open Idealize.ShloMosaic

/-! ## One element -/

/-- The number that a 32-bit pattern denotes. -/
def c32 (b : BitVec 32) : EReal := Ideal.ofBits .f32 b

/-- The number between -1 and 1 that is made of a word. -/
def unif (w : BitVec 32) : EReal := (c32 (w >>> 9#32 ||| 1065353216#32) - c32 0x3F800000#32) * c32 0x40000000#32 + c32 0xBF7FFFFF#32

/-- The polynomial of degree eight with the given coefficients, by Horner's rule. -/
def horner (a0 a1 a2 a3 a4 a5 a6 a7 a8 x : EReal) : EReal :=
  (((((((a0 * x + a1) * x + a2) * x + a3) * x + a4) * x + a5) * x + a6) * x + a7) * x + a8

/-- The polynomial near the middle. -/
def mid (x : EReal) : EReal :=
  horner (c32 0x32F16588#32) (c32 0x34B84B36#32) (c32 0xB66C7357#32) (c32 0xB6935AC1#32) (c32 0x396532DB#32) (c32 0xBAA45408#32) (c32 0xBB88E4EF#32)
    (c32 0x3E7C8F63#32) (c32 0x3FC02E2F#32) x

/-- The polynomial of the tails. -/
def far (x : EReal) : EReal :=
  horner (c32 0xB951F09B#32) (c32 0x38D3B56B#32) (c32 0x3AB0DC72#32) (c32 0xBB70BDE7#32) (c32 0x3BBC127B#32) (c32 0xBBF9C5D7#32) (c32 0x3C1AA57E#32)
    (c32 0x3F8036DB#32) (c32 0x40354F7E#32) x

/-- The measure `-log(1 - u²)` by which the polynomial is chosen. -/
def wof (u : EReal) : EReal := -(Ideal.log1p (-(u * u)))

/-- The approximate inverse error function, as the reference states it. -/
def ierf (u : EReal) : EReal :=
  u * Scalar.select (Ideal.cmp .olt (wof u) (c32 0x40A00000#32)) (mid (wof u - c32 0x40200000#32)) (far (Ideal.sqrt (wof u) - c32 0x40400000#32))

/-- The kernel's measure `0 - log(1 + u (0 - u))`. -/
def kwof (u : EReal) : EReal := c32 0#32 - Ideal.log1p (u * (c32 0#32 - u))

/-- The kernel's choice of polynomial: a bit. -/
def kbit (u : EReal) : BitVec 1 := Ideal.cmp .olt (kwof u) (c32 0x40A00000#32)

/-- The kernel's argument of the chosen polynomial. -/
def karg (u : EReal) : EReal := Scalar.select (kbit u) (kwof u - c32 0x40200000#32) (Ideal.sqrt (kwof u) - c32 0x40400000#32)

/-- One Horner step of the kernel, with the coefficient chosen by the bit. -/
def kst (u : EReal) (a b : BitVec 32) (y : EReal) : EReal := Scalar.select (kbit u) (c32 a) (c32 b) + y * karg u

/-- The approximate inverse error function, as the kernel computes it. -/
def kierf (u : EReal) : EReal :=
  (kst u 0x3FC02E2F#32 0x40354F7E#32 <| kst u 0x3E7C8F63#32 0x3F8036DB#32 <| kst u 0xBB88E4EF#32 0x3C1AA57E#32 <| kst u 0xBAA45408#32 0xBBF9C5D7#32 <|
    kst u 0x396532DB#32 0x3BBC127B#32 <| kst u 0xB6935AC1#32 0xBB70BDE7#32 <| kst u 0xB66C7357#32 0x3AB0DC72#32 <|
    kst u 0x34B84B36#32 0x38D3B56B#32 <| Scalar.select (kbit u) (c32 0x32F16588#32) (c32 0xB951F09B#32)) * u

/-- The pattern zero denotes zero. -/
theorem c32_zero : c32 0#32 = 0 := by simp [c32, Ideal.ofBits, Ideal.ieee]

/-- The two measures are equal. -/
theorem kwof_eq (u : EReal) : kwof u = wof u := by
  simp only [kwof, wof, c32_zero, zero_sub, mul_neg]

/-- The kernel's approximate inverse error function is the reference's. -/
theorem kierf_eq (u : EReal) : kierf u = ierf u := by
  have hb : kbit u = Ideal.cmp .olt (wof u) (c32 0x40A00000#32) := by rw [kbit, kwof_eq]
  simp only [kierf, ierf, kst, karg, hb, kwof_eq]
  generalize Ideal.cmp .olt (wof u) (c32 0x40A00000#32) = k
  rw [mul_comm u]
  by_cases h : k = 1
  · simp only [Scalar.select, h, if_true, mid, horner]
    simp only [add_comm]
  · simp only [Scalar.select, h, if_false, far, horner]
    simp only [add_comm]

/-- A pattern with the exponent of one denotes a real number that is at least one. -/
theorem one_le_pattern (w : BitVec 32) : ∃ r : ℝ, 1 ≤ r ∧ c32 (w >>> 9#32 ||| 1065353216#32) = (r : EReal) := by
  have hs : (w >>> 9#32 ||| 1065353216#32).extractLsb' 31 1 = 0#1 := by
    ext i hi
    have : i = 0 := by omega
    subst this
    simp [BitVec.getElem_extractLsb', BitVec.ushiftRight_eq']
  have he : (w >>> 9#32 ||| 1065353216#32).extractLsb' 23 8 = 127#8 := by
    ext i hi
    simp only [BitVec.getElem_extractLsb', BitVec.getLsbD_or, BitVec.ushiftRight_eq', BitVec.getLsbD_ushiftRight]
    rw [BitVec.getLsbD_of_ge w _ (by simp; omega)]
    interval_cases i <;> simp
  refine ⟨(1 : ℝ) * (2 ^ 23 + ((w >>> 9#32 ||| 1065353216#32).extractLsb' 0 23).toNat : ℕ) * (2 : ℝ) ^ ((127 : ℤ) - (2 ^ 7 - 1) - 23), ?_, ?_⟩
  · have : (0 : ℝ) ≤ (((w >>> 9#32 ||| 1065353216#32).extractLsb' 0 23).toNat : ℝ) := Nat.cast_nonneg _
    push_cast
    norm_num
    linarith
  · unfold c32 Ideal.ofBits
    dsimp only
    generalize (w >>> 9#32 ||| 1065353216#32) = b at hs he
    unfold Ideal.ieee
    simp only [Nat.reduceAdd, hs, he]
    simp [-EReal.coe_mul]

/-- The clamp from below does nothing: the number made of a word is not below the lower limit. -/
theorem max_unif (w : BitVec 32) : max (c32 0xBF7FFFFF#32) (unif w) = unif w := by
  apply max_eq_right
  obtain ⟨r, hr, e⟩ := one_le_pattern w
  have h1 : c32 0x3F800000#32 = ((1 : ℝ) : EReal) := by simp [c32, Ideal.ofBits, Ideal.ieee, -EReal.coe_mul]; norm_num
  have h2 : c32 0x40000000#32 = ((2 : ℝ) : EReal) := by simp [c32, Ideal.ofBits, Ideal.ieee, -EReal.coe_mul]; norm_num
  unfold unif
  rw [e, h1, h2, ← EReal.coe_sub, ← EReal.coe_mul]
  have h0 : (0 : EReal) ≤ (((r - 1) * 2 : ℝ) : EReal) := by exact_mod_cast (by linarith : (0 : ℝ) ≤ (r - 1) * 2)
  calc c32 0xBF7FFFFF#32 = 0 + c32 0xBF7FFFFF#32 := (zero_add _).symm
    _ ≤ _ := add_le_add_left h0 _

/-! ## The kernel's arrays -/

open Cert.KernelIdeal Cert.KernelIdeal.Gen

/-- The kernel's numbers between -1 and 1, at an index. -/
theorem kunif_apply (w : IVec S512x1024 32) (i : S512x1024.Idx) : kunif w i = unif (w i) := by
  simp [kunif, unif, c32, addf, mulf, subf, bitcastToFloat, ori, shrui, broadcast, IntOp.shrui, IntOp.ori, Scalar.ofBits, BitVec.ushiftRight_eq']

end Cert.Pf
-- ==== Proof.Spec.lean ====
module

public import proofs.«01_k».proof.Proof.Normal

@[expose] public section

noncomputable section

namespace Cert.Pf

open Idealize.ShloMosaic

/-! # The filter, element by element

Both programs compute these numbers: the keys, the normal draws, the particles, the weights, the estimate and the effective sample size. -/

/-- The word drawn under the key `k` at the counter `n`. -/
def draw (k : BitVec 32 × BitVec 32) (n : ℕ) : BitVec 32 :=
  (cipher k.1 k.2 0#32 (BitVec.ofNat 32 n)).1 ^^^ (cipher k.1 k.2 0#32 (BitVec.ofNat 32 n)).2

/-- The first half of the seed's key: the key of the first particles. -/
def key0 : BitVec 32 × BitVec 32 := cipher 0#32 42#32 0#32 0#32

/-- The second half of the seed's key, which the steps' keys are split from. -/
def keyL : BitVec 32 × BitVec 32 := cipher 0#32 42#32 0#32 1#32

/-- The key of step `t`. -/
def keyAt (t : ℕ) : BitVec 32 × BitVec 32 := cipher keyL.1 keyL.2 0#32 (BitVec.ofNat 32 t)

/-- A draw from the approximate normal distribution, up to the factor root two. -/
def gauss (k : BitVec 32 × BitVec 32) (n : ℕ) : EReal := ierf (unif (draw k n))

/-- Root two. -/
def root2 : EReal := ((√2 : ℝ) : EReal)

/-- Root ten. -/
def root10 : EReal := ((√10 : ℝ) : EReal)

/-- The driving term of step `t`: `8 cos(1.2 t)`. -/
def coefAt (t : ℕ) : EReal := c32 0x41000000#32 * Ideal.cos (c32 0x3F99999A#32 * (((BitVec.ofNat 32 t).toInt : ℝ) : EReal))

/-- The small number that is added to likelihoods and to sums of weights. -/
def eps : EReal := c32 0x2EDBE6FF#32

/-- The move of one particle `p` with the driving term `c` and the noise `n`. -/
def move (p c n : EReal) : EReal :=
  ((c32 0x3F000000#32 * p + Ideal.div (c32 0x41C80000#32 * p) (c32 0x3F800000#32 + p * p)) + c) + n

/-- The likelihood of the observation `o` at the particle `p`. -/
def lik (p o : EReal) : EReal :=
  Ideal.exp (c32 0xBF000000#32 * ((p * p * ((1 / 20 : ℝ) : EReal) - o) * (p * p * ((1 / 20 : ℝ) : EReal) - o))) + eps

/-- The particles before step `k`. -/
def part : ℕ → Fin 1024 → Fin 1024 → EReal
  | 0, r, p => root10 * gauss key0 (r.val * 1024 + p.val)
  | k + 1, r, p => move (part k r p) (coefAt k) (root2 * gauss (keyAt k) (r.val * 1024 + p.val))

/-- The weights times the likelihoods, from the weights `w` of a row of particles `x` at the observation `o`. -/
def raw (w x : Fin 1024 → EReal) (o : EReal) (p : Fin 1024) : EReal := w p * lik (x p) o

/-- The weights of a row, made to sum to about one. -/
def norm (v : Fin 1024 → EReal) (p : Fin 1024) : EReal := Ideal.div (v p) ((∑ q : Fin 1024, v q) + eps)

/-- The weights before step `k`, for observations `obs`. -/
def weight (obs : Fin 1024 → ℕ → EReal) : ℕ → Fin 1024 → Fin 1024 → EReal
  | 0, _, _ => ((1 / 1024 : ℝ) : EReal)
  | k + 1, r, p => norm (raw (weight obs k r) (part (k + 1) r) (obs r k)) p

/-- The estimate of step `k`. -/
def est (obs : Fin 1024 → ℕ → EReal) (k : ℕ) (r : Fin 1024) : EReal := ∑ p : Fin 1024, weight obs (k + 1) r p * part (k + 1) r p

/-- The effective sample size of step `k`. -/
def ess (obs : Fin 1024 → ℕ → EReal) (k : ℕ) (r : Fin 1024) : EReal :=
  Ideal.div 1 (∑ p : Fin 1024, weight obs (k + 1) r p * weight obs (k + 1) r p)

/-- The likelihood is positive. -/
theorem eps_pos : 0 < eps := by
  have : eps = ((14411519 * 2 ^ (93 - 127 - 23 : ℤ) : ℝ) : EReal) := by
    simp [eps, c32, Ideal.ofBits, Ideal.ieee, -EReal.coe_mul]
  rw [this]
  exact_mod_cast (by positivity : (0 : ℝ) < 14411519 * 2 ^ (93 - 127 - 23 : ℤ))

/-- The pattern of one denotes one. -/
theorem c32_one : c32 0x3F800000#32 = 1 := by simp [c32]

/-- The root of a real number that is not negative. -/
theorem sqrt_coe {x : ℝ} (h : 0 ≤ x) : Ideal.sqrt (x : EReal) = ((√x : ℝ) : EReal) := by
  show (if x < 0 then (⊥ : EReal) else ((√x : ℝ) : EReal)) = _
  rw [if_neg (not_lt.2 h)]

/-- The root of the pattern of two is root two. -/
theorem sqrt_two : Ideal.sqrt (c32 0x40000000#32) = root2 := by
  have h2 : c32 0x40000000#32 = ((2 : ℝ) : EReal) := by simp [c32, Ideal.ofBits, Ideal.ieee, -EReal.coe_mul]; norm_num
  rw [h2, sqrt_coe (by norm_num)]
  rfl

/-- A quotient by one. -/
theorem div_one (x : EReal) : Ideal.div x 1 = x := by
  have h : (1 : EReal) = ((1 : ℝ) : EReal) := rfl
  rw [h, Ideal.div_coe one_ne_zero]
  norm_num

/-- A quotient by the pattern of twenty. -/
theorem div_twenty (x : EReal) : Ideal.div x (Ideal.ofBits .f32 0x41A00000#32) = x * ((1 / 20 : ℝ) : EReal) := by
  have h : c32 0x41A00000#32 = ((20 : ℝ) : EReal) := by simp [c32, Ideal.ofBits, Ideal.ieee, -EReal.coe_mul]; norm_num
  rw [show Ideal.ofBits .f32 0x41A00000#32 = _ from h, Ideal.div_coe (by norm_num)]

/-- The exponential is not negative. -/
theorem exp_nonneg : ∀ x : EReal, 0 ≤ Ideal.exp x
  | none => le_refl (0 : EReal)
  | some none => (le_top : (0 : EReal) ≤ ⊤)
  | some (some r) => show (0 : EReal) ≤ ((Real.exp r : ℝ) : EReal) by exact_mod_cast (Real.exp_pos r).le

/-- The likelihood is not negative. -/
theorem lik_nonneg (p o : EReal) : 0 ≤ lik p o := add_nonneg (exp_nonneg _) eps_pos.le

/-- A quotient of numbers that are not negative is not negative. -/
theorem div_nonneg' {x y : EReal} (hx : 0 ≤ x) (hy : 0 < y) : 0 ≤ Ideal.div x y := by
  rw [Ideal.div, if_neg hy.ne']
  exact mul_nonneg hx (EReal.inv_nonneg_of_nonneg hy.le)

/-- The sum of numbers that are not negative, with the small number, is positive. -/
theorem sum_eps_pos (v : Fin 1024 → EReal) (h : ∀ p, 0 ≤ v p) : 0 < (∑ q : Fin 1024, v q) + eps :=
  lt_of_lt_of_le eps_pos (le_add_of_nonneg_left (Finset.sum_nonneg fun q _ => h q))

/-- The weights are not negative. -/
theorem weight_nonneg (obs : Fin 1024 → ℕ → EReal) : ∀ k r p, 0 ≤ weight obs k r p
  | 0, _, _ => by
    show (0 : EReal) ≤ ((1 / 1024 : ℝ) : EReal)
    exact_mod_cast (by norm_num : (0 : ℝ) ≤ 1 / 1024)
  | k + 1, r, p => by
    have h : ∀ q, 0 ≤ raw (weight obs k r) (part (k + 1) r) (obs r k) q := fun q => mul_nonneg (weight_nonneg obs k r q) (lik_nonneg _ _)
    exact div_nonneg' (h p) (sum_eps_pos _ h)

end Cert.Pf
-- ==== Proof.KStep.lean ====
module

public import proofs.«01_k».proof.Proof.KCipher
public import proofs.«01_k».proof.Proof.Spec
public import Idealize.ShloMosaic.Lib.StableHlo.ReadAt

@[expose] public section

noncomputable section

namespace Cert.Pf.K

open Idealize.ShloMosaic Cert.KernelIdeal Cert.KernelIdeal.Gen

/-! # The arithmetic of one step of the kernel -/

/-- The kernel's measures of an array of numbers between -1 and 1. -/
def wofA (u : FVec Ideal S512x1024 .f32) : FVec Ideal S512x1024 .f32 := fun j => kwof (u j)

/-- The kernel's choices of polynomial. -/
def bitA (u : FVec Ideal S512x1024 .f32) : IVec S512x1024 1 := fun j => kbit (u j)

/-- The kernel's arguments of the chosen polynomials. -/
def argA (u : FVec Ideal S512x1024 .f32) : FVec Ideal S512x1024 .f32 := fun j => karg (u j)

/-- The noise that the kernel adds in a step, from the key's words. -/
def noise (i : grid0.Coords) (a b : BitVec 32) : FVec Ideal S512x1024 .f32 :=
  k0_pay97 (F := Ideal) (k0_pay91 (F := Ideal) a (kkey a b) (sx19 i a b) (sy19 i a b) 6#32)
    (k0_pay93 (F := Ideal) a (kkey a b) (sx19 i a b) (sy19 i a b) 6#32) (k0_pay94 (F := Ideal) a (kkey a b) (sx19 i a b) (sy19 i a b) 6#32)
    (k0_pay95 (F := Ideal) a (kkey a b) (sx19 i a b) (sy19 i a b) 6#32) (k0_pay96 (F := Ideal) a (kkey a b) (sx19 i a b) (sy19 i a b) 6#32)

/-- The words that the kernel draws for the first particles. -/
def bits0 (v1 a b : BitVec 32) : IVec S512x1024 32 := k0_pay39 (F := Ideal) a b (kkey a b) (ix15 v1 a b) (iy15 v1 a b)

/-- The first particles of the kernel, from the key's words. -/
def first (v1 a b : BitVec 32) : FVec Ideal S512x1024 .f32 :=
  k0_pay45 (F := Ideal) (k0_pay40 (F := Ideal) (bits0 v1 a b) 9#32) (k0_pay42 (F := Ideal) (bits0 v1 a b) 9#32)
    (k0_pay43 (F := Ideal) (bits0 v1 a b) 9#32) (k0_pay44 (F := Ideal) (bits0 v1 a b) 9#32)

/-- The constant named for root two is root two. -/
theorem named2 : (Named.named κ "root2" (0x3FB504F3#32) : Ideal .f32) = root2 := IdealRules.named_const.ideal_named_scalar _ _ _ _ rfl

/-- The constant named for root ten is root ten. -/
theorem named10 : (Named.named κ "root10" (0x404A62C2#32) : Ideal .f32) = root10 := IdealRules.named_const.ideal_named_scalar _ _ _ _ rfl

/-- The constant named for one twentieth is one twentieth. -/
theorem named20 : (Named.named κ "twentieth" (0x3D4CCCCD#32) : Ideal .f32) = ((1 / 20 : ℝ) : EReal) := IdealRules.named_const.ideal_named_scalar _ _ _ _ rfl

/-- The noise of a step from any array of numbers between -1 and 1. -/
theorem noise_of (u : FVec Ideal S512x1024 .f32) (j : S512x1024.Idx) :
    k0_pay97 (F := Ideal) u (bitA u) (argA u) (fun j => Scalar.select (kbit (u j)) (c32 0x32F16588#32) (c32 0xB951F09B#32))
      (fun j => Scalar.select (kbit (u j)) (c32 0x34B84B36#32) (c32 0x38D3B56B#32)) j = root2 * ierf (u j) := by
  rw [← kierf_eq, ← named2]
  rfl

/-- The noise of a step is root two times the inverse error function of the step's numbers. -/
theorem noise_apply (i : grid0.Coords) (a b : BitVec 32) (j : S512x1024.Idx) :
    noise i a b j = root2 * ierf (k0_pay91 (F := Ideal) a (kkey a b) (sx19 i a b) (sy19 i a b) 6#32 j) := by
  rw [← noise_of]
  unfold noise
  generalize kkey a b = k
  generalize sx19 i a b = X
  generalize sy19 i a b = Y
  rfl

/-- The first particles from any array of words. -/
theorem first_of (w : IVec S512x1024 32) (j : S512x1024.Idx) :
    k0_pay45 (F := Ideal) (k0_pay40 (F := Ideal) w 9#32) (k0_pay42 (F := Ideal) w 9#32)
      (k0_pay43 (F := Ideal) w 9#32) (k0_pay44 (F := Ideal) w 9#32) j = root10 * ierf (unif (w j)) := by
  have e : ∀ u : FVec Ideal S512x1024 .f32, shapeCast S512x1024 (fun j => root10 * kierf (u j)) shapeCasts_S512x1024_S512x1024 j = root10 * kierf (u j) := fun u => by
    rw [shapeCast_self]
  rw [← kunif_apply, ← kierf_eq, ← e, ← named10]
  rfl

/-- The first particles of the kernel. -/
theorem first_apply (v1 a b : BitVec 32) (j : S512x1024.Idx) : first v1 a b j = root10 * ierf (unif (bits0 v1 a b j)) := first_of _ _

/-- The particles that the kernel makes in a step. -/
theorem move_at (n P : FVec Ideal S512x1024 .f32) (c : EReal) (j : S512x1024.Idx) : k0_pay98 (F := Ideal) n P c j = move (P j) c (n j) := rfl

/-- The particles that the kernel stores are those that it makes. -/
theorem stored_part (n P : FVec Ideal S512x1024 .f32) (c : EReal) : k0_pay99 (F := Ideal) n P c = k0_pay98 (F := Ideal) n P c := shapeCast_self _ _

/-- A sum over fifty columns of which all but one are set to zero. -/
theorem sum_masked (f : Fin 50 → EReal) (t : Fin 50) :
    ∑ q : Fin 50, Scalar.select (IntOp.cmpi .eq (BitVec.ofNat 32 q.val) (BitVec.ofNat 32 t.val)) (f q) (c32 0#32) = f t := by
  have e : ∀ q : Fin 50, Scalar.select (IntOp.cmpi .eq (BitVec.ofNat 32 q.val) (BitVec.ofNat 32 t.val)) (f q) (c32 0#32) = if q = t then f q else 0 := fun q => by
    by_cases h : q = t
    · subst h
      simp [Scalar.select, IntOp.cmpi]
    · have hv : q.val ≠ t.val := fun e => h (Fin.ext e)
      have : BitVec.ofNat 32 q.val ≠ BitVec.ofNat 32 t.val := fun e => hv (by
        have := congrArg BitVec.toNat e
        simp only [BitVec.toNat_ofNat] at this
        omega)
      rw [if_neg h]
      have hb : (BitVec.ofNat 32 q.val == BitVec.ofNat 32 t.val) = false := beq_false_of_ne this
      simp [Scalar.select, IntOp.cmpi, hb, c32_zero]
  simp only [e, Finset.sum_ite_eq', Finset.mem_univ, if_true]

/-- The weights times the likelihoods that the kernel makes in step `t`. -/
theorem raw_at (t : Fin 50) (n P : FVec Ideal S512x1024 .f32) (c : EReal) (X : FVec Ideal S512x50 .f32) (W : FVec Ideal S512x1024 .f32) (r : Fin 512) (p : Fin 1024) :
    k0_pay100 (F := Ideal) (BitVec.ofNat 32 t.val) n P c X W (ix2 r p)
      = W (ix2 r p) * lik (k0_pay98 (F := Ideal) n P c (ix2 r p)) (X (ix2 r t)) := by
  rw [← sum_masked (fun q => X (ix2 r q)) t, lik, ← named20]
  generalize hP : k0_pay98 (F := Ideal) n P c = P'
  pointwise [k0_pay100, hP]
  rw [c32_zero]
  rfl

/-- The sum of a row of weights that the kernel divides by. -/
theorem denom_at (arg1 : BitVec 32) (n P : FVec Ideal S512x1024 .f32) (c : EReal) (X : FVec Ideal S512x50 .f32) (W : FVec Ideal S512x1024 .f32) (r : Fin 512) :
    k0_pay101 (F := Ideal) arg1 n P c X W (ix2 r 0) = (∑ q : Fin 1024, k0_pay100 (F := Ideal) arg1 n P c X W (ix2 r q)) + eps := by
  unfold k0_pay101
  generalize k0_pay100 (F := Ideal) arg1 n P c X W = v
  pointwise
  rfl

/-- The weights that the kernel makes of raw weights `v` and their sum `d`. -/
theorem norm_at (v : FVec Ideal S512x1024 .f32) (d : FVec Ideal S512x1 .f32) (r : Fin 512) (p : Fin 1024) (hd : d (ix2 r 0) ≠ 0) :
    k0_pay1 (F := Ideal) v d (Scalar.ofBits .f32 0x3F800000#32) (ix2 r p) = Ideal.div (v (ix2 r p)) (d (ix2 r 0)) := by
  rw [← Ideal.mul_one_div hd]
  pointwise [k0_pay1]

/-- The weights that the kernel stores are those that it makes. -/
theorem stored_weight (v : FVec Ideal S512x1024 .f32) (d : FVec Ideal S512x1 .f32) (o : EReal) : k0_pay2 (F := Ideal) v d o = k0_pay1 (F := Ideal) v d o := shapeCast_self _ _

/-- The first weights of the kernel: each is one 1024th. -/
theorem first_weight (j : S512x1024.Idx) : k0_pay46 (F := Ideal) j = ((1 / 1024 : ℝ) : EReal) := by
  show shapeCast S512x1024 (fun _ => c32 0x3A800000#32) shapeCasts_S512x1024_S512x1024 j = _
  rw [shapeCast_self]
  simp [c32, Ideal.ofBits, Ideal.ieee, -EReal.coe_mul]
  norm_num

/-- The estimates that the kernel makes in a step. -/
theorem est_at (P v : FVec Ideal S512x1024 .f32) (d : FVec Ideal S512x1 .f32) (o : EReal) (r : Fin 512) :
    k0_pay3 (F := Ideal) P v d o (ix3 0 0 r) = ∑ p : Fin 1024, k0_pay1 (F := Ideal) v d o (ix2 r p) * P (ix2 r p) := by
  unfold k0_pay3
  generalize k0_pay1 (F := Ideal) v d o = w
  pointwise

/-- The effective sample sizes that the kernel makes in a step. -/
theorem ess_at (v : FVec Ideal S512x1024 .f32) (d : FVec Ideal S512x1 .f32) (o : EReal) (r : Fin 512) :
    k0_pay4 (F := Ideal) v d o (ix3 0 0 r) = Ideal.div 1 (∑ p : Fin 1024, k0_pay1 (F := Ideal) v d o (ix2 r p) * k0_pay1 (F := Ideal) v d o (ix2 r p)) := by
  unfold k0_pay4
  generalize k0_pay1 (F := Ideal) v d o = w
  pointwise

end Cert.Pf.K
-- ==== Proof.KOut.lean ====
module

public import proofs.«01_k».proof.Proof.KStep
public import proofs.«01_k».proof.Proof.Gen.KernelIdeal.Frame
public import Idealize.ShloMosaic.Lib.Pipeline.Value
public import Idealize.ShloMosaic.Lib.Pipeline.ValueKit.Acc
public import Idealize.ShloMosaic.Lib.StableHlo.ReadAt

@[expose] public section

noncomputable section

namespace Cert.Pf.K

open Idealize.ShloMosaic Idealize.ShloMosaic.TcCoe Cert.KernelIdeal Cert.KernelIdeal.Gen

/-! # What one grid point leaves -/

/-- The first word of the key that the step at grid point `i` loads. -/
def keyA (i : grid0.Coords) (x0 : Vec Ideal S51x2 .i32) : BitVec 32 := View.ld x0 (Rect.unit (s := S51x2) (k0_off1 i) S1x1.size (k0_off1_inb i)) (Shape.Idx.first (show 0 < S1x1.numel by decide))

/-- The second word of the key that the step at grid point `i` loads. -/
def keyB (i : grid0.Coords) (x0 : Vec Ideal S51x2 .i32) : BitVec 32 := View.ld x0 (Rect.unit (s := S51x2) (k0_off2 i) S1x1.size (k0_off2_inb i)) (Shape.Idx.first (show 0 < S1x1.numel by decide))

/-- The driving term that the step at grid point `i` loads. -/
def coA (i : grid0.Coords) (x1 : Vec Ideal S1x50 .f32) : EReal := View.ld x1 (Rect.unit (s := S1x50) (k0_off3 i) S1x1.size (k0_off3_inb i)) (Shape.Idx.first (show 0 < S1x1.numel by decide))

/-- The first word of the key of the first particles. -/
def key0A (x0 : Vec Ideal S51x2 .i32) : BitVec 32 := View.ld x0 (Rect.unit (s := S51x2) ![0, 0] S1x1.size inb_S51x2_S1x1_0_0) (Shape.Idx.first (show 0 < S1x1.numel by decide))

/-- The second word of the key of the first particles. -/
def key0B (x0 : Vec Ideal S51x2 .i32) : BitVec 32 := View.ld x0 (Rect.unit (s := S51x2) ![0, 1] S1x1.size inb_S51x2_S1x1_0_1) (Shape.Idx.first (show 0 < S1x1.numel by decide))

/-- The particles after the step at grid point `i`, from those before. -/
def pNext (i : grid0.Coords) (x0 : Vec Ideal S51x2 .i32) (x1 : Vec Ideal S1x50 .f32) (P : Vec Ideal S512x1024 .f32) : FVec Ideal S512x1024 .f32 :=
  k0_pay98 (F := Ideal) (noise i (keyA i x0) (keyB i x0)) P (coA i x1)

/-- The raw weights of the step at grid point `i`. -/
def vNext (i : grid0.Coords) (x0 : Vec Ideal S51x2 .i32) (x1 : Vec Ideal S1x50 .f32) (x2 : Vec Ideal S512x50 .f32) (P W : Vec Ideal S512x1024 .f32) : FVec Ideal S512x1024 .f32 :=
  k0_pay100 (F := Ideal) (BitVec.ofNat 32 (i 1).val) (noise i (keyA i x0) (keyB i x0)) P (coA i x1) x2 W

/-- The sums of the raw weights of the step at grid point `i`. -/
def dNext (i : grid0.Coords) (x0 : Vec Ideal S51x2 .i32) (x1 : Vec Ideal S1x50 .f32) (x2 : Vec Ideal S512x50 .f32) (P W : Vec Ideal S512x1024 .f32) : FVec Ideal S512x1 .f32 :=
  k0_pay101 (F := Ideal) (BitVec.ofNat 32 (i 1).val) (noise i (keyA i x0) (keyB i x0)) P (coA i x1) x2 W

/-- The first particles of a block at grid point `i`. -/
def pFirst (i : grid0.Coords) (x0 : Vec Ideal S51x2 .i32) : FVec Ideal S512x1024 .f32 := first (kbase i) (key0A x0) (key0B x0)

variable (c : Dev nD) (i : grid0.Coords) (arg2 : Memref sig .tc .smem S51x2 .i32) (harg2 : arg2.IsWhole) (arg3 : Memref sig .tc .smem S1x50 .f32) (harg3 : arg3.IsWhole) (arg4 : Memref sig .tc .vmem S512x50 .f32) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S512x1024 .f32) (harg7 : arg7.IsWhole) (arg8 : Memref sig .tc .vmem S512x1024 .f32) (harg8 : arg8.IsWhole)
    (x0 : Vec Ideal S51x2 .i32) (x1 : Vec Ideal S1x50 .f32) (x2 : Vec Ideal S512x50 .f32) (P W : Vec Ideal S512x1024 .f32)

/-- The particles that a later step leaves. -/
theorem sout_B_0 (hc0 : ¬cond0_0 i) : sout0_B_0 c i arg2 harg2 arg3 harg3 arg4 harg4 arg5 harg5 arg6 harg6 arg7 harg7 arg8 harg8 hc0 x0 x1 x2 P W = pNext i x0 x1 P := by
  frame_out
  exact (stored_part _ _ _).trans rfl

/-- The weights that a later step leaves. -/
theorem sout_B_1 (hc0 : ¬cond0_0 i) : sout0_B_1 c i arg2 harg2 arg3 harg3 arg4 harg4 arg5 harg5 arg6 harg6 arg7 harg7 arg8 harg8 hc0 x0 x1 x2 P W
    = k0_pay1 (F := Ideal) (vNext i x0 x1 x2 P W) (dNext i x0 x1 x2 P W) (Scalar.ofBits .f32 0x3F800000#32) := by
  frame_out
  exact (stored_weight _ _ _).trans rfl

/-- The estimates that a later step writes. -/
theorem out_B_3 (hc0 : ¬cond0_0 i) : out0_B_3 c i arg2 harg2 arg3 harg3 arg4 harg4 arg5 harg5 arg6 harg6 arg7 harg7 arg8 harg8 hc0 x0 x1 x2 P W
    = k0_pay3 (F := Ideal) (pNext i x0 x1 P) (vNext i x0 x1 x2 P W) (dNext i x0 x1 x2 P W) (Scalar.ofBits .f32 0x3F800000#32) := by
  frame_out
  rfl

/-- The effective sample sizes that a later step writes. -/
theorem out_B_4 (hc0 : ¬cond0_0 i) : out0_B_4 c i arg2 harg2 arg3 harg3 arg4 harg4 arg5 harg5 arg6 harg6 arg7 harg7 arg8 harg8 hc0 x0 x1 x2 P W
    = k0_pay4 (F := Ideal) (vNext i x0 x1 x2 P W) (dNext i x0 x1 x2 P W) (Scalar.ofBits .f32 0x3F800000#32) := by
  frame_out
  rfl

/-- The particles that a first step leaves. -/
theorem sout_A_0 (hc0 : cond0_0 i) : sout0_A_0 c i arg2 harg2 arg3 harg3 arg4 harg4 arg5 harg5 arg6 harg6 arg7 harg7 arg8 harg8 hc0 x0 x1 x2 = pNext i x0 x1 (pFirst i x0) := by
  frame_out
  exact (stored_part _ _ _).trans rfl

/-- The weights that a first step leaves. -/
theorem sout_A_1 (hc0 : cond0_0 i) : sout0_A_1 c i arg2 harg2 arg3 harg3 arg4 harg4 arg5 harg5 arg6 harg6 arg7 harg7 arg8 harg8 hc0 x0 x1 x2
    = k0_pay1 (F := Ideal) (vNext i x0 x1 x2 (pFirst i x0) (k0_pay46 (F := Ideal))) (dNext i x0 x1 x2 (pFirst i x0) (k0_pay46 (F := Ideal))) (Scalar.ofBits .f32 0x3F800000#32) := by
  frame_out
  exact (stored_weight _ _ _).trans rfl

/-- The estimates that a first step writes. -/
theorem out_A_3 (hc0 : cond0_0 i) : out0_A_3 c i arg2 harg2 arg3 harg3 arg4 harg4 arg5 harg5 arg6 harg6 arg7 harg7 arg8 harg8 hc0 x0 x1 x2
    = k0_pay3 (F := Ideal) (pNext i x0 x1 (pFirst i x0)) (vNext i x0 x1 x2 (pFirst i x0) (k0_pay46 (F := Ideal))) (dNext i x0 x1 x2 (pFirst i x0) (k0_pay46 (F := Ideal))) (Scalar.ofBits .f32 0x3F800000#32) := by
  frame_out
  rfl

/-- The effective sample sizes that a first step writes. -/
theorem out_A_4 (hc0 : cond0_0 i) : out0_A_4 c i arg2 harg2 arg3 harg3 arg4 harg4 arg5 harg5 arg6 harg6 arg7 harg7 arg8 harg8 hc0 x0 x1 x2
    = k0_pay4 (F := Ideal) (vNext i x0 x1 x2 (pFirst i x0) (k0_pay46 (F := Ideal))) (dNext i x0 x1 x2 (pFirst i x0) (k0_pay46 (F := Ideal))) (Scalar.ofBits .f32 0x3F800000#32) := by
  frame_out
  rfl

end Cert.Pf.K
-- ==== Proof.KHost.lean ====
module

public import proofs.«01_k».proof.Proof.Spec
public import proofs.«01_k».proof.Proof.Gen.KernelIdeal.Frame
public import Idealize.ShloMosaic.Lib.StableHlo.ReadAt

@[expose] public section

noncomputable section

namespace Cert.Pf.K

open Idealize.ShloMosaic Idealize.ShloMosaic.TcCoe Cert.KernelIdeal Cert.KernelIdeal.Gen Idealize.ShloMosaic.StableHlo

/-! # The kernel's program before its launch -/

variable (V : Valuation τ sig (Elt Ideal))

/-- The seed's key. -/
theorem seed : (StableHlo.after hostOps0 V (Proc.devRef .tc main_v6) : IVec S2 32) (ix1 0) = 0#32
    ∧ (StableHlo.after hostOps0 V (Proc.devRef .tc main_v6) : IVec S2 32) (ix1 1) = 42#32 := by
  after_reads_simp
  refine ⟨?_, ?_⟩
  · pointwise
    rfl
  · pointwise
    rfl

/-- The first split's cipher. -/
theorem split0 : (StableHlo.after hostOps0_1 V (Proc.devRef .tc main_call0_v11_0), StableHlo.after hostOps0_1 V (Proc.devRef .tc main_call0_v11_1))
    = hcipher bcast_S_S2 (StableHlo.after hostOps0_1 V (Proc.devRef .tc main_call0_v1)) (StableHlo.after hostOps0_1 V (Proc.devRef .tc main_call0_v3))
      (StableHlo.after hostOps0_1 V (Proc.devRef .tc main_call0_v10)) (StableHlo.after hostOps0_1 V (Proc.devRef .tc main_call0_v9)) := by
  after_reads_simp
  simp only [hcipher, hrndA, hrndB, hrnd, hinj, hkey3]
  simp only [StableHlo.TRef.toBuf, StableHlo.TRef.ofBuf, cast_cast, cast_eq]

/-- The second split's cipher. -/
theorem split1 : (StableHlo.after hostOps0_3 V (Proc.devRef .tc main_call1_v11_0), StableHlo.after hostOps0_3 V (Proc.devRef .tc main_call1_v11_1))
    = hcipher bcast_S_S50 (StableHlo.after hostOps0_3 V (Proc.devRef .tc main_call1_v1)) (StableHlo.after hostOps0_3 V (Proc.devRef .tc main_call1_v3))
      (StableHlo.after hostOps0_3 V (Proc.devRef .tc main_call1_v10)) (StableHlo.after hostOps0_3 V (Proc.devRef .tc main_call1_v9)) := by
  after_reads_simp
  simp only [hcipher, hrndA, hrndB, hrnd, hinj, hkey3]
  simp only [StableHlo.TRef.toBuf, StableHlo.TRef.ofBuf, cast_cast, cast_eq]

/-- The key and the counters of the first split. -/
theorem split0_in : (StableHlo.after hostOps0_1 V (Proc.devRef .tc main_call0_v1) : IVec S_ 32) ix0 = (V (Proc.devRef .tc main_v6) : IVec S2 32) (ix1 0)
    ∧ (StableHlo.after hostOps0_1 V (Proc.devRef .tc main_call0_v3) : IVec S_ 32) ix0 = (V (Proc.devRef .tc main_v6) : IVec S2 32) (ix1 1)
    ∧ (∀ q : Fin 2, (StableHlo.after hostOps0_1 V (Proc.devRef .tc main_call0_v10) : IVec S2 32) (ix1 q) = 0#32)
    ∧ (∀ q : Fin 2, (StableHlo.after hostOps0_1 V (Proc.devRef .tc main_call0_v9) : IVec S2 32) (ix1 q) = BitVec.ofNat 32 q.val) := by
  after_reads_simp
  simp only [StableHlo.TRef.toBuf, StableHlo.TRef.ofBuf, cast_cast, cast_eq]
  refine ⟨?_, ?_, fun q => ?_, fun q => ?_⟩
  · pointwise
  · pointwise
  · pointwise
    apply BitVec.eq_of_toNat_eq
    simp [IntOp.addi, IntOp.muli, IntOp.shrui]
    omega
  · pointwise
    apply BitVec.eq_of_toNat_eq
    simp [IntOp.addi, IntOp.muli]

/-- The key and the counters of the second split. -/
theorem split1_in : (StableHlo.after hostOps0_3 V (Proc.devRef .tc main_call1_v1) : IVec S_ 32) ix0 = (V (Proc.devRef .tc main_v11) : IVec S2 32) (ix1 0)
    ∧ (StableHlo.after hostOps0_3 V (Proc.devRef .tc main_call1_v3) : IVec S_ 32) ix0 = (V (Proc.devRef .tc main_v11) : IVec S2 32) (ix1 1)
    ∧ (∀ q : Fin 50, (StableHlo.after hostOps0_3 V (Proc.devRef .tc main_call1_v10) : IVec S50 32) (ix1 q) = 0#32)
    ∧ (∀ q : Fin 50, (StableHlo.after hostOps0_3 V (Proc.devRef .tc main_call1_v9) : IVec S50 32) (ix1 q) = BitVec.ofNat 32 q.val) := by
  after_reads_simp
  simp only [StableHlo.TRef.toBuf, StableHlo.TRef.ofBuf, cast_cast, cast_eq]
  refine ⟨?_, ?_, fun q => ?_, fun q => ?_⟩
  · pointwise
  · pointwise
  · pointwise
    apply BitVec.eq_of_toNat_eq
    simp [IntOp.addi, IntOp.muli, IntOp.shrui]
    omega
  · pointwise
    apply BitVec.eq_of_toNat_eq
    simp [IntOp.addi, IntOp.muli]

/-- The table that the first split makes of its words. -/
theorem table0 (q : Fin 2) : (StableHlo.after (List.drop 235 hostOps0_1) V (Proc.devRef .tc main_v7) : IVec S2x2 32) (ix2 q 0) = (V (Proc.devRef .tc main_call0_v11_0) : IVec S2 32) (ix1 q)
    ∧ (StableHlo.after (List.drop 235 hostOps0_1) V (Proc.devRef .tc main_v7) : IVec S2x2 32) (ix2 q 1) = (V (Proc.devRef .tc main_call0_v11_1) : IVec S2 32) (ix1 q) := by
  after_reads_simp
  simp only [StableHlo.TRef.toBuf, StableHlo.TRef.ofBuf, cast_cast, cast_eq]
  refine ⟨?_, ?_⟩
  all_goals
    pointwise
    after_reads_simp
    simp only [StableHlo.TRef.toBuf, StableHlo.TRef.ofBuf, cast_cast, cast_eq]
    pointwise

/-- The table that the second split makes of its words. -/
theorem table1 (q : Fin 50) : (StableHlo.after (List.drop 235 hostOps0_3) V (Proc.devRef .tc main_v12) : IVec S50x2 32) (ix2 q 0) = (V (Proc.devRef .tc main_call1_v11_0) : IVec S50 32) (ix1 q)
    ∧ (StableHlo.after (List.drop 235 hostOps0_3) V (Proc.devRef .tc main_v12) : IVec S50x2 32) (ix2 q 1) = (V (Proc.devRef .tc main_call1_v11_1) : IVec S50 32) (ix1 q) := by
  after_reads_simp
  simp only [StableHlo.TRef.toBuf, StableHlo.TRef.ofBuf, cast_cast, cast_eq]
  refine ⟨?_, ?_⟩
  all_goals
    pointwise
    after_reads_simp
    simp only [StableHlo.TRef.toBuf, StableHlo.TRef.ofBuf, cast_cast, cast_eq]
    pointwise

/-- The last operations of the splits leave the words. -/
theorem kept0 : StableHlo.after (List.drop 235 hostOps0_1) V (Proc.devRef .tc main_call0_v11_0) = V (Proc.devRef .tc main_call0_v11_0)
    ∧ StableHlo.after (List.drop 235 hostOps0_1) V (Proc.devRef .tc main_call0_v11_1) = V (Proc.devRef .tc main_call0_v11_1)
    ∧ StableHlo.after (List.drop 235 hostOps0_3) V (Proc.devRef .tc main_call1_v11_0) = V (Proc.devRef .tc main_call1_v11_0)
    ∧ StableHlo.after (List.drop 235 hostOps0_3) V (Proc.devRef .tc main_call1_v11_1) = V (Proc.devRef .tc main_call1_v11_1) := by
  after_reads_simp
  exact ⟨trivial, trivial, trivial, trivial⟩

/-- A line of operations in two stretches. -/
theorem cut (l : List (HloOp τ sig (Elt Ideal))) (n : ℕ) : StableHlo.after l V = StableHlo.after (l.drop n) (StableHlo.after (l.take n) V) := by
  rw [← StableHlo.after_append, List.take_append_drop]

/-- The rows of the first split's table. -/
theorem rows0 (q : Fin 2) : (StableHlo.after hostOps0_1 (StableHlo.after hostOps0 V) (Proc.devRef .tc main_v7) : IVec S2x2 32) (ix2 q 0) = (cipher 0#32 42#32 0#32 (BitVec.ofNat 32 q.val)).1
    ∧ (StableHlo.after hostOps0_1 (StableHlo.after hostOps0 V) (Proc.devRef .tc main_v7) : IVec S2x2 32) (ix2 q 1) = (cipher 0#32 42#32 0#32 (BitVec.ofNat 32 q.val)).2 := by
  obtain ⟨s0, s1⟩ := seed V
  generalize StableHlo.after hostOps0 V = W at s0 s1 ⊢
  obtain ⟨h1, h3, h10, h9⟩ := split0_in W
  have e := congrArg (ev · (ix1 q)) (split0 W)
  simp only [hcipher_ev] at e
  rw [h1, h3, h10 q, h9 q, s0, s1] at e
  rw [cut W hostOps0_1 235] at e ⊢
  obtain ⟨t0, t1⟩ := table0 (StableHlo.after (List.take 235 hostOps0_1) W) q
  rw [(kept0 _).1, (kept0 _).2.1] at e
  exact ⟨t0.trans (congrArg Prod.fst e), t1.trans (congrArg Prod.snd e)⟩

/-- The two keys, as rows. -/
theorem keys_in : (∀ q : Fin 2, (StableHlo.after hostOps0_2 V (Proc.devRef .tc main_v9) : IVec S2 32) (ix1 q) = (V (Proc.devRef .tc main_v7) : IVec S2x2 32) (ix2 0 q))
    ∧ (∀ q : Fin 2, (StableHlo.after hostOps0_2 V (Proc.devRef .tc main_v11) : IVec S2 32) (ix1 q) = (V (Proc.devRef .tc main_v7) : IVec S2x2 32) (ix2 1 q)) := by
  after_reads_simp
  refine ⟨fun q => ?_, fun q => ?_⟩
  · pointwise
  · pointwise

/-- The rows of the second split's table. -/
theorem rows1 (W : Valuation τ sig (Elt Ideal)) (hW : W = StableHlo.after hostOps0_2 (StableHlo.after hostOps0_1 (StableHlo.after hostOps0 V))) (q : Fin 50) :
    (StableHlo.after hostOps0_3 W (Proc.devRef .tc main_v12) : IVec S50x2 32) (ix2 q 0) = (keyAt q.val).1
    ∧ (StableHlo.after hostOps0_3 W (Proc.devRef .tc main_v12) : IVec S50x2 32) (ix2 q 1) = (keyAt q.val).2 := by
  obtain ⟨s0, s1⟩ := rows0 V 1
  have k := (keys_in (StableHlo.after hostOps0_1 (StableHlo.after hostOps0 V))).2
  rw [← hW] at k
  obtain ⟨h1, h3, h10, h9⟩ := split1_in W
  have e := congrArg (ev · (ix1 q)) (split1 W)
  simp only [hcipher_ev] at e
  rw [h1, h3, h10 q, h9 q, k 0, k 1, s0, s1] at e
  rw [cut W hostOps0_3 235] at e ⊢
  obtain ⟨t0, t1⟩ := table1 (StableHlo.after (List.take 235 hostOps0_3) W) q
  rw [(kept0 _).2.2.1, (kept0 _).2.2.2] at e
  exact ⟨t0.trans (congrArg Prod.fst e), t1.trans (congrArg Prod.snd e)⟩

/-- The launch's table of keys: the first row. -/
theorem launch_row0 (q : Fin 2) : (StableHlo.after hostOps0_4 (StableHlo.after hostOps0_3 V) (Proc.devRef .tc main_v14) : IVec S51x2 32) (ix2 0 q) = (V (Proc.devRef .tc main_v9) : IVec S2 32) (ix1 q) := by
  have e : StableHlo.after hostOps0_3 V (Proc.devRef .tc main_v9) = V (Proc.devRef .tc main_v9) := by after_reads_simp
  rw [← e]
  generalize StableHlo.after hostOps0_3 V = W
  after_reads_simp
  pointwise

/-- The launch's table of keys: the other rows. -/
theorem launch_row (t : Fin 50) (q : Fin 2) : (StableHlo.after hostOps0_4 V (Proc.devRef .tc main_v14) : IVec S51x2 32) (ix2 t.succ q) = (V (Proc.devRef .tc main_v12) : IVec S50x2 32) (ix2 t q) := by
  after_reads_simp
  pointwise
  rw [dif_neg (by simp)]
  rfl

/-- The launch's driving terms. -/
theorem launch_coef (t : Fin 50) : (StableHlo.after hostOps0_4 V (Proc.devRef .tc main_v21) : FVec Ideal S1x50 .f32) (ix2 0 t) = coefAt t.val := by
  after_reads_simp
  pointwise
  rfl

/-- The launch's observations. -/
theorem launch_obs (r : Fin 1024) (t : Fin 50) : (StableHlo.after hostOps0_4 (StableHlo.after hostOps0_3 (StableHlo.after hostOps0_2 (StableHlo.after hostOps0_1 (StableHlo.after hostOps0 V)))) (Proc.devRef .tc main_v22) : FVec Ideal S1024x50 .f32) (ix2 r t)
    = (V (Proc.devRef .tc main_arg0) : FVec Ideal S1024x50x1 .f32) (ix3 r t 0) := by
  after_reads_simp
  pointwise

variable (m : (ℓ : Loc nD τ sig) → Buf (Elt Ideal) ℓ) (c : Dev nD)

/-- The contents at the launch, line by line. -/
theorem V_lines (b : Ref sig .tc) : Gen.V m c b = StableHlo.after hostOps0_4 (StableHlo.after hostOps0_3 (StableHlo.after hostOps0_2 (StableHlo.after hostOps0_1 (StableHlo.after hostOps0 (fun b => m (c, b)))))) (Proc.devRef .tc b) := by
  show StableHlo.after (hostOps0 ++ (hostOps0_1 ++ (hostOps0_2 ++ (hostOps0_3 ++ (hostOps0_4 ++ []))))) _ _ = _
  rw [StableHlo.after_append, StableHlo.after_append, StableHlo.after_append, StableHlo.after_append, List.append_nil]

/-- The launch's keys: the first row is the key of the first draw. -/
theorem V_key0 : (Gen.V m c main_v14 : IVec S51x2 32) (ix2 0 0) = key0.1 ∧ (Gen.V m c main_v14 : IVec S51x2 32) (ix2 0 1) = key0.2 := by
  rw [V_lines, launch_row0, launch_row0, (keys_in _).1, (keys_in _).1]
  exact rows0 _ 0

/-- The launch's keys: row `t + 1` is the key of step `t`. -/
theorem V_keyAt (t : Fin 50) : (Gen.V m c main_v14 : IVec S51x2 32) (ix2 t.succ 0) = (keyAt t.val).1 ∧ (Gen.V m c main_v14 : IVec S51x2 32) (ix2 t.succ 1) = (keyAt t.val).2 := by
  rw [V_lines, launch_row, launch_row]
  exact rows1 _ _ rfl t

/-- The launch's driving terms: entry `t` is that of step `t`. -/
theorem V_coef (t : Fin 50) : (Gen.V m c main_v21 : FVec Ideal S1x50 .f32) (ix2 0 t) = coefAt t.val := by
  rw [V_lines, launch_coef]

/-- The launch's observations. -/
theorem V_obs (r : Fin 1024) (t : Fin 50) : (Gen.V m c main_v22 : FVec Ideal S1024x50 .f32) (ix2 r t) = (m ((c : Thread nD τ).loc main_arg0) : FVec Ideal S1024x50x1 .f32) (ix3 r t 0) := by
  rw [V_lines, launch_obs]

end Cert.Pf.K
-- ==== Proof.KPoint.lean ====
module

public import proofs.«01_k».proof.Proof.KOut
public import proofs.«01_k».proof.Proof.KHost
public import Idealize.ShloMosaic.Lib.Pipeline.ValueKit

@[expose] public section

noncomputable section

namespace Cert.Pf.K

open Idealize.ShloMosaic Idealize.ShloMosaic.TcCoe Cert.KernelIdeal Cert.KernelIdeal.Gen

/-! # The state after every grid point -/

/-- The row of the whole array that row `r` of block `b` is. -/
def rowOf (b : Fin 2) (r : Fin 512) : Fin 1024 := ⟨512 * b.val + r.val, by omega⟩

/-- The counter of a particle of a block. -/
theorem kctr_at (i : grid0.Coords) (b : Fin 2) (hb : (i 0).val = b.val) (r : Fin 512) (p : Fin 1024) :
    kctr (kbase i) (ix2 r p) = BitVec.ofNat 32 ((rowOf b r).val * 1024 + p.val) := by
  apply BitVec.eq_of_toNat_eq
  simp [kctr, kbase, hb, rowOf, addi, muli, iota, broadcast, IntOp.addi, IntOp.muli, Scalar.muli]
  omega

/-- The words of the cipher at a particle's counter give the word drawn for it. -/
theorem draw_at (i : grid0.Coords) (b : Fin 2) (hb : (i 0).val = b.val) (k : BitVec 32 × BitVec 32) (r : Fin 512) (p : Fin 1024) :
    xori (kcipher k.1 k.2 (broadcast S512x1024 0#32) (kctr (kbase i))).1 (kcipher k.1 k.2 (broadcast S512x1024 0#32) (kctr (kbase i))).2 (ix2 r p)
      = draw k ((rowOf b r).val * 1024 + p.val) := by
  have e := kcipher_ev k.1 k.2 (broadcast S512x1024 0#32) (kctr (kbase i)) (ix2 r p)
  rw [kctr_at i b hb] at e
  rw [draw]
  rw [← show _ = cipher k.1 k.2 0#32 _ from e]
  rfl

/-- The first word of a step's key is in the row after the step's number. -/
theorem keyA_eq (i : grid0.Coords) (x0 : Vec Ideal S51x2 .i32) (t : Fin 50) (ht : (i 1).val = t.val) : keyA i x0 = x0 (ix2 t.succ 0) :=
  View.ld_unit_apply_of _ _ _ _ _ _ fun a => by
    fin_cases a
    · show t.val + 1 = k0_off1 i 0 + 0
      rw [k0_off1_eq]
      simp [ht]
    · show 0 = k0_off1 i 1 + 0
      rw [k0_off1_eq]
      rfl

/-- The second word of a step's key. -/
theorem keyB_eq (i : grid0.Coords) (x0 : Vec Ideal S51x2 .i32) (t : Fin 50) (ht : (i 1).val = t.val) : keyB i x0 = x0 (ix2 t.succ 1) :=
  View.ld_unit_apply_of _ _ _ _ _ _ fun a => by
    fin_cases a
    · show t.val + 1 = k0_off2 i 0 + 0
      rw [k0_off2_eq]
      simp [ht]
    · show 1 = k0_off2 i 1 + 0
      rw [k0_off2_eq]
      rfl

/-- The driving term of a step. -/
theorem coA_eq (i : grid0.Coords) (x1 : Vec Ideal S1x50 .f32) (t : Fin 50) (ht : (i 1).val = t.val) : coA i x1 = x1 (ix2 0 t) :=
  View.ld_unit_apply_of _ _ _ _ _ _ fun a => by
    fin_cases a
    · show 0 = k0_off3 i 0 + 0
      rw [k0_off3_eq]
      rfl
    · show t.val = k0_off3 i 1 + 0
      rw [k0_off3_eq]
      simp [ht]

/-- The first word of the key of the first particles. -/
theorem key0A_eq (x0 : Vec Ideal S51x2 .i32) : key0A x0 = x0 (ix2 0 0) :=
  View.ld_unit_apply_of _ _ _ _ _ _ fun a => by fin_cases a <;> rfl

/-- The second word of the key of the first particles. -/
theorem key0B_eq (x0 : Vec Ideal S51x2 .i32) : key0B x0 = x0 (ix2 0 1) :=
  View.ld_unit_apply_of _ _ _ _ _ _ fun a => by fin_cases a <;> rfl

variable (i : grid0.Coords) (b : Fin 2) (t : Fin 50) (hb : (i 0).val = b.val) (ht : (i 1).val = t.val)
  (x0 : Vec Ideal S51x2 .i32) (x1 : Vec Ideal S1x50 .f32) (x2 : Vec Ideal S512x50 .f32) (P W : Vec Ideal S512x1024 .f32) (obs : Fin 1024 → ℕ → EReal)

include hb

/-- The first particles of a block. -/
theorem first_at (h0 : x0 (ix2 0 0) = key0.1) (h1 : x0 (ix2 0 1) = key0.2) (r : Fin 512) (p : Fin 1024) :
    pFirst i x0 (ix2 r p) = part 0 (rowOf b r) p := by
  rw [pFirst, first_apply, bits0, init_bits, key0A_eq, key0B_eq, h0, h1, draw_at i b hb key0]
  rfl

include ht

/-- The noise of a step. -/
theorem noise_at (h0 : x0 (ix2 t.succ 0) = (keyAt t.val).1) (h1 : x0 (ix2 t.succ 1) = (keyAt t.val).2) (r : Fin 512) (p : Fin 1024) :
    noise i (keyA i x0) (keyB i x0) (ix2 r p) = root2 * gauss (keyAt t.val) ((rowOf b r).val * 1024 + p.val) := by
  rw [noise_apply, step_draw, kunif_apply, keyA_eq i x0 t ht, keyB_eq i x0 t ht, h0, h1, draw_at i b hb]
  rfl

/-- The operands of a step: the keys, the driving term, the observations, and the state before it. -/
structure Before : Prop where
  key0 : x0 (ix2 t.succ 0) = (keyAt t.val).1
  key1 : x0 (ix2 t.succ 1) = (keyAt t.val).2
  co : x1 (ix2 0 t) = coefAt t.val
  ob : ∀ r : Fin 512, x2 (ix2 r t) = obs (rowOf b r) t.val
  pt : ∀ (r : Fin 512) (p : Fin 1024), P (ix2 r p) = part t.val (rowOf b r) p
  wt : ∀ (r : Fin 512) (p : Fin 1024), W (ix2 r p) = weight obs t.val (rowOf b r) p

variable {x0 x1 x2 P W obs} (H : Before b t x0 x1 x2 P W obs)

include H

/-- The particles after a step. -/
theorem pNext_at (r : Fin 512) (p : Fin 1024) : pNext i x0 x1 P (ix2 r p) = part (t.val + 1) (rowOf b r) p := by
  rw [pNext, move_at, noise_at i b t hb ht x0 H.key0 H.key1, coA_eq i x1 t ht, H.co, H.pt]
  rfl

/-- The raw weights of a step. -/
theorem vNext_at (r : Fin 512) (p : Fin 1024) :
    vNext i x0 x1 x2 P W (ix2 r p) = raw (weight obs t.val (rowOf b r)) (part (t.val + 1) (rowOf b r)) (obs (rowOf b r) t.val) p := by
  have e := pNext_at i b t hb ht H r p
  unfold pNext at e
  rw [vNext, ht, raw_at, e, H.wt, H.ob]
  rfl

/-- The sums of raw weights of a step. -/
theorem dNext_at (r : Fin 512) :
    dNext i x0 x1 x2 P W (ix2 r 0) = (∑ q : Fin 1024, raw (weight obs t.val (rowOf b r)) (part (t.val + 1) (rowOf b r)) (obs (rowOf b r) t.val) q) + eps := by
  rw [dNext, denom_at]
  exact congrArg (· + eps) (Finset.sum_congr rfl fun q _ => vNext_at i b t hb ht H r q)

/-- The weights after a step. -/
theorem wNext_at (r : Fin 512) (p : Fin 1024) :
    k0_pay1 (F := Ideal) (vNext i x0 x1 x2 P W) (dNext i x0 x1 x2 P W) (Scalar.ofBits .f32 0x3F800000#32) (ix2 r p) = weight obs (t.val + 1) (rowOf b r) p := by
  have hd := dNext_at i b t hb ht H r
  rw [norm_at _ _ _ _ (by
    rw [hd]
    exact (sum_eps_pos _ fun q => mul_nonneg (weight_nonneg obs _ _ q) (lik_nonneg _ _)).ne'), hd, vNext_at i b t hb ht H]
  rfl

/-- The estimates of a step. -/
theorem estNext_at (r : Fin 512) :
    k0_pay3 (F := Ideal) (pNext i x0 x1 P) (vNext i x0 x1 x2 P W) (dNext i x0 x1 x2 P W) (Scalar.ofBits .f32 0x3F800000#32) (ix3 0 0 r) = est obs t.val (rowOf b r) := by
  rw [est_at]
  exact Finset.sum_congr rfl fun p _ => by rw [wNext_at i b t hb ht H, pNext_at i b t hb ht H]

/-- The effective sample sizes of a step. -/
theorem essNext_at (r : Fin 512) :
    k0_pay4 (F := Ideal) (vNext i x0 x1 x2 P W) (dNext i x0 x1 x2 P W) (Scalar.ofBits .f32 0x3F800000#32) (ix3 0 0 r) = ess obs t.val (rowOf b r) := by
  rw [ess_at, ess]
  exact congrArg _ (Finset.sum_congr rfl fun p _ => by rw [wNext_at i b t hb ht H])

omit hb ht H

/-! ## The grid -/

variable (m : (ℓ : Loc nD τ sig) → Buf (Elt Ideal) ℓ) (c : Dev nD)

/-- The coordinates of a grid point. -/
theorem coords_eq : ∀ t : Fin cfg0.N, (grid0.coords t 0).val = t.val / 50 ∧ (grid0.coords t 1).val = t.val % 50 :=
  (by decide +kernel : ∀ t : Fin grid0.N, (grid0.coords t 0).val = t.val / 50 ∧ (grid0.coords t 1).val = t.val % 50)

/-- The blocks that a grid point reads and writes. -/
theorem idx_eq : ∀ t : Fin cfg0.N, win0_0.index t = ![0, 0] ∧ win0_1.index t = ![0, 0] ∧ win0_2.index t = ![t.val / 50, 0]
    ∧ win0_3.index t = ![t.val % 50, 0, t.val / 50] ∧ win0_4.index t = ![t.val % 50, 0, t.val / 50] :=
  (by decide +kernel : ∀ t : Fin grid0.N, win0_0.index t = ![0, 0] ∧ win0_1.index t = ![0, 0] ∧ win0_2.index t = ![t.val / 50, 0]
    ∧ win0_3.index t = ![t.val % 50, 0, t.val / 50] ∧ win0_4.index t = ![t.val % 50, 0, t.val / 50])

/-- The keys that a grid point reads are the whole table. -/
theorem iblk0_at (s : Fin cfg0.N) (u : Fin 51) (q : Fin 2) : (iblk m c 0 s : Vec Ideal S51x2 .i32) (ix2 u q) = (Gen.V m c main_v14 : IVec S51x2 32) (ix2 u q) := by
  obtain ⟨h0, h1, h2, h3, h4⟩ := idx_eq s
  generalize hV : Gen.V m c main_v14 = A
  blk_ext [iblk, hV, h0]

/-- The driving terms that a grid point reads are the whole row. -/
theorem iblk1_at (s : Fin cfg0.N) (q : Fin 50) : (iblk m c 1 s : Vec Ideal S1x50 .f32) (ix2 0 q) = (Gen.V m c main_v21 : FVec Ideal S1x50 .f32) (ix2 0 q) := by
  obtain ⟨h0, h1, h2, h3, h4⟩ := idx_eq s
  generalize hV : Gen.V m c main_v21 = A
  blk_ext [iblk, hV, h1]

/-- The observations that a grid point reads are those of its block of rows. -/
theorem iblk2_at (s : Fin cfg0.N) (b : Fin 2) (hb : s.val / 50 = b.val) (r : Fin 512) (q : Fin 50) :
    (iblk m c 2 s : Vec Ideal S512x50 .f32) (ix2 r q) = (Gen.V m c main_v22 : FVec Ideal S1024x50 .f32) (ix2 (rowOf b r) q) := by
  obtain ⟨h0, h1, h2, h3, h4⟩ := idx_eq s
  generalize hV : Gen.V m c main_v22 = A
  rw [hb] at h2
  unfold rowOf
  blk_ext [iblk, hV, h2]

variable (obs : Fin 1024 → ℕ → EReal) (hobs : ∀ (r : Fin 1024) (t : Fin 50), (Gen.V m c main_v22 : FVec Ideal S1024x50 .f32) (ix2 r t) = obs r t.val)

include hobs

/-- The operands of the step at a grid point, from the state before it. -/
theorem before_at (s : Fin cfg0.N) (b : Fin 2) (t : Fin 50) (hb : s.val / 50 = b.val) (P W : Vec Ideal S512x1024 .f32)
    (hP : ∀ (r : Fin 512) (p : Fin 1024), P (ix2 r p) = part t.val (rowOf b r) p) (hW : ∀ (r : Fin 512) (p : Fin 1024), W (ix2 r p) = weight obs t.val (rowOf b r) p) :
    Before b t (iblk m c 0 s) (iblk m c 1 s) (iblk m c 2 s) P W obs where
  key0 := (iblk0_at m c s _ _).trans (V_keyAt m c t).1
  key1 := (iblk0_at m c s _ _).trans (V_keyAt m c t).2
  co := (iblk1_at m c s _).trans (V_coef m c t)
  ob r := (iblk2_at m c s b hb _ _).trans (hobs _ _)
  pt := hP
  wt := hW

/-- What the grid point `n`, the step `t` of the block `b`, leaves: the estimates, the effective sample sizes, the particles and the weights. -/
structure Leaves (b : Fin 2) (t : Fin 50) (o : Vec Ideal S1x1x512 .f32 × Vec Ideal S1x1x512 .f32 × Vec Ideal S512x1024 .f32 × Vec Ideal S512x1024 .f32) : Prop where
  es : ∀ r : Fin 512, o.1 (ix3 0 0 r) = est obs t.val (rowOf b r)
  ss : ∀ r : Fin 512, o.2.1 (ix3 0 0 r) = ess obs t.val (rowOf b r)
  pt : ∀ (r : Fin 512) (p : Fin 1024), o.2.2.1 (ix2 r p) = part (t.val + 1) (rowOf b r) p
  wt : ∀ (r : Fin 512) (p : Fin 1024), o.2.2.2 (ix2 r p) = weight obs (t.val + 1) (rowOf b r) p

/-- A first step of a block leaves the model's state. -/
theorem leaves_A (s : Fin cfg0.N) (b : Fin 2) (t : Fin 50) (hb : s.val / 50 = b.val) (ht : s.val % 50 = t.val) (h0 : s.val % 50 = 0) :
    Leaves obs b t (outsAt0 m c s.val s.isLt) := by
  obtain ⟨e0, e1⟩ := coords_eq s
  rw [hb] at e0
  rw [ht] at e1
  have z : t.val = 0 := by omega
  have hP : ∀ (r : Fin 512) (p : Fin 1024), pFirst (grid0.coords s) (iblk m c 0 s) (ix2 r p) = part t.val (rowOf b r) p := fun r p => by
    rw [z, first_at _ b e0 _ ((iblk0_at m c s _ _).trans (V_key0 m c).1) ((iblk0_at m c s _ _).trans (V_key0 m c).2)]
  have hW : ∀ (r : Fin 512) (p : Fin 1024), (k0_pay46 (F := Ideal)) (ix2 r p) = weight obs t.val (rowOf b r) p := fun r p => by
    rw [z, first_weight]
    rfl
  have H := before_at m c obs hobs s b t hb _ _ hP hW
  rw [outsAt0_A m c s h0, out_A_3, out_A_4, sout_A_0, sout_A_1]
  exact ⟨estNext_at _ b t e0 e1 H, essNext_at _ b t e0 e1 H, pNext_at _ b t e0 e1 H, wNext_at _ b t e0 e1 H⟩

/-- A later step of a block leaves the model's state, if the step before it did. -/
theorem leaves_B (s : Fin cfg0.N) (b : Fin 2) (t t' : Fin 50) (hb : s.val / 50 = b.val) (ht : s.val % 50 = t.val) (h0 : ¬s.val % 50 = 0) (ht' : t'.val + 1 = t.val)
    (hp : Leaves obs b t' (outsAt0 m c (s.val - 1) (Nat.lt_of_le_of_lt (Nat.sub_le _ _) s.isLt))) :
    Leaves obs b t (outsAt0 m c s.val s.isLt) := by
  obtain ⟨e0, e1⟩ := coords_eq s
  rw [hb] at e0
  rw [ht] at e1
  rw [outsAt0_B m c s h0, out_B_3, out_B_4, sout_B_0, sout_B_1]
  generalize outsAt0 m c (s.val - 1) (Nat.lt_of_le_of_lt (Nat.sub_le _ _) s.isLt) = o at hp ⊢
  have H := before_at m c obs hobs s b t hb o.2.2.1 o.2.2.2 (ht' ▸ hp.pt) (ht' ▸ hp.wt)
  exact ⟨estNext_at _ b t e0 e1 H, essNext_at _ b t e0 e1 H, pNext_at _ b t e0 e1 H, wNext_at _ b t e0 e1 H⟩

/-- Every grid point leaves the model's state of its block and step. -/
theorem leaves : ∀ (n : ℕ) (hn : n < cfg0.N) (b : Fin 2) (t : Fin 50), n / 50 = b.val → n % 50 = t.val → Leaves obs b t (outsAt0 m c n hn)
  | 0, hn, b, t, hb, ht => leaves_A m c obs hobs ⟨0, hn⟩ b t hb ht rfl
  | n + 1, hn, b, t, hb, ht => by
    by_cases h0 : (n + 1) % 50 = 0
    · exact leaves_A m c obs hobs ⟨n + 1, hn⟩ b t hb ht h0
    · have h : t.val - 1 + 1 = t.val := by omega
      exact leaves_B m c obs hobs ⟨n + 1, hn⟩ b t ⟨t.val - 1, by omega⟩ hb ht h0 h
        (leaves n (Nat.lt_of_succ_lt hn) b ⟨t.val - 1, by omega⟩ (by omega) (by show n % 50 = t.val - 1; omega))

/-- The estimates' array after the run. -/
theorem arr3 : (dats m 0 c).arrAt 3 cfg0.N = (fun i => est obs (i 0).val (i 2) : FVec Ideal S50x1x1024 .f32) := by
  refine (dats m 0 c).arrAt_eq_of_covers 3 _ (by decide +kernel) fun s hf y => ?_
  obtain ⟨h0, h1, h2, h3, h4⟩ := idx_eq s
  blk_simp
  rw [after0_3]
  have hs : s.val < 100 := s.isLt
  have L := leaves m c obs hobs s.val s.isLt ⟨s.val / 50, by omega⟩ ⟨s.val % 50, by omega⟩ rfl rfl
  have hz0 : (y 0).val < 1 := (y 0).isLt
  have hz1 : (y 1).val < 1 := (y 1).isLt
  have hy : y = ix3 (0 : Fin 1) (0 : Fin 1) (y 2 : Fin 512) := by
    funext a
    match a with
    | ⟨0, _⟩ => exact Fin.ext (show (y 0).val = 0 by omega)
    | ⟨1, _⟩ => exact Fin.ext (show (y 1).val = 0 by omega)
    | ⟨2, _⟩ => rfl
  have hr : ((win0_3.blk s).view.emb y 2 : Fin 1024) = rowOf ⟨s.val / 50, by omega⟩ (y 2) := by
    apply Fin.ext
    blk_simp
    rw [h3]
    show s.val / 50 * 512 + (y 2).val = 512 * (s.val / 50) + (y 2).val
    omega
  rw [h3]
  refine Eq.trans ?_ ((L.es (y 2)).trans ?_)
  · exact congrArg (outsAt0 m c s.val s.isLt).1 hy
  · exact congrArg (est obs (s.val % 50)) hr.symm

/-- The effective sample sizes' array after the run. -/
theorem arr4 : (dats m 0 c).arrAt 4 cfg0.N = (fun i => ess obs (i 0).val (i 2) : FVec Ideal S50x1x1024 .f32) := by
  refine (dats m 0 c).arrAt_eq_of_covers 4 _ (by decide +kernel) fun s hf y => ?_
  obtain ⟨h0, h1, h2, h3, h4⟩ := idx_eq s
  blk_simp
  rw [after0_4]
  have hs : s.val < 100 := s.isLt
  have L := leaves m c obs hobs s.val s.isLt ⟨s.val / 50, by omega⟩ ⟨s.val % 50, by omega⟩ rfl rfl
  have hz0 : (y 0).val < 1 := (y 0).isLt
  have hz1 : (y 1).val < 1 := (y 1).isLt
  have hy : y = ix3 (0 : Fin 1) (0 : Fin 1) (y 2 : Fin 512) := by
    funext a
    match a with
    | ⟨0, _⟩ => exact Fin.ext (show (y 0).val = 0 by omega)
    | ⟨1, _⟩ => exact Fin.ext (show (y 1).val = 0 by omega)
    | ⟨2, _⟩ => rfl
  have hr : ((win0_4.blk s).view.emb y 2 : Fin 1024) = rowOf ⟨s.val / 50, by omega⟩ (y 2) := by
    apply Fin.ext
    blk_simp
    rw [h4]
    show s.val / 50 * 512 + (y 2).val = 512 * (s.val / 50) + (y 2).val
    omega
  rw [h4]
  refine Eq.trans ?_ ((L.ss (y 2)).trans ?_)
  · exact congrArg (outsAt0 m c s.val s.isLt).2.1 hy
  · exact congrArg (ess obs (s.val % 50)) hr.symm

end Cert.Pf.K
-- ==== Proof.RefStep.lean ====
module

public import proofs.«01_k».proof.Proof.Spec
public import proofs.«01_k».proof.Proof.Gen.ReferenceIdeal.Run
public import Idealize.ShloMosaic.Lib.DynamicIndex
public import Idealize.ShloMosaic.Lib.WordCmp

@[expose] public section

noncomputable section

namespace Cert.Pf

open Idealize.ShloMosaic Cert.ReferenceIdeal Cert.ReferenceIdeal.Gen Cert.ReferenceIdeal.Value

/-! # One step of the reference at an index -/

variable (V0 : Valuation τ sig (Elt Ideal))

/-- The list of the steps' numbers, in the loop's contents. -/
def timesOf : FVec Ideal S50 .f32 := V0 (Proc.devRef .tc main_v141_0)

/-- The observations, in the loop's contents. -/
def obsOf : FVec Ideal S50x1024x1 .f32 := V0 (Proc.devRef .tc main_v141_1)

/-- The steps' keys, in the loop's contents. -/
def keysOf : IVec S50x2 32 := V0 (Proc.devRef .tc main_v141_2)

/-- The step's number, in the loop's contents. -/
def numOf : IVec S_ 32 := V0 (Proc.devRef .tc main_v141_3)

/-- The particles, in the loop's contents. -/
def partOf : FVec Ideal S1024x1024x1 .f32 := V0 (Proc.devRef .tc main_v141_4)

/-- The weights, in the loop's contents. -/
def weightOf : FVec Ideal S1024x1024 .f32 := V0 (Proc.devRef .tc main_v141_5)

/-- The estimates, in the loop's contents. -/
def estsOf : FVec Ideal S50x1024x1 .f32 := V0 (Proc.devRef .tc main_v141_6)

/-- The effective sample sizes, in the loop's contents. -/
def esssOf : FVec Ideal S50x1024 .f32 := V0 (Proc.devRef .tc main_v141_7)

/-- A shift by nine, spelled in two ways. -/
theorem shr9 (w : BitVec 32) : IntOp.shrui .host w 9#32 = w >>> 9#32 := rfl

/-- The particles that the step makes. -/
def pNew : FVec Ideal S1024x1024x1 .f32 := res_main_while0b_v263 V0

/-- The weights that the step makes. -/
def wNew : FVec Ideal S1024x1024 .f32 := res_main_while0b_v285 V0

/-- The two words of the counter are: the high word is zero and the low word is the number of the particle. -/
theorem ctr_lo (r p : Fin 1024) (z : Fin 1) : (trunci 32 (res_main_while0b_v161 V0) natLt_32_64 : IVec S1024x1024x1 32) (ix3 r p z)
    = BitVec.ofNat 32 (r.val * 1024 + p.val) := by
  have hz : z.val = 0 := by omega
  apply BitVec.eq_of_toNat_eq
  simp [res_main_while0b_v161, trunci, addi, muli, broadcastInDim, iotaInDim, constantI, IntOp.addi, IntOp.muli, hz]
  omega

theorem ctr_hi (r p : Fin 1024) (z : Fin 1) :
    (trunci 32 (Host.shrui (res_main_while0b_v161 V0) (broadcastInDim S1024x1024x1 ![] bcast_S_S1024x1024x1 (constantI S_ 64 32#64))) natLt_32_64 : IVec S1024x1024x1 32)
      (ix3 r p z) = 0#32 := by
  have hz : z.val = 0 := by omega
  apply BitVec.eq_of_toNat_eq
  simp [res_main_while0b_v161, trunci, addi, muli, broadcastInDim, iotaInDim, constantI, IntOp.addi, IntOp.muli, hz, Host.shrui, IntOp.shrui]
  omega

/-- The high words of the step's counters. -/
def ctrHi : IVec S1024x1024x1 32 :=
  trunci 32 (Host.shrui (res_main_while0b_v161 V0) (broadcastInDim S1024x1024x1 ![] bcast_S_S1024x1024x1 (constantI S_ 64 32#64))) natLt_32_64

/-- The low words of the step's counters. -/
def ctrLo : IVec S1024x1024x1 32 := trunci 32 (res_main_while0b_v161 V0) natLt_32_64

/-- An array of one word at every index of the particles. -/
def spread (a : IVec S_ 32) : IVec S1024x1024x1 32 := broadcastInDim S1024x1024x1 ![] bcast_S_S1024x1024x1 a

/-- The two words of each particle that the step's cipher ends at. -/
def stepWords : IVec S1024x1024x1 32 × IVec S1024x1024x1 32 :=
  (addi (res_main_while0b_call7_v163 V0) (spread (res_main_while0b_call7_v1 V0)),
   addi (addi (xori (res_main_while0b_call7_v163 V0) (ori (Host.shli (res_main_while0b_call7_v162 V0) (spread (constantI S_ 32 6#32)))
     (Host.shrui (res_main_while0b_call7_v162 V0) (spread (constantI S_ 32 26#32))))) (spread (res_main_while0b_v148 V0))) (spread (constantI S_ 32 5#32)))

/-- The step's words are the cipher's values on its counters, under the step's key. -/
theorem stepWords_eq : hcipher bcast_S_S1024x1024x1 (res_main_while0b_v148 V0) (res_main_while0b_v150 V0) (ctrHi V0) (ctrLo V0) = stepWords V0 :=
  hcipher_of_groups _ _ _ (res_main_while0b_call7_v1 V0) _ _ (addi (ctrHi V0) (spread (res_main_while0b_v148 V0)), res_main_while0b_call7_v5 V0) _
    (addi (res_main_while0b_call7_v27 V0) (spread (res_main_while0b_v150 V0)), res_main_while0b_call7_v39 V0) _
    (addi (res_main_while0b_call7_v61 V0) (spread (res_main_while0b_call7_v1 V0)), res_main_while0b_call7_v73 V0) _
    (addi (res_main_while0b_call7_v95 V0) (spread (res_main_while0b_v148 V0)), res_main_while0b_call7_v107 V0) _
    (addi (res_main_while0b_call7_v129 V0) (spread (res_main_while0b_v150 V0)), res_main_while0b_call7_v141 V0) _ _
    rfl rfl rfl rfl rfl rfl rfl rfl rfl rfl rfl rfl

/-- The step's numbers between -1 and 1 are made of its words. -/
theorem step_unif (i : S1024x1024x1.Idx) : res_main_while0b_v180 V0 i = max (c32 0xBF7FFFFF#32) (unif ((stepWords V0).1 i ^^^ (stepWords V0).2 i)) := by
  rfl

/-- The moved particles at an index. -/
theorem part_at (i : S1024x1024x1.Idx) : res_main_while0b_v263 V0 i = move (partOf V0 i)
    (c32 0x41000000#32 * Ideal.cos (c32 0x3F99999A#32 * (shapeCast S_ (Host.dynamicSlice S1 (timesOf V0)
      (fun k => (((![numOf V0] : Fin 1 → (⟨S_, .i32⟩ : BufTy).Contents (Elt Ideal))) k (Shape.Idx.first h_S_)).toInt) sliceFits_S50_S1) shapeCasts_S1_S_) ix0))
    (Ideal.sqrt (c32 0x40000000#32) * ierf (res_main_while0b_v180 V0 i) * c32 0x3F800000#32) := by
  rfl

/-! ## The step's number -/

/-- The row `j` of the keys lies in the array. -/
theorem slicesKey {j : ℕ} (h : j < 50) : S50x2.Slices ![j, 0] S1x2 :=
  ⟨rfl, fun a => by fin_cases a; · (show j + 1 ≤ 50); omega
                    · exact le_refl 2⟩

/-- The row `j` of the observations lies in the array. -/
theorem slicesObs {j : ℕ} (h : j < 50) : S50x1024x1.Slices ![j, 0, 0] S1x1024x1 :=
  ⟨rfl, fun a => by fin_cases a; · (show j + 1 ≤ 50); omega
                    · exact le_refl 1024
                    · exact le_refl 1⟩

/-- The row `j` of the effective sample sizes lies in the array. -/
theorem slicesEss {j : ℕ} (h : j < 50) : S50x1024.Slices ![j, 0] S1x1024 :=
  ⟨rfl, fun a => by fin_cases a; · (show j + 1 ≤ 50); omega
                    · exact le_refl 1024⟩

/-- The number `j` lies in the list of the steps' numbers. -/
theorem slicesT {j : ℕ} (h : j < 50) : S50.Slices ![j] S1 :=
  ⟨rfl, fun a => by fin_cases a; (show j + 1 ≤ 50); omega⟩

/-- The row of the keys that starts at `j`. -/
theorem sliceKey {j : ℕ} (h : j < 50) (x : IVec S50x2 32) (st : Fin 2 → Int) (h0 : st 0 = (BitVec.ofNat 32 j).toInt) (h1 : st 1 = 0) (q : Fin 2) :
    (Host.dynamicSlice S1x2 x st sliceFits_S50x2_S1x2 : IVec S1x2 32) (ix2 0 q) = x (ix2 ⟨j, h⟩ q) := by
  rw [Host.dynamicSlice_eq_extractStridedSlice S1x2 x st ![j, 0] _ (slicesKey h) (fun a => by
    fin_cases a
    · exact h0.trans (toInt_ofNat_of_lt (by omega))
    · exact h1)]
  pointwise

/-- The row of the observations that starts at `j`. -/
theorem sliceObs {j : ℕ} (h : j < 50) (x : FVec Ideal S50x1024x1 .f32) (st : Fin 3 → Int) (h0 : st 0 = (BitVec.ofNat 32 j).toInt) (h1 : st 1 = 0) (h2 : st 2 = 0)
    (r : Fin 1024) (z : Fin 1) :
    (Host.dynamicSlice S1x1024x1 x st sliceFits_S50x1024x1_S1x1024x1 : FVec Ideal S1x1024x1 .f32) (ix3 0 r z) = x (ix3 ⟨j, h⟩ r 0) := by
  rw [Host.dynamicSlice_eq_extractStridedSlice S1x1024x1 x st ![j, 0, 0] _ (slicesObs h) (fun a => by
    fin_cases a
    · exact h0.trans (toInt_ofNat_of_lt (by omega))
    · exact h1
    · exact h2)]
  pointwise

/-- The step's number, from the list of them. -/
theorem sliceT {j : ℕ} (h : j < 50) (x : FVec Ideal S50 .f32) (st : Fin 1 → Int) (h0 : st 0 = (BitVec.ofNat 32 j).toInt) :
    (Host.dynamicSlice S1 x st sliceFits_S50_S1 : FVec Ideal S1 .f32) (ix1 0) = x (ix1 ⟨j, h⟩) := by
  rw [Host.dynamicSlice_eq_extractStridedSlice S1 x st ![j] _ (slicesT h) (fun a => by
    fin_cases a
    exact h0.trans (toInt_ofNat_of_lt (by omega)))]
  pointwise

/-- The estimates with the row `j` replaced. -/
theorem updateEsts {j : ℕ} (h : j < 50) (x : FVec Ideal S50x1024x1 .f32) (u : FVec Ideal S1x1024x1 .f32) (st : Fin 3 → Int)
    (h0 : st 0 = (BitVec.ofNat 32 j).toInt) (h1 : st 1 = 0) (h2 : st 2 = 0) (t : Fin 50) (r : Fin 1024) (z : Fin 1) :
    (Host.dynamicUpdateSlice x u st updateFits_S50x1024x1_S1x1024x1 : FVec Ideal S50x1024x1 .f32) (ix3 t r z)
      = if t.val = j then u (ix3 0 r z) else x (ix3 t r z) := by
  rw [WordCmp.dynamicUpdateSlice_eq_update x u st _ ![j, 0, 0] (slicesObs h) (fun a => by
    fin_cases a
    · exact h0.trans (toInt_ofNat_of_lt (by omega))
    · exact h1
    · exact h2), updateSlice_apply]
  by_cases e : t.val = j
  · rw [if_pos e, dif_pos (fun a => match a with
      | ⟨0, _⟩ => show j ≤ t.val ∧ t.val < j + 1 by omega
      | ⟨1, _⟩ => show 0 ≤ r.val ∧ r.val < 0 + 1024 by omega
      | ⟨2, _⟩ => show 0 ≤ z.val ∧ z.val < 0 + 1 by omega)]
    congr 1
    funext a
    match a with
    | ⟨0, _⟩ => exact Fin.ext (show t.val - j = 0 by omega)
    | ⟨1, _⟩ => exact Fin.ext (show r.val - 0 = r.val by omega)
    | ⟨2, _⟩ => exact Fin.ext (show z.val - 0 = z.val by omega)
  · rw [if_neg e, dif_neg (fun hc => by have : j ≤ t.val ∧ t.val < j + 1 := hc 0; omega)]

/-- The effective sample sizes with the row `j` replaced. -/
theorem updateEsss {j : ℕ} (h : j < 50) (x : FVec Ideal S50x1024 .f32) (u : FVec Ideal S1x1024 .f32) (st : Fin 2 → Int)
    (h0 : st 0 = (BitVec.ofNat 32 j).toInt) (h1 : st 1 = 0) (t : Fin 50) (r : Fin 1024) :
    (Host.dynamicUpdateSlice x u st updateFits_S50x1024_S1x1024 : FVec Ideal S50x1024 .f32) (ix2 t r)
      = if t.val = j then u (ix2 0 r) else x (ix2 t r) := by
  rw [WordCmp.dynamicUpdateSlice_eq_update x u st _ ![j, 0] (slicesEss h) (fun a => by
    fin_cases a
    · exact h0.trans (toInt_ofNat_of_lt (by omega))
    · exact h1), updateSlice_apply]
  by_cases e : t.val = j
  · rw [if_pos e, dif_pos (fun a => match a with
      | ⟨0, _⟩ => show j ≤ t.val ∧ t.val < j + 1 by omega
      | ⟨1, _⟩ => show 0 ≤ r.val ∧ r.val < 0 + 1024 by omega)]
    congr 1
    funext a
    match a with
    | ⟨0, _⟩ => exact Fin.ext (show t.val - j = 0 by omega)
    | ⟨1, _⟩ => exact Fin.ext (show r.val - 0 = r.val by omega)
  · rw [if_neg e, dif_neg (fun hc => by have : j ≤ t.val ∧ t.val < j + 1 := hc 0; omega)]

variable {V0} {j : ℕ} (hj : numOf V0 = constantI S_ 32 (BitVec.ofNat 32 j)) (hlt : j < 50)

include hj hlt

/-- The first word of the step's key. -/
theorem word0 : res_main_while0b_v148 V0 ix0 = keysOf V0 (ix2 ⟨j, hlt⟩ 0) := by
  rw [← sliceKey hlt (keysOf V0) (fun k => (((![numOf V0, constantI S_ 32 0#32] : Fin 2 → (⟨S_, .i32⟩ : BufTy).Contents (Elt Ideal))) k (Shape.Idx.first h_S_)).toInt)
    (by rw [hj]; rfl) rfl 0]
  pointwise [res_main_while0b_v148, res_main_while0b_v146, keysOf, numOf]
  rfl

/-- The second word of the step's key. -/
theorem word1 : res_main_while0b_v150 V0 ix0 = keysOf V0 (ix2 ⟨j, hlt⟩ 1) := by
  rw [← sliceKey hlt (keysOf V0) (fun k => (((![numOf V0, constantI S_ 32 0#32] : Fin 2 → (⟨S_, .i32⟩ : BufTy).Contents (Elt Ideal))) k (Shape.Idx.first h_S_)).toInt)
    (by rw [hj]; rfl) rfl 1]
  pointwise [res_main_while0b_v150, res_main_while0b_v146, keysOf, numOf]
  rfl

/-- The numbers between -1 and 1 of the step. -/
theorem unif_at (k : BitVec 32 × BitVec 32) (h0 : keysOf V0 (ix2 ⟨j, hlt⟩ 0) = k.1)
    (h1 : keysOf V0 (ix2 ⟨j, hlt⟩ 1) = k.2) (r p : Fin 1024) (z : Fin 1) :
    res_main_while0b_v180 V0 (ix3 r p z) = unif (draw k (r.val * 1024 + p.val)) := by
  have e : ev (stepWords V0) (ix3 r p z) = cipher k.1 k.2 0#32 (BitVec.ofNat 32 (r.val * 1024 + p.val)) := by
    rw [← stepWords_eq, hcipher_ev, word0 hj hlt, word1 hj hlt, h0, h1, ctrHi, ctrLo, ctr_hi, ctr_lo]
  rw [step_unif, max_unif, draw, ← e]
  rfl

/-- The particles that the step makes. -/
theorem step_part (k : BitVec 32 × BitVec 32) (h0 : keysOf V0 (ix2 ⟨j, hlt⟩ 0) = k.1)
    (h1 : keysOf V0 (ix2 ⟨j, hlt⟩ 1) = k.2)
    (ht : timesOf V0 (ix1 ⟨j, hlt⟩) = (((BitVec.ofNat 32 j).toInt : ℝ) : EReal))
    (r p : Fin 1024) : res_main_while0b_v263 V0 (ix3 r p 0)
      = move (partOf V0 (ix3 r p 0)) (coefAt j) (root2 * gauss k (r.val * 1024 + p.val)) := by
  have hc : (shapeCast S_ (Host.dynamicSlice S1 (timesOf V0)
      (fun k => (((![numOf V0] : Fin 1 → (⟨S_, .i32⟩ : BufTy).Contents (Elt Ideal))) k (Shape.Idx.first h_S_)).toInt) sliceFits_S50_S1) shapeCasts_S1_S_ : FVec Ideal S_ .f32) ix0
      = (((BitVec.ofNat 32 j).toInt : ℝ) : EReal) := by
    rw [← ht, ← sliceT hlt (timesOf V0) (fun k => (((![numOf V0] : Fin 1 → (⟨S_, .i32⟩ : BufTy).Contents (Elt Ideal))) k (Shape.Idx.first h_S_)).toInt) (by rw [hj]; rfl)]
    pointwise
  rw [part_at, hc, unif_at hj hlt k h0 h1, sqrt_two, c32_one, mul_one]
  rfl

/-- The raw weights that the step makes. -/
theorem step_raw (r p : Fin 1024) : res_main_while0b_v279 V0 (ix2 r p)
      = weightOf V0 (ix2 r p)
        * lik (res_main_while0b_v263 V0 (ix3 r p 0)) (obsOf V0 (ix3 ⟨j, hlt⟩ r 0)) := by
  rw [← sliceObs hlt (obsOf V0) (fun k => (((![numOf V0, constantI S_ 32 0#32, constantI S_ 32 0#32] : Fin 3 → (⟨S_, .i32⟩ : BufTy).Contents (Elt Ideal))) k (Shape.Idx.first h_S_)).toInt) (by rw [hj]; rfl) rfl rfl r 0]
  pointwise [res_main_while0b_v279, res_main_while0b_v269]
  rw [Fin.sum_univ_one, div_twenty, div_one]
  rfl

omit hj hlt in
/-- The weights that the step makes. -/
theorem step_weight (r p : Fin 1024) : res_main_while0b_v285 V0 (ix2 r p) = norm (fun q => res_main_while0b_v279 V0 (ix2 r q)) p := by
  pointwise [res_main_while0b_v285]
  rfl

/-- The estimates after the step: the step's at its number, the others as before. -/
theorem step_ests (t : Fin 50) (r : Fin 1024) : (step_main_v141_6 V0 : FVec Ideal S50x1024x1 .f32) (ix3 t r 0)
    = if t.val = j then ∑ p : Fin 1024, wNew V0 (ix2 r p) * pNew V0 (ix3 r p 0) else estsOf V0 (ix3 t r 0) := by
  refine (updateEsts hlt (estsOf V0) _ (fun k => (((![numOf V0, constantI S_ 32 0#32, constantI S_ 32 0#32] : Fin 3 → (⟨S_, .i32⟩ : BufTy).Contents (Elt Ideal))) k (Shape.Idx.first h_S_)).toInt)
    (by rw [hj]; rfl) rfl rfl t r 0).trans ?_
  congr 1
  pointwise [wNew, pNew]

/-- The effective sample sizes after the step: the step's at its number, the others as before. -/
theorem step_esss (t : Fin 50) (r : Fin 1024) : (step_main_v141_7 V0 : FVec Ideal S50x1024 .f32) (ix2 t r)
    = if t.val = j then Ideal.div 1 (∑ p : Fin 1024, wNew V0 (ix2 r p) * wNew V0 (ix2 r p)) else esssOf V0 (ix2 t r) := by
  refine (updateEsss hlt (esssOf V0) _ (fun k => (((![numOf V0, constantI S_ 32 0#32] : Fin 2 → (⟨S_, .i32⟩ : BufTy).Contents (Elt Ideal))) k (Shape.Idx.first h_S_)).toInt)
    (by rw [hj]; rfl) rfl t r).trans ?_
  congr 1
  pointwise [wNew, pNew]

end Cert.Pf
-- ==== Proof.RefEntry.lean ====
module

public import proofs.«01_k».proof.Proof.RefStep
public import Idealize.ShloMosaic.Lib.StableHlo.ReadAt

@[expose] public section

noncomputable section

namespace Cert.Pf

open Idealize.ShloMosaic Cert.ReferenceIdeal Cert.ReferenceIdeal.Gen Cert.ReferenceIdeal.Value Idealize.ShloMosaic.Scf Idealize.ShloMosaic.StableHlo

/-! # The reference before its loop -/

variable (V : Valuation τ sig (Elt Ideal))

/-- The seed's key and the counters of its two rows. -/
theorem before_split0 : (StableHlo.after hostOps0 V (Proc.devRef .tc main_v8) : IVec S_ 32) ix0 = 0#32
    ∧ (StableHlo.after hostOps0 V (Proc.devRef .tc main_v10) : IVec S_ 32) ix0 = 42#32
    ∧ (∀ q : Fin 2, (StableHlo.after hostOps0 V (Proc.devRef .tc main_v11) : IVec S2 32) (ix1 q) = 0#32)
    ∧ (∀ q : Fin 2, (StableHlo.after hostOps0 V (Proc.devRef .tc main_v12) : IVec S2 32) (ix1 q) = BitVec.ofNat 32 q.val) := by
  after_reads_simp
  refine ⟨?_, ?_, fun q => ?_, fun q => ?_⟩
  · pointwise
    rfl
  · pointwise
    after_reads_simp
    rfl
  · pointwise
  · pointwise

/-- The first split is the cipher. -/
theorem split0 : (StableHlo.after hostOps0_1 V (Proc.devRef .tc main_v13_0), StableHlo.after hostOps0_1 V (Proc.devRef .tc main_v13_1))
    = hcipher bcast_S_S2 (V (Proc.devRef .tc main_v8)) (V (Proc.devRef .tc main_v10)) (V (Proc.devRef .tc main_v11)) (V (Proc.devRef .tc main_v12)) := by
  after_reads_simp
  simp only [hcipher, hrndA, hrndB, hrnd, hinj, hkey3]
  simp only [StableHlo.TRef.toBuf, StableHlo.TRef.ofBuf, cast_cast, cast_eq]

/-- The words of the first particles are the cipher. -/
theorem draw0 : (StableHlo.after hostOps0_3 V (Proc.devRef .tc main_v40_0), StableHlo.after hostOps0_3 V (Proc.devRef .tc main_v40_1))
    = hcipher bcast_S_S1024x1024x1 (V (Proc.devRef .tc main_v22)) (V (Proc.devRef .tc main_v24)) (V (Proc.devRef .tc main_v39)) (V (Proc.devRef .tc main_v38)) := by
  after_reads_simp
  simp only [hcipher, hrndA, hrndB, hrnd, hinj, hkey3]
  simp only [StableHlo.TRef.toBuf, StableHlo.TRef.ofBuf, cast_cast, cast_eq]

/-- The second split is the cipher. -/
theorem split1 : (StableHlo.after hostOps0_7 V (Proc.devRef .tc main_v134_0), StableHlo.after hostOps0_7 V (Proc.devRef .tc main_v134_1))
    = hcipher bcast_S_S50 (V (Proc.devRef .tc main_v129)) (V (Proc.devRef .tc main_v131)) (V (Proc.devRef .tc main_v132)) (V (Proc.devRef .tc main_v133)) := by
  after_reads_simp
  simp only [hcipher, hrndA, hrndB, hrnd, hinj, hkey3]
  simp only [StableHlo.TRef.toBuf, StableHlo.TRef.ofBuf, cast_cast, cast_eq]

/-- The keys after the first split. -/
theorem after_split0 : (StableHlo.after hostOps0_2 V (Proc.devRef .tc main_v22) : IVec S_ 32) ix0 = (V (Proc.devRef .tc main_v13_0) : IVec S2 32) (ix1 0)
    ∧ (StableHlo.after hostOps0_2 V (Proc.devRef .tc main_v24) : IVec S_ 32) ix0 = (V (Proc.devRef .tc main_v13_1) : IVec S2 32) (ix1 0)
    ∧ (StableHlo.after hostOps0_2 V (Proc.devRef .tc main_v20) : IVec S2 32) (ix1 0) = (V (Proc.devRef .tc main_v13_0) : IVec S2 32) (ix1 1)
    ∧ (StableHlo.after hostOps0_2 V (Proc.devRef .tc main_v20) : IVec S2 32) (ix1 1) = (V (Proc.devRef .tc main_v13_1) : IVec S2 32) (ix1 1) := by
  after_reads_simp
  refine ⟨?_, ?_, ?_, ?_⟩
  all_goals
    pointwise
    after_reads_simp
    pointwise

/-- The counters of the first particles. -/
theorem counters0 (r p : Fin 1024) : (StableHlo.after hostOps0_2 V (Proc.devRef .tc main_v39) : IVec S1024x1024x1 32) (ix3 r p 0) = 0#32
    ∧ (StableHlo.after hostOps0_2 V (Proc.devRef .tc main_v38) : IVec S1024x1024x1 32) (ix3 r p 0) = BitVec.ofNat 32 (r.val * 1024 + p.val) := by
  after_reads_simp
  refine ⟨?_, ?_⟩
  · pointwise
    apply BitVec.eq_of_toNat_eq
    simp [IntOp.addi, IntOp.muli, IntOp.shrui]
    omega
  · pointwise
    apply BitVec.eq_of_toNat_eq
    simp [IntOp.addi, IntOp.muli]
    omega

/-- The first particles, from their words. -/
theorem start_at (i : S1024x1024x1.Idx) :
    (StableHlo.after hostOps0_6 (StableHlo.after hostOps0_5 (StableHlo.after hostOps0_4 V)) (Proc.devRef .tc main_v123) : FVec Ideal S1024x1024x1 .f32) i
    = (Ideal.sqrt (c32 0x40000000#32) * ierf (max (c32 0xBF7FFFFF#32) (unif (BitVec.xor ((V (Proc.devRef .tc main_v40_0) : IVec S1024x1024x1 32) i) ((V (Proc.devRef .tc main_v40_1) : IVec S1024x1024x1 32) i)))))
      * Ideal.sqrt (c32 0x40A00000#32) := by
  after_reads_simp
  rfl

/-- The key and the counters of the second split. -/
theorem before_split1 (W : Valuation τ sig (Elt Ideal))
    (hW : W = StableHlo.after hostOps0_6 (StableHlo.after hostOps0_5 (StableHlo.after hostOps0_4 (StableHlo.after hostOps0_3 V)))) :
    (W (Proc.devRef .tc main_v129) : IVec S_ 32) ix0 = (V (Proc.devRef .tc main_v20) : IVec S2 32) (ix1 0)
    ∧ (W (Proc.devRef .tc main_v131) : IVec S_ 32) ix0 = (V (Proc.devRef .tc main_v20) : IVec S2 32) (ix1 1)
    ∧ (∀ q : Fin 50, (W (Proc.devRef .tc main_v132) : IVec S50 32) (ix1 q) = 0#32)
    ∧ (∀ q : Fin 50, (W (Proc.devRef .tc main_v133) : IVec S50 32) (ix1 q) = BitVec.ofNat 32 q.val) := by
  subst hW
  after_reads_simp
  refine ⟨?_, ?_, fun q => ?_, fun q => ?_⟩
  all_goals pointwise

/-- The loop's list of the steps' numbers. -/
theorem times_at (q : Fin 50) : (StableHlo.after hostOps0_8 (StableHlo.after hostOps0_7 (StableHlo.after hostOps0_6 V)) (Proc.devRef .tc main_v141_0) : FVec Ideal S50 .f32) (ix1 q)
    = (((BitVec.ofNat 32 q.val).toInt : ℝ) : EReal) := by
  after_reads_simp
  pointwise
  rfl

/-- The loop's first weights. -/
theorem weight_at (r p : Fin 1024) : (StableHlo.after hostOps0_8 (StableHlo.after hostOps0_7 (StableHlo.after hostOps0_6 V)) (Proc.devRef .tc main_v141_5) : FVec Ideal S1024x1024 .f32) (ix2 r p)
    = Ideal.div (c32 0x3F800000#32) (c32 0x44800000#32) := by
  after_reads_simp
  rfl

/-- The loop's keys. -/
theorem keys_at (q : Fin 50) : (StableHlo.after hostOps0_8 V (Proc.devRef .tc main_v141_2) : IVec S50x2 32) (ix2 q 0) = (V (Proc.devRef .tc main_v134_0) : IVec S50 32) (ix1 q)
    ∧ (StableHlo.after hostOps0_8 V (Proc.devRef .tc main_v141_2) : IVec S50x2 32) (ix2 q 1) = (V (Proc.devRef .tc main_v134_1) : IVec S50 32) (ix1 q) := by
  after_reads_simp
  refine ⟨?_, ?_⟩
  all_goals
    simp only [id_eq]
    pointwise
    after_reads_simp
    pointwise

/-- The loop's first particles. -/
theorem part_in : StableHlo.after hostOps0_8 (StableHlo.after hostOps0_7 V) (Proc.devRef .tc main_v141_4) = V (Proc.devRef .tc main_v123) := by
  after_reads_simp
  rfl

/-- The loop's observations. -/
theorem obs_at (t : Fin 50) (r : Fin 1024) :
    (StableHlo.after hostOps0_8 (StableHlo.after hostOps0_7 (StableHlo.after hostOps0_6 (StableHlo.after hostOps0_5 (StableHlo.after hostOps0_4 (StableHlo.after hostOps0_3
      (StableHlo.after hostOps0_2 (StableHlo.after hostOps0_1 (StableHlo.after hostOps0 V)))))))) (Proc.devRef .tc main_v141_1) : FVec Ideal S50x1024x1 .f32) (ix3 t r 0)
    = (V (Proc.devRef .tc main_arg0) : FVec Ideal S1024x50x1 .f32) (ix3 r t 0) := by
  after_reads_simp
  show transpose S50x1024x1 [1, 0, 2] (V (Proc.devRef .tc main_arg0) : FVec Ideal S1024x50x1 .f32) transposes_S1024x50x1_S50x1024x1_1_0_2 (ix3 t r 0) = _
  pointwise

/-! ## The entry of the loop -/

/-- Root two times root five is root ten. -/
theorem root2_root5 (x : EReal) : (Ideal.sqrt (c32 0x40000000#32) * x) * Ideal.sqrt (c32 0x40A00000#32) = root10 * x := by
  have h5 : c32 0x40A00000#32 = ((5 : ℝ) : EReal) := by simp [c32, Ideal.ofBits, Ideal.ieee, -EReal.coe_mul]; norm_num
  rw [sqrt_two, h5, sqrt_coe (by norm_num), mul_right_comm, root2, root10, ← EReal.coe_mul, ← Real.sqrt_mul (by norm_num)]
  norm_num

/-- One over 1024. -/
theorem weight0 : Ideal.div (c32 0x3F800000#32) (c32 0x44800000#32) = ((1 / 1024 : ℝ) : EReal) := by
  have h : c32 0x44800000#32 = ((1024 : ℝ) : EReal) := by simp [c32, Ideal.ofBits, Ideal.ieee, -EReal.coe_mul]; norm_num
  rw [h, c32_one, Ideal.div_coe (by norm_num), one_mul]

/-- The words of the two keys. -/
theorem keys0 (q : Fin 2) :
    (StableHlo.after hostOps0_1 (StableHlo.after hostOps0 V) (Proc.devRef .tc main_v13_0) : IVec S2 32) (ix1 q) = (cipher 0#32 42#32 0#32 (BitVec.ofNat 32 q.val)).1
    ∧ (StableHlo.after hostOps0_1 (StableHlo.after hostOps0 V) (Proc.devRef .tc main_v13_1) : IVec S2 32) (ix1 q) = (cipher 0#32 42#32 0#32 (BitVec.ofNat 32 q.val)).2 := by
  obtain ⟨h8, h10, h11, h12⟩ := before_split0 V
  have e := congrArg (ev · (ix1 q)) (split0 (StableHlo.after hostOps0 V))
  simp only [hcipher_ev] at e
  rw [h8, h10, h11 q, h12 q] at e
  exact ⟨congrArg Prod.fst e, congrArg Prod.snd e⟩

/-- The words of the first particles. -/
theorem words0 (W : Valuation τ sig (Elt Ideal)) (hW : W = StableHlo.after hostOps0_2 (StableHlo.after hostOps0_1 (StableHlo.after hostOps0 V))) (r p : Fin 1024) :
    BitVec.xor ((StableHlo.after hostOps0_3 W (Proc.devRef .tc main_v40_0) : IVec S1024x1024x1 32) (ix3 r p 0))
      ((StableHlo.after hostOps0_3 W (Proc.devRef .tc main_v40_1) : IVec S1024x1024x1 32) (ix3 r p 0)) = draw key0 (r.val * 1024 + p.val) := by
  obtain ⟨h22, h24, -, -⟩ := after_split0 (StableHlo.after hostOps0_1 (StableHlo.after hostOps0 V))
  obtain ⟨k0, k1⟩ := keys0 V 0
  obtain ⟨c0, c1⟩ := counters0 (StableHlo.after hostOps0_1 (StableHlo.after hostOps0 V)) r p
  have e := congrArg (ev · (ix3 r p 0)) (draw0 W)
  simp only [hcipher_ev] at e
  rw [hW, h22, h24, k0, k1, c0, c1, ← hW] at e
  exact congrArg (fun x => x.1 ^^^ x.2) e

/-- The words of the steps' keys. -/
theorem keys1 (W : Valuation τ sig (Elt Ideal)) (hW : W = StableHlo.after hostOps0_6 (StableHlo.after hostOps0_5 (StableHlo.after hostOps0_4 (StableHlo.after hostOps0_3
      (StableHlo.after hostOps0_2 (StableHlo.after hostOps0_1 (StableHlo.after hostOps0 V))))))) (q : Fin 50) :
    (StableHlo.after hostOps0_7 W (Proc.devRef .tc main_v134_0) : IVec S50 32) (ix1 q) = (keyAt q.val).1
    ∧ (StableHlo.after hostOps0_7 W (Proc.devRef .tc main_v134_1) : IVec S50 32) (ix1 q) = (keyAt q.val).2 := by
  obtain ⟨h0, h1, h2, h3⟩ := before_split1 _ W hW
  obtain ⟨-, -, g0, g1⟩ := after_split0 (StableHlo.after hostOps0_1 (StableHlo.after hostOps0 V))
  obtain ⟨k0, k1⟩ := keys0 V 1
  have e := congrArg (ev · (ix1 q)) (split1 W)
  simp only [hcipher_ev] at e
  rw [h0, h1, h2 q, h3 q, g0, g1, k0, k1] at e
  exact ⟨congrArg Prod.fst e, congrArg Prod.snd e⟩

variable (m : (ℓ : Loc nD τ sig) → Buf (Elt Ideal) ℓ) (c : Dev nD)

/-- The contents at the loop's entry, group by group. -/
theorem entry_eq : entryContents preI m c = StableHlo.after hostOps0_8 (StableHlo.after hostOps0_7 (StableHlo.after hostOps0_6 (StableHlo.after hostOps0_5 (StableHlo.after hostOps0_4 (StableHlo.after hostOps0_3
      (StableHlo.after hostOps0_2 (StableHlo.after hostOps0_1 (StableHlo.after hostOps0 fun b => m (c, b))))))))) := by
  simp only [entryContents, afterL_cons, afterL_nil]

/-- The steps' numbers at the loop's entry. -/
theorem entry_times (t : Fin 50) : timesOf (entryContents preI m c) (ix1 t) = (((BitVec.ofNat 32 t.val).toInt : ℝ) : EReal) := by
  rw [entry_eq]
  exact times_at _ t

/-- The weights at the loop's entry. -/
theorem entry_weight (r p : Fin 1024) : weightOf (entryContents preI m c) (ix2 r p) = ((1 / 1024 : ℝ) : EReal) := by
  rw [entry_eq, ← weight0]
  exact weight_at _ r p

/-- The keys at the loop's entry. -/
theorem entry_keys (t : Fin 50) : keysOf (entryContents preI m c) (ix2 t 0) = (keyAt t.val).1 ∧ keysOf (entryContents preI m c) (ix2 t 1) = (keyAt t.val).2 := by
  obtain ⟨h0, h1⟩ := keys1 (fun b => m (c, b)) _ rfl t
  rw [entry_eq]
  exact ⟨(keys_at _ t).1.trans h0, (keys_at _ t).2.trans h1⟩

/-- The observations at the loop's entry. -/
theorem entry_obs (t : Fin 50) (r : Fin 1024) :
    obsOf (entryContents preI m c) (ix3 t r 0) = (m ((c.tc : Thread nD τ).loc main_arg0) : FVec Ideal S1024x50x1 .f32) (ix3 r t 0) := by
  rw [entry_eq]
  exact obs_at _ t r

/-- The particles at the loop's entry. -/
theorem entry_part (r p : Fin 1024) : partOf (entryContents preI m c) (ix3 r p 0) = part 0 r p := by
  have e := words0 (fun b => m (c, b)) _ rfl r p
  have h := start_at (StableHlo.after hostOps0_3 (StableHlo.after hostOps0_2 (StableHlo.after hostOps0_1 (StableHlo.after hostOps0 fun b => m (c, b))))) (ix3 r p 0)
  rw [e, max_unif, root2_root5] at h
  rw [entry_eq, partOf, part_in]
  exact h

/-- The step's number at the loop's entry. -/
theorem entry_num : numOf (entryContents preI m c) = constantI S_ 32 (BitVec.ofNat 32 0) := ctr_entry m c

end Cert.Pf
-- ==== Proof.RefRun.lean ====
module

public import proofs.«01_k».proof.Proof.RefEntry

@[expose] public section

noncomputable section

namespace Cert.Pf

open Idealize.ShloMosaic Cert.ReferenceIdeal Cert.ReferenceIdeal.Gen Cert.ReferenceIdeal.Value Idealize.ShloMosaic.StableHlo

/-! # The reference's results are the filter's numbers -/

/-- The observations of each row, by step. -/
def obsIn (a : FVec Ideal S1024x50x1 .f32) (r : Fin 1024) (t : ℕ) : EReal := if h : t < 50 then a (ix3 r ⟨t, h⟩ 0) else 0

variable (m : (ℓ : Loc nD τ sig) → Buf (Elt Ideal) ℓ) (c : Dev nD)

/-- What holds of the loop's arrays after `k` steps. -/
structure After (k : ℕ) (V : Valuation τ sig (Elt Ideal)) (obs : Fin 1024 → ℕ → EReal) : Prop where
  times : ∀ t : Fin 50, timesOf V (ix1 t) = (((BitVec.ofNat 32 t.val).toInt : ℝ) : EReal)
  obsv : ∀ (t : Fin 50) (r : Fin 1024), obsOf V (ix3 t r 0) = obs r t.val
  key0 : ∀ t : Fin 50, keysOf V (ix2 t 0) = (keyAt t.val).1
  key1 : ∀ t : Fin 50, keysOf V (ix2 t 1) = (keyAt t.val).2
  num : numOf V = constantI S_ 32 (BitVec.ofNat 32 k)
  parts : ∀ r p : Fin 1024, partOf V (ix3 r p 0) = part k r p
  weights : ∀ r p : Fin 1024, weightOf V (ix2 r p) = weight obs k r p
  ests : ∀ (t : Fin 50) (r : Fin 1024), t.val < k → estsOf V (ix3 t r 0) = est obs t.val r
  esss : ∀ (t : Fin 50) (r : Fin 1024), t.val < k → esssOf V (ix2 t r) = ess obs t.val r

/-- The facts hold at the loop's entry. -/
theorem after_zero : After 0 (entryContents preI m c) (obsIn (m ((c.tc : Thread nD τ).loc main_arg0))) where
  times := entry_times m c
  obsv t r := by rw [entry_obs, obsIn, dif_pos t.isLt]
  key0 t := (entry_keys m c t).1
  key1 t := (entry_keys m c t).2
  num := entry_num m c
  parts := entry_part m c
  weights := entry_weight m c
  ests t r h := absurd h (Nat.not_lt_zero _)
  esss t r h := absurd h (Nat.not_lt_zero _)

/-- One step keeps the facts. -/
theorem After.step {k : ℕ} (hk : k < 50) {V : Valuation τ sig (Elt Ideal)} {obs : Fin 1024 → ℕ → EReal} (h : After k V obs) : After (k + 1) (STEP V) obs := by
  have hp : ∀ r p : Fin 1024, res_main_while0b_v263 V (ix3 r p 0) = part (k + 1) r p := fun r p => by
    rw [step_part h.num hk (keyAt k) (h.key0 ⟨k, hk⟩) (h.key1 ⟨k, hk⟩) (h.times ⟨k, hk⟩), h.parts]
    rfl
  have hw : ∀ r p : Fin 1024, res_main_while0b_v285 V (ix2 r p) = weight obs (k + 1) r p := fun r p => by
    rw [step_weight]
    have e : (fun q => res_main_while0b_v279 V (ix2 r q)) = raw (weight obs k r) (part (k + 1) r) (obs r k) := funext fun q => by
      rw [step_raw h.num hk, hp, h.weights, h.obsv]
      rfl
    rw [e]
    rfl
  exact {
    times := fun t => (congrFun (STEP_main_v141_0 V) (ix1 t)).trans (h.times t)
    obsv := fun t r => (congrFun (STEP_main_v141_1 V) (ix3 t r 0)).trans (h.obsv t r)
    key0 := fun t => (congrFun (STEP_main_v141_2 V) (ix2 t 0)).trans (h.key0 t)
    key1 := fun t => (congrFun (STEP_main_v141_2 V) (ix2 t 1)).trans (h.key1 t)
    num := by
      refine (STEP_main_v141_3 V).trans ?_
      show addi (numOf V) (constantI S_ 32 1#32) = _
      rw [h.num]
      funext i
      show BitVec.ofNat 32 k + 1#32 = BitVec.ofNat 32 (k + 1)
      rw [BitVec.ofNat_add]
    parts := fun r p => (congrFun (STEP_main_v141_4 V) (ix3 r p 0)).trans (hp r p)
    weights := fun r p => (congrFun (STEP_main_v141_5 V) (ix2 r p)).trans (hw r p)
    ests := fun t r ht => by
      refine (congrFun (STEP_main_v141_6 V) (ix3 t r 0)).trans ((step_ests h.num hk t r).trans ?_)
      by_cases e : t.val = k
      · rw [if_pos e, e]
        show (∑ p : Fin 1024, wNew V (ix2 r p) * pNew V (ix3 r p 0)) = ∑ p : Fin 1024, weight obs (k + 1) r p * part (k + 1) r p
        exact Finset.sum_congr rfl fun p _ => by rw [pNew, wNew, hp, hw]
      · rw [if_neg e]
        exact h.ests t r (by omega)
    esss := fun t r ht => by
      refine (congrFun (STEP_main_v141_7 V) (ix2 t r)).trans ((step_esss h.num hk t r).trans ?_)
      by_cases e : t.val = k
      · rw [if_pos e, e]
        show Ideal.div 1 (∑ p : Fin 1024, wNew V (ix2 r p) * wNew V (ix2 r p)) = Ideal.div 1 (∑ p : Fin 1024, weight obs (k + 1) r p * weight obs (k + 1) r p)
        congr 1
        exact Finset.sum_congr rfl fun p _ => by rw [wNew, hw]
      · rw [if_neg e]
        exact h.esss t r (by omega) }

/-- The facts hold after `k` steps. -/
theorem after_iter : ∀ k ≤ 50, After k (STEP^[k] (entryContents preI m c)) (obsIn (m ((c.tc : Thread nD τ).loc main_arg0)))
  | 0, _ => after_zero m c
  | k + 1, h => by
    rw [Function.iterate_succ_apply']
    exact (after_iter k (by omega)).step (by omega)

/-- The array of the estimates. -/
def estArr (a : FVec Ideal S1024x50x1 .f32) : FVec Ideal S1024x50x1 .f32 := fun i => est (obsIn a) (i 1).val (i 0)

/-- The array of the effective sample sizes. -/
def essArr (a : FVec Ideal S1024x50x1 .f32) : FVec Ideal S1024x50 .f32 := fun i => ess (obsIn a) (i 1).val (i 0)

/-- The reference's first result. -/
theorem ref_est : out_main_v142 (STEP^[50] (entryContents preI m c)) = estArr (m ((c.tc : Thread nD τ).loc main_arg0)) := by
  refine funext fun i => ?_
  obtain ⟨r, t, z, rfl⟩ : ∃ r t z, i = ix3 r t z := ⟨i 0, i 1, i 2, by funext a; match a with | ⟨0, _⟩ => rfl | ⟨1, _⟩ => rfl | ⟨2, _⟩ => rfl⟩
  obtain rfl : z = 0 := Subsingleton.elim _ _
  refine Eq.trans ?_ ((after_iter m c 50 le_rfl).ests t r t.isLt)
  unfold out_main_v142
  pointwise
  rfl

/-- The reference's second result. -/
theorem ref_ess : out_main_v143 (STEP^[50] (entryContents preI m c)) = essArr (m ((c.tc : Thread nD τ).loc main_arg0)) := by
  refine funext fun i => ?_
  obtain ⟨r, t, rfl⟩ : ∃ r t, i = ix2 r t := ⟨i 0, i 1, by funext a; match a with | ⟨0, _⟩ => rfl | ⟨1, _⟩ => rfl⟩
  refine Eq.trans ?_ ((after_iter m c 50 le_rfl).esss t r t.isLt)
  unfold out_main_v143
  pointwise
  rfl

/-- Every run of the reference ends with the filter's numbers and its argument as it was. -/
theorem ref_run (ρ : Dev nD → PrngReg) : θ_run (defs (F := Ideal)) (onTc (τ := τ) (main (F := Ideal))) ⟨m, fun _ => 0, ρ⟩ fun r => ∀ c : Dev nD,
      r.2.mem ((c.tc : Thread nD τ).loc main_v142) = estArr (m ((c.tc : Thread nD τ).loc main_arg0))
      ∧ r.2.mem ((c.tc : Thread nD τ).loc main_v143) = essArr (m ((c.tc : Thread nD τ).loc main_arg0))
      ∧ r.2.mem ((c.tc : Thread nD τ).loc main_arg0) = m ((c.tc : Thread nD τ).loc main_arg0) :=
  (θ_run defs _ _).mono (fun _ h c => ⟨(h c).1.trans (ref_est m c), (h c).2.1.trans (ref_ess m c), (h c).2.2⟩) (run m ρ)

end Cert.Pf
-- ==== Proof.KRun.lean ====
module

public import proofs.«01_k».proof.Proof.KPoint
public import proofs.«01_k».proof.Proof.RefRun

@[expose] public section

noncomputable section

namespace Cert.Pf.K

open Idealize.ShloMosaic Idealize.ShloMosaic.TcCoe Cert.KernelIdeal Cert.KernelIdeal.Gen Idealize.ShloMosaic.StableHlo

/-! # The kernel's results are the filter's numbers -/

section Tail

variable (W : Valuation τ sig (Elt Ideal))

/-- The lines after the launch put the estimates' array, its first and last axes exchanged, in the first result. -/
theorem tail_est (r : Fin 1024) (t : Fin 50) :
    (StableHlo.after hostOps1 W (Proc.devRef .tc main_v26) : FVec Ideal S1024x50x1 .f32) (ix3 r t 0)
      = (W (Proc.devRef .tc main_v23_0) : FVec Ideal S50x1x1024 .f32) (ix3 t 0 r) := by
  after_reads_simp
  pointwise

/-- The lines after the launch put the effective sample sizes' array, turned, in the second result. -/
theorem tail_ess (r : Fin 1024) (t : Fin 50) :
    (StableHlo.after hostOps1 W (Proc.devRef .tc main_v28) : FVec Ideal S1024x50 .f32) (ix2 r t)
      = (W (Proc.devRef .tc main_v23_1) : FVec Ideal S50x1x1024 .f32) (ix3 t 0 r) := by
  after_reads_simp
  pointwise

end Tail

variable (m : (ℓ : Loc nD τ sig) → Buf (Elt Ideal) ℓ) (c : Dev nD)

/-- The observations the kernel's windows hold are the argument's. -/
theorem V_obsIn (r : Fin 1024) (t : Fin 50) :
    (Gen.V m c main_v22 : FVec Ideal S1024x50 .f32) (ix2 r t) = obsIn (m ((c : Thread nD τ).loc main_arg0)) r t.val := by
  rw [V_obs, obsIn, dif_pos t.isLt]

/-- No two windows share an array. -/
theorem arrRef_inj : Function.Injective (Pipeline.arrRef (cfgs 0).spec) := by decide

/-- The first result holds the estimates. -/
theorem tail_v26 : (Pipeline.afterTail₀ cfgs (dats m) 0 (V0 m) [hostOps1] c main_v26 : FVec Ideal S1024x50x1 .f32)
    = estArr (m ((c : Thread nD τ).loc main_arg0)) := by
  funext i
  have hz : (i 2).val < 1 := (i 2).isLt
  have hi : i = ix3 (i 0 : Fin 1024) (i 1 : Fin 50) (0 : Fin 1) := by
    funext a
    match a with
    | ⟨0, _⟩ => rfl
    | ⟨1, _⟩ => rfl
    | ⟨2, _⟩ => exact Fin.ext (show (i 2).val = 0 by omega)
  rw [hi]
  refine (tail_est _ (i 0) (i 1)).trans ?_
  refine (congrFun (Pipeline.withArrays_arr (cfgs 0).spec arrRef_inj c (V0 m c) (fun w => (dats m 0 c).arrAt w (cfgs 0).N) 3) _).trans ?_
  exact congrFun (arr3 m c (obsIn (m ((c : Thread nD τ).loc main_arg0))) (V_obsIn m c)) _

/-- The second result holds the effective sample sizes. -/
theorem tail_v28 : (Pipeline.afterTail₀ cfgs (dats m) 0 (V0 m) [hostOps1] c main_v28 : FVec Ideal S1024x50 .f32)
    = essArr (m ((c : Thread nD τ).loc main_arg0)) := by
  funext i
  have hi : i = ix2 (i 0 : Fin 1024) (i 1 : Fin 50) := by
    funext a
    match a with
    | ⟨0, _⟩ => rfl
    | ⟨1, _⟩ => rfl
  rw [hi]
  refine (tail_ess _ (i 0) (i 1)).trans ?_
  refine (congrFun (Pipeline.withArrays_arr (cfgs 0).spec arrRef_inj c (V0 m c) (fun w => (dats m 0 c).arrAt w (cfgs 0).N) 4) _).trans ?_
  exact congrFun (arr4 m c (obsIn (m ((c : Thread nD τ).loc main_arg0))) (V_obsIn m c)) _

/-- The kernel's program runs, its two results end with the filter's estimates and effective sample sizes of its argument,
    and its argument ends unchanged. -/
theorem kernel_run (ρ : Dev nD → PrngReg) : θ_run (defs (F := Ideal)) (onTc (τ := τ) (main (F := Ideal))) ⟨m, fun _ => 0, ρ⟩ fun r => ∀ c : Dev nD,
      r.2.mem ((c.tc : Thread nD τ).loc main_v26) = estArr (m ((c.tc : Thread nD τ).loc main_arg0))
      ∧ r.2.mem ((c.tc : Thread nD τ).loc main_v28) = essArr (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v26 (Pipeline.mem_restRefs_of main_v26 (by decide) (by decide))).trans (tail_v26 m c),
      ((h c).2 main_v28 (Pipeline.mem_restRefs_of main_v28 (by decide) (by decide))).trans (tail_v28 m c),
      ((h c).2 main_arg0 (Pipeline.mem_restRefs_of main_arg0 (by decide) (by decide))).trans (W_main_arg0 m (dats m) c)⟩) (run_main m ρ)

end Cert.Pf.K
-- ==== Proof.lean ====
module

public import proofs.«01_k».proof.Defs
public import proofs.«01_k».proof.Proof.Gen.Kernel.Frame
public import proofs.«01_k».proof.Proof.KRun
public import Idealize.ShloMosaic.Lib.Quiescent

@[expose] public section

noncomputable section

namespace Cert.Proof

open Idealize.ShloMosaic Idealize.SL.Sem

/-! # The certificate: both programs compute the particle filter of `Cert.Pf` -/

/-- The kernel runs and leaves its argument and every counter as they were. -/
theorem frame_kernel : Cert.quiescent_Kernel (hKernel := Cert.Kernel.Gen.facts) := fun m ρ _ => Cert.Kernel.Gen.frame m ρ

/-- So does its idealization. -/
theorem frame_kernelIdeal : Cert.quiescent_KernelIdeal (hKernelIdeal := Cert.KernelIdeal.Gen.facts) :=
  fun m ρ _ => Cert.KernelIdeal.Gen.frame m ρ

/-- So does the reference, which has no counter at all. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩) (Cert.Pf.ref_run m ρ)

/-- The three named constants stand for the numbers their words round. -/
theorem preserves : Cert.preserves_Kernel_KernelIdeal :=
  ⟨IdealRules.named_const.statement Cert.KernelIdeal.κ "root10" .f32 0x404A62C2#32 ((Real.sqrt 10 : ℝ) : EReal) rfl,
    IdealRules.named_const.statement Cert.KernelIdeal.κ "root2" .f32 0x3FB504F3#32 ((Real.sqrt 2 : ℝ) : EReal) rfl,
    IdealRules.named_const.statement Cert.KernelIdeal.κ "twentieth" .f32 0x3D4CCCCD#32 ((1 / 20 : ℝ) : EReal) rfl⟩

/-- From the same observations the kernel's and the reference's two results are equal: each holds the filter's estimates and
    its effective sample sizes. -/
theorem algebraic : Cert.algebraic_KernelIdeal_ReferenceIdeal (hKernelIdeal := Cert.KernelIdeal.Gen.facts)
    (hReferenceIdeal := Cert.ReferenceIdeal.Gen.facts) := by
  intro m ρ m' ρ' _ hm
  refine ⟨fun c => Cert.Pf.estArr (m ((c.tc : Thread Cert.KernelIdeal.nD Cert.KernelIdeal.τ).loc Cert.KernelIdeal.main_arg0)),
    fun c => Cert.Pf.essArr (m ((c.tc : Thread Cert.KernelIdeal.nD Cert.KernelIdeal.τ).loc Cert.KernelIdeal.main_arg0)),
    Cert.Pf.K.kernel_run m ρ, (θ_run Cert.ReferenceIdeal.defs _ _).mono (fun r h c => ?_) (Cert.Pf.ref_run m' ρ')⟩
  exact ⟨(h c).1.trans (congrArg Cert.Pf.estArr (hm c)), (h c).2.1.trans (congrArg Cert.Pf.essArr (hm c)), (h c).2.2⟩

/-- Everything the certificate claims. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
